-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread_covers [hPre_spread_covers : Cert.Pre_spread_covers.Facts] (m : (ℓ : Loc Cert.KernelIdeal.nD Cert.KernelIdeal.τ Cert.KernelIdeal.sig) → Buf (Elt Ideal) ℓ) : Prop :=
  ∀ c : Dev Cert.KernelIdeal.nD,
    (Cert.Pre_spread_covers.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread_covers [hPre_spread_covers : Cert.Pre_spread_covers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread_covers.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_spread_covers [hKernelIdeal : Cert.KernelIdeal.Facts] [hPre_spread_covers : Cert.Pre_spread_covers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread_covers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_spread_covers [hReferenceIdeal : Cert.ReferenceIdeal.Facts] [hPre_spread_covers : Cert.Pre_spread_covers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread_covers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S2x64x2x128 Cert.KernelIdeal.S2x64x1x128
  ∧ IdealRules.bf16_pair.PackStatement Cert.KernelIdeal.S8x128
  ∧ IdealRules.bf16_pair.Statement Cert.KernelIdeal.S16x128 Cert.KernelIdeal.S8x128
  ∧ IdealRules.bf16_pair.Statement Cert.KernelIdeal.S1x8x2x128 Cert.KernelIdeal.S1x8x1x128

def algebraic_KernelIdeal_ReferenceIdeal_pre_spread_covers [hKernelIdeal : Cert.KernelIdeal.Facts] [hReferenceIdeal : Cert.ReferenceIdeal.Facts] [hPre_spread_covers : Cert.Pre_spread_covers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread_covers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_v49) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_spread_covers : Cert.Pre_spread_covers.Facts),
    quiescent_Kernel (hKernel := hKernel)
    ∧ quiescent_KernelIdeal (hKernelIdeal := hKernelIdeal)
    ∧ quiescent_KernelIdeal_pre_spread_covers (hKernelIdeal := hKernelIdeal) (hPre_spread_covers := hPre_spread_covers)
    ∧ quiescent_ReferenceIdeal (hReferenceIdeal := hReferenceIdeal)
    ∧ quiescent_ReferenceIdeal_pre_spread_covers (hReferenceIdeal := hReferenceIdeal) (hPre_spread_covers := hPre_spread_covers)
    ∧ preserves_Kernel_KernelIdeal
    ∧ algebraic_KernelIdeal_ReferenceIdeal_pre_spread_covers (hKernelIdeal := hKernelIdeal) (hReferenceIdeal := hReferenceIdeal) (hPre_spread_covers := hPre_spread_covers)
-- ==== Pre_spread_covers.lean ====
abbrev S1x2048x12288 : Shape := ⟨3, ![1, 2048, 12288]⟩
abbrev S1x2048x192x64 : Shape := ⟨4, ![1, 2048, 192, 64]⟩
abbrev S_ : Shape := ⟨0, ![]⟩
abbrev S1x2048x192 : Shape := ⟨3, ![1, 2048, 192]⟩

class Facts : Prop where
  bitsLt_bf16_f32 : FTy.bits .bf16 < FTy.bits .f32
  shapeCasts_S1x2048x12288_S1x2048x192x64 : S1x2048x12288.ShapeCasts S1x2048x192x64
  reducesTo_S1x2048x192x64_S1x2048x192_d3 : S1x2048x192x64.ReducesTo [3] S1x2048x192
  h_S_ : 0 < S_.numel
  bcast_S_S1x2048x192 : S_.BroadcastsInDim S1x2048x192 (![] : Fin 0 → Fin S1x2048x192.rank)

variable [Facts]

def fn {F : FTy → Type} [FloatOps F] (main_arg0 : FVec F S1x2048x12288 .bf16) : IVec S1x2048x192 1 :=
  let main_v0 : FVec F S1x2048x12288 .f32 := (extf .f32 · bitsLt_bf16_f32) main_arg0
  let main_v1 : FVec F S1x2048x192x64 .f32 := shapeCast S1x2048x192x64 main_v0 shapeCasts_S1x2048x12288_S1x2048x192x64
  let main_cst : FVec F S_ .f32 := constant S_ .f32 0x7F800000#32
  let main_v2 : FVec F S1x2048x192 .f32 := (fun x v => Host.reduce FloatOps.minimumf x v reducesTo_S1x2048x192x64_S1x2048x192_d3 h_S_) main_v1 main_cst
  let main_cst_0 : FVec F S_ .f32 := constant S_ .f32 0xFF800000#32
  let main_v3 : FVec F S1x2048x192 .f32 := (fun x v => Host.reduce FloatOps.maximumf x v reducesTo_S1x2048x192x64_S1x2048x192_d3 h_S_) main_v1 main_cst_0
  let main_v4 : IVec S1x2048x192 1 := cmpf .oeq main_v3 main_v2
  let main_v5 : FVec F S1x2048x192 .f32 := Host.absf main_v3
  let main_v6 : FVec F S1x2048x192 .f32 := Host.absf main_v2
  let main_v7 : FVec F S1x2048x192 .f32 := maximumf main_v5 main_v6
  let main_v8 : FVec F S1x2048x192 .f32 := subf main_v3 main_v2
  let main_cst_1 : FVec F S_ .f32 := constant S_ .f32 0x44000000#32
  let main_v9 : FVec F S1x2048x192 .f32 := broadcastInDim S1x2048x192 ![] bcast_S_S1x2048x192 main_cst_1
  let main_v10 : FVec F S1x2048x192 .f32 := mulf main_v9 main_v8
  let main_v11 : IVec S1x2048x192 1 := cmpf .ole main_v7 main_v10
  let main_v12 : IVec S1x2048x192 1 := ori main_v4 main_v11
  main_v12
-- ==== Kernel.lean ====
abbrev S1x2048x12288 : Shape := ⟨3, ![1, 2048, 12288]⟩
abbrev S1x2048x6144 : Shape := ⟨3, ![1, 2048, 6144]⟩
abbrev S1x2048x192 : Shape := ⟨3, ![1, 2048, 192]⟩
abbrev S1536x256 : Shape := ⟨2, ![1536, 256]⟩
abbrev S1536x1 : Shape := ⟨2, ![1536, 1]⟩
abbrev S1x1 : Shape := ⟨2, ![1, 1]⟩
abbrev S1x256x12288 : Shape := ⟨3, ![1, 256, 12288]⟩
abbrev S1x256x6144 : Shape := ⟨3, ![1, 256, 6144]⟩
abbrev S1x256x192 : Shape := ⟨3, ![1, 256, 192]⟩
abbrev S256x256 : Shape := ⟨2, ![256, 256]⟩
abbrev S512x256 : Shape := ⟨2, ![512, 256]⟩
abbrev S2x64x128 : Shape := ⟨3, ![2, 64, 128]⟩
abbrev S2x8x128 : Shape := ⟨3, ![2, 8, 128]⟩
abbrev S192x256 : Shape := ⟨2, ![192, 256]⟩
abbrev S256x128 : Shape := ⟨2, ![256, 128]⟩
abbrev S1536x128 : Shape := ⟨2, ![1536, 128]⟩
abbrev S1x256x256 : Shape := ⟨3, ![1, 256, 256]⟩
abbrev S8x128 : Shape := ⟨2, ![8, 128]⟩
abbrev S16x128 : Shape := ⟨2, ![16, 128]⟩
abbrev S1x8x128 : Shape := ⟨3, ![1, 8, 128]⟩
abbrev S1x1x128 : Shape := ⟨3, ![1, 1, 128]⟩
abbrev S1x128 : Shape := ⟨2, ![1, 128]⟩
abbrev S32x128 : Shape := ⟨2, ![32, 128]⟩
abbrev S128x128 : Shape := ⟨2, ![128, 128]⟩
abbrev S1x128x128 : Shape := ⟨3, ![1, 128, 128]⟩
abbrev S256x192 : Shape := ⟨2, ![256, 192]⟩
abbrev S256x64 : Shape := ⟨2, ![256, 64]⟩
abbrev S64x128 : Shape := ⟨2, ![64, 128]⟩
abbrev S192x8x128 : Shape := ⟨3, ![192, 8, 128]⟩
abbrev S1 : Shape := ⟨1, ![1]⟩
abbrev S1x1x1 : Shape := ⟨3, ![1, 1, 1]⟩
abbrev S1536 : Shape := ⟨1, ![1536]⟩

abbrev nBuf : Space → Nat
  | .hbm => 7
  | .vmem => 24
  | .smem => 1
  | _ => 0

abbrev bufTy : (tb : Table) → Fin (tcTables nBuf tb) → BufTy
  | .hbm, ⟨0, _⟩ => ⟨S1x2048x12288, .bf16⟩
  | .hbm, ⟨1, _⟩ => ⟨S1x2048x6144, .i8⟩
  | .hbm, ⟨2, _⟩ => ⟨S1x2048x192, .f32⟩
  | .hbm, ⟨3, _⟩ => ⟨S1x2048x192, .i8⟩
  | .hbm, ⟨4, _⟩ => ⟨S1536x256, .i8⟩
  | .hbm, ⟨5, _⟩ => ⟨S1536x1, .f32⟩
  | .hbm, ⟨6, _⟩ => ⟨S1x1, .f32⟩
  | .local _ .vmem, ⟨0, _⟩ => ⟨S1x256x12288, .bf16⟩
  | .local _ .vmem, ⟨1, _⟩ => ⟨S1x256x12288, .bf16⟩
  | .local _ .vmem, ⟨2, _⟩ => ⟨S1x256x6144, .i8⟩
  | .local _ .vmem, ⟨3, _⟩ => ⟨S1x256x6144, .i8⟩
  | .local _ .vmem, ⟨4, _⟩ => ⟨S1x256x192, .f32⟩
  | .local _ .vmem, ⟨5, _⟩ => ⟨S1x256x192, .f32⟩
  | .local _ .vmem, ⟨6, _⟩ => ⟨S1x256x192, .i8⟩
  | .local _ .vmem, ⟨7, _⟩ => ⟨S1x256x192, .i8⟩
  | .local _ .vmem, ⟨8, _⟩ => ⟨S1536x256, .i8⟩
  | .local _ .vmem, ⟨9, _⟩ => ⟨S1536x1, .f32⟩
  | .local _ .vmem, ⟨10, _⟩ => ⟨S256x256, .bf16⟩
  | .local _ .vmem, ⟨11, _⟩ => ⟨S512x256, .f32⟩
  | .local _ .vmem, ⟨12, _⟩ => ⟨S2x64x128, .i32⟩
  | .local _ .vmem, ⟨13, _⟩ => ⟨S2x64x128, .i32⟩
  | .local _ .vmem, ⟨14, _⟩ => ⟨S2x8x128, .f32⟩
  | .local _ .vmem, ⟨15, _⟩ => ⟨S2x8x128, .i32⟩
  | .local _ .vmem, ⟨16, _⟩ => ⟨S2x8x128, .i32⟩
  | .local _ .vmem, ⟨17, _⟩ => ⟨S2x8x128, .i32⟩
  | .local _ .vmem, ⟨18, _⟩ => ⟨S192x256, .f32⟩
  | .local _ .vmem, ⟨19, _⟩ => ⟨S192x256, .i32⟩
  | .local _ .vmem, ⟨20, _⟩ => ⟨S256x128, .f32⟩
  | .local _ .vmem, ⟨21, _⟩ => ⟨S256x128, .f32⟩
  | .local _ .vmem, ⟨22, _⟩ => ⟨S1536x128, .f32⟩
  | .local _ .vmem, ⟨23, _⟩ => ⟨S1536x128, .f32⟩
  | .local _ .smem, ⟨0, _⟩ => ⟨S1x1, .f32⟩
  | _, _ => ⟨S1x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_1 : BitVec 32 := 0#32
  let c24_i32 : BitVec 32 := 24#32
  let v3 : BitVec 32 := Scalar.addi c0_i32_1 c24_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  v75
def k0_mult2 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c8_i32 : BitVec 32 := 8#32
  let v77 : BitVec 32 := Scalar.muli arg22 c8_i32
  v77
def k0_mult3 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let c0_i32_43 : BitVec 32 := 0#32
  let v79 : BitVec 32 := Scalar.addi v76 c0_i32_43
  v79
def k0_off1 (k0_t1 : Fin k0_t1_loop.trips) (c0_i32_43 : BitVec 32) : Fin 3 → Nat :=
  let c0_44 : Index := 0#32
  let c0_45 : Index := 0#32
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let v79 : BitVec 32 := Scalar.addi v76 c0_i32_43
  let v80 : BitVec 32 := v79
  let v81 : Index := Scalar.indexCast v80
  ![0, 0, v81.toNat]
def k0_mult4 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let c256_i32 : BitVec 32 := 256#32
  let v329 : BitVec 32 := Scalar.addi v76 c256_i32
  v329
def k0_off2 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c8_i32 : BitVec 32 := 8#32
  let v77 : BitVec 32 := Scalar.muli arg22 c8_i32
  let v78 : BitVec 32 := v77
  let v681 : Index := Scalar.indexCast v78
  let c0_200 : Index := 0#32
  ![v681.toNat, 0]
def k0_mult5 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let c0_i32_553 : BitVec 32 := 0#32
  let v1668 : BitVec 32 := Scalar.addi v76 c0_i32_553
  let c0_i32_555 : BitVec 32 := 0#32
  let v1670 : BitVec 1 := Scalar.cmpi .sgt v1668 c0_i32_555
  let v1671 : BitVec 32 := Scalar.extui v1670
  let c0_i32_556 : BitVec 32 := 0#32
  let v1672 : BitVec 1 := Scalar.cmpi .slt v1668 c0_i32_556
  let v1673 : BitVec 32 := Scalar.extui v1672
  let v1674 : BitVec 32 := Scalar.subi v1671 v1673
  let c2_i32_554 : BitVec 32 := 2#32
  let c0_i32_557 : BitVec 32 := 0#32
  let v1675 : BitVec 1 := Scalar.cmpi .sgt c2_i32_554 c0_i32_557
  let v1676 : BitVec 32 := Scalar.extui v1675
  let c0_i32_558 : BitVec 32 := 0#32
  let v1677 : BitVec 1 := Scalar.cmpi .slt c2_i32_554 c0_i32_558
  let v1678 : BitVec 32 := Scalar.extui v1677
  let v1679 : BitVec 32 := Scalar.subi v1676 v1678
  let v1680 : BitVec 1 := Scalar.cmpi .ne v1674 v1679
  let v1681 : BitVec 32 := Scalar.remsi v1668 c2_i32_554
  let c0_i32_559 : BitVec 32 := 0#32
  let v1682 : BitVec 1 := Scalar.cmpi .ne v1681 c0_i32_559
  let v1683 : BitVec 1 := Scalar.andi v1680 v1682
  let v1669 : BitVec 32 := Scalar.divsi v1668 c2_i32_554
  let c1_i32_560 : BitVec 32 := 1#32
  let v1684 : BitVec 32 := Scalar.subi v1669 c1_i32_560
  let v1685 : BitVec 32 := Scalar.select v1683 v1684 v1669
  v1685
def k0_off3 (k0_t1 : Fin k0_t1_loop.trips) (c0_i32_553 : BitVec 32) : Fin 3 → Nat :=
  let c0_561 : Index := 0#32
  let c0_562 : Index := 0#32
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let v1668 : BitVec 32 := Scalar.addi v76 c0_i32_553
  let c0_i32_555 : BitVec 32 := 0#32
  let v1670 : BitVec 1 := Scalar.cmpi .sgt v1668 c0_i32_555
  let v1671 : BitVec 32 := Scalar.extui v1670
  let c0_i32_556 : BitVec 32 := 0#32
  let v1672 : BitVec 1 := Scalar.cmpi .slt v1668 c0_i32_556
  let v1673 : BitVec 32 := Scalar.extui v1672
  let v1674 : BitVec 32 := Scalar.subi v1671 v1673
  let c2_i32_554 : BitVec 32 := 2#32
  let c0_i32_557 : BitVec 32 := 0#32
  let v1675 : BitVec 1 := Scalar.cmpi .sgt c2_i32_554 c0_i32_557
  let v1676 : BitVec 32 := Scalar.extui v1675
  let c0_i32_558 : BitVec 32 := 0#32
  let v1677 : BitVec 1 := Scalar.cmpi .slt c2_i32_554 c0_i32_558
  let v1678 : BitVec 32 := Scalar.extui v1677
  let v1679 : BitVec 32 := Scalar.subi v1676 v1678
  let v1680 : BitVec 1 := Scalar.cmpi .ne v1674 v1679
  let v1681 : BitVec 32 := Scalar.remsi v1668 c2_i32_554
  let c0_i32_559 : BitVec 32 := 0#32
  let v1682 : BitVec 1 := Scalar.cmpi .ne v1681 c0_i32_559
  let v1683 : BitVec 1 := Scalar.andi v1680 v1682
  let v1669 : BitVec 32 := Scalar.divsi v1668 c2_i32_554
  let c1_i32_560 : BitVec 32 := 1#32
  let v1684 : BitVec 32 := Scalar.subi v1669 c1_i32_560
  let v1685 : BitVec 32 := Scalar.select v1683 v1684 v1669
  let v1686 : BitVec 32 := v1685
  let v1688 : Index := Scalar.indexCast v1686
  ![0, 0, v1688.toNat]
def k0_mult6 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let c256_i32_563 : BitVec 32 := 256#32
  let v1693 : BitVec 32 := Scalar.addi v76 c256_i32_563
  let c0_i32_565 : BitVec 32 := 0#32
  let v1695 : BitVec 1 := Scalar.cmpi .sgt v1693 c0_i32_565
  let v1696 : BitVec 32 := Scalar.extui v1695
  let c0_i32_566 : BitVec 32 := 0#32
  let v1697 : BitVec 1 := Scalar.cmpi .slt v1693 c0_i32_566
  let v1698 : BitVec 32 := Scalar.extui v1697
  let v1699 : BitVec 32 := Scalar.subi v1696 v1698
  let c2_i32_564 : BitVec 32 := 2#32
  let c0_i32_567 : BitVec 32 := 0#32
  let v1700 : BitVec 1 := Scalar.cmpi .sgt c2_i32_564 c0_i32_567
  let v1701 : BitVec 32 := Scalar.extui v1700
  let c0_i32_568 : BitVec 32 := 0#32
  let v1702 : BitVec 1 := Scalar.cmpi .slt c2_i32_564 c0_i32_568
  let v1703 : BitVec 32 := Scalar.extui v1702
  let v1704 : BitVec 32 := Scalar.subi v1701 v1703
  let v1705 : BitVec 1 := Scalar.cmpi .ne v1699 v1704
  let v1706 : BitVec 32 := Scalar.remsi v1693 c2_i32_564
  let c0_i32_569 : BitVec 32 := 0#32
  let v1707 : BitVec 1 := Scalar.cmpi .ne v1706 c0_i32_569
  let v1708 : BitVec 1 := Scalar.andi v1705 v1707
  let v1694 : BitVec 32 := Scalar.divsi v1693 c2_i32_564
  let c1_i32_570 : BitVec 32 := 1#32
  let v1709 : BitVec 32 := Scalar.subi v1694 c1_i32_570
  let v1710 : BitVec 32 := Scalar.select v1708 v1709 v1694
  v1710
def k0_off4 (k0_t1 : Fin k0_t1_loop.trips) : Fin 2 → Nat :=
  let c0_i32_1 : BitVec 32 := 0#32
  let c1_i32 : BitVec 32 := 1#32
  let arg22 : BitVec 32 := Scf.iv c0_i32_1 c1_i32 k0_t1
  let c8_i32 : BitVec 32 := 8#32
  let v77 : BitVec 32 := Scalar.muli arg22 c8_i32
  let v78 : BitVec 32 := v77
  let v1819 : Index := Scalar.indexCast v78
  let c128_634 : Index := 128#32
  ![v1819.toNat, 128]
def k0_mult7 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let c0_i32_1048 : BitVec 32 := 0#32
  let v2806 : BitVec 32 := Scalar.addi v76 c0_i32_1048
  let c0_i32_1050 : BitVec 32 := 0#32
  let v2808 : BitVec 1 := Scalar.cmpi .sgt v2806 c0_i32_1050
  let v2809 : BitVec 32 := Scalar.extui v2808
  let c0_i32_1051 : BitVec 32 := 0#32
  let v2810 : BitVec 1 := Scalar.cmpi .slt v2806 c0_i32_1051
  let v2811 : BitVec 32 := Scalar.extui v2810
  let v2812 : BitVec 32 := Scalar.subi v2809 v2811
  let c2_i32_1049 : BitVec 32 := 2#32
  let c0_i32_1052 : BitVec 32 := 0#32
  let v2813 : BitVec 1 := Scalar.cmpi .sgt c2_i32_1049 c0_i32_1052
  let v2814 : BitVec 32 := Scalar.extui v2813
  let c0_i32_1053 : BitVec 32 := 0#32
  let v2815 : BitVec 1 := Scalar.cmpi .slt c2_i32_1049 c0_i32_1053
  let v2816 : BitVec 32 := Scalar.extui v2815
  let v2817 : BitVec 32 := Scalar.subi v2814 v2816
  let v2818 : BitVec 1 := Scalar.cmpi .ne v2812 v2817
  let v2819 : BitVec 32 := Scalar.remsi v2806 c2_i32_1049
  let c0_i32_1054 : BitVec 32 := 0#32
  let v2820 : BitVec 1 := Scalar.cmpi .ne v2819 c0_i32_1054
  let v2821 : BitVec 1 := Scalar.andi v2818 v2820
  let v2807 : BitVec 32 := Scalar.divsi v2806 c2_i32_1049
  let c1_i32_1055 : BitVec 32 := 1#32
  let v2822 : BitVec 32 := Scalar.subi v2807 c1_i32_1055
  let v2823 : BitVec 32 := Scalar.select v2821 v2822 v2807
  v2823
def k0_off5 (k0_t1 : Fin k0_t1_loop.trips) (c0_i32_1048 : BitVec 32) : Fin 3 → Nat :=
  let c0_1056 : Index := 0#32
  let c128_1057 : Index := 128#32
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let v2806 : BitVec 32 := Scalar.addi v76 c0_i32_1048
  let c0_i32_1050 : BitVec 32 := 0#32
  let v2808 : BitVec 1 := Scalar.cmpi .sgt v2806 c0_i32_1050
  let v2809 : BitVec 32 := Scalar.extui v2808
  let c0_i32_1051 : BitVec 32 := 0#32
  let v2810 : BitVec 1 := Scalar.cmpi .slt v2806 c0_i32_1051
  let v2811 : BitVec 32 := Scalar.extui v2810
  let v2812 : BitVec 32 := Scalar.subi v2809 v2811
  let c2_i32_1049 : BitVec 32 := 2#32
  let c0_i32_1052 : BitVec 32 := 0#32
  let v2813 : BitVec 1 := Scalar.cmpi .sgt c2_i32_1049 c0_i32_1052
  let v2814 : BitVec 32 := Scalar.extui v2813
  let c0_i32_1053 : BitVec 32 := 0#32
  let v2815 : BitVec 1 := Scalar.cmpi .slt c2_i32_1049 c0_i32_1053
  let v2816 : BitVec 32 := Scalar.extui v2815
  let v2817 : BitVec 32 := Scalar.subi v2814 v2816
  let v2818 : BitVec 1 := Scalar.cmpi .ne v2812 v2817
  let v2819 : BitVec 32 := Scalar.remsi v2806 c2_i32_1049
  let c0_i32_1054 : BitVec 32 := 0#32
  let v2820 : BitVec 1 := Scalar.cmpi .ne v2819 c0_i32_1054
  let v2821 : BitVec 1 := Scalar.andi v2818 v2820
  let v2807 : BitVec 32 := Scalar.divsi v2806 c2_i32_1049
  let c1_i32_1055 : BitVec 32 := 1#32
  let v2822 : BitVec 32 := Scalar.subi v2807 c1_i32_1055
  let v2823 : BitVec 32 := Scalar.select v2821 v2822 v2807
  let v2824 : BitVec 32 := v2823
  let v2826 : Index := Scalar.indexCast v2824
  ![0, 128, v2826.toNat]
def k0_mult8 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c512_i32 : BitVec 32 := 512#32
  let v75 : BitVec 32 := Scalar.muli arg22 c512_i32
  let v76 : BitVec 32 := v75
  let c256_i32_1058 : BitVec 32 := 256#32
  let v2831 : BitVec 32 := Scalar.addi v76 c256_i32_1058
  let c0_i32_1060 : BitVec 32 := 0#32
  let v2833 : BitVec 1 := Scalar.cmpi .sgt v2831 c0_i32_1060
  let v2834 : BitVec 32 := Scalar.extui v2833
  let c0_i32_1061 : BitVec 32 := 0#32
  let v2835 : BitVec 1 := Scalar.cmpi .slt v2831 c0_i32_1061
  let v2836 : BitVec 32 := Scalar.extui v2835
  let v2837 : BitVec 32 := Scalar.subi v2834 v2836
  let c2_i32_1059 : BitVec 32 := 2#32
  let c0_i32_1062 : BitVec 32 := 0#32
  let v2838 : BitVec 1 := Scalar.cmpi .sgt c2_i32_1059 c0_i32_1062
  let v2839 : BitVec 32 := Scalar.extui v2838
  let c0_i32_1063 : BitVec 32 := 0#32
  let v2840 : BitVec 1 := Scalar.cmpi .slt c2_i32_1059 c0_i32_1063
  let v2841 : BitVec 32 := Scalar.extui v2840
  let v2842 : BitVec 32 := Scalar.subi v2839 v2841
  let v2843 : BitVec 1 := Scalar.cmpi .ne v2837 v2842
  let v2844 : BitVec 32 := Scalar.remsi v2831 c2_i32_1059
  let c0_i32_1064 : BitVec 32 := 0#32
  let v2845 : BitVec 1 := Scalar.cmpi .ne v2844 c0_i32_1064
  let v2846 : BitVec 1 := Scalar.andi v2843 v2845
  let v2832 : BitVec 32 := Scalar.divsi v2831 c2_i32_1059
  let c1_i32_1065 : BitVec 32 := 1#32
  let v2847 : BitVec 32 := Scalar.subi v2832 c1_i32_1065
  let v2848 : BitVec 32 := Scalar.select v2846 v2847 v2832
  v2848
def k0_mult9 (i : grid0.Coords) : BitVec 32 :=
  let arg0 : BitVec 32 := BitVec.ofNat 32 (i 0).val
  let c192_i32 : BitVec 32 := 192#32
  let v34 : BitVec 32 := Scalar.muli arg0 c192_i32
  v34
def k0_off6 (i : grid0.Coords) : Fin 2 → Nat :=
  let arg0 : BitVec 32 := BitVec.ofNat 32 (i 0).val
  let c192_i32 : BitVec 32 := 192#32
  let v34 : BitVec 32 := Scalar.muli arg0 c192_i32
  let v35 : BitVec 32 := v34
  let v40 : Index := Scalar.indexCast v35
  let c0_33 : Index := 0#32
  ![v40.toNat, 0]
def k0_off7 (i : grid0.Coords) (c1_i32_35 : BitVec 32) : Fin 2 → Nat :=
  let arg0 : BitVec 32 := BitVec.ofNat 32 (i 0).val
  let c192_i32 : BitVec 32 := 192#32
  let v34 : BitVec 32 := Scalar.muli arg0 c192_i32
  let v35 : BitVec 32 := v34
  let v50 : BitVec 32 := Scalar.addi v35 c1_i32_35
  let v51 : Index := Scalar.indexCast v50
  let c0_36 : Index := 0#32
  ![v51.toNat, 0]
def k0_cond2 (i : grid0.Coords) : BitVec 1 :=
  let arg0 : BitVec 32 := BitVec.ofNat 32 (i 0).val
  let c7_i32 : BitVec 32 := 7#32
  let v72 : BitVec 1 := Scalar.cmpi .eq arg0 c7_i32
  let v73 : BitVec 32 := Scalar.extui v72
  let c0_i32_42 : BitVec 32 := 0#32
  let v74 : BitVec 1 := Scalar.cmpi .ne v73 c0_i32_42
  v74

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x6144 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S2x64x2x128 : Shape := ⟨4, ![2, 64, 2, 128]⟩
abbrev S2x64x1x128 : Shape := ⟨4, ![2, 64, 1, 128]⟩
abbrev S1x8x2x128 : Shape := ⟨4, ![1, 8, 2, 128]⟩
abbrev S1x8x1x128 : Shape := ⟨4, ![1, 8, 1, 128]⟩
  | .local _ .vmem, ⟨12, _⟩ => ⟨S2x64x2x128, .bf16⟩
  | .local _ .vmem, ⟨13, _⟩ => ⟨S2x64x2x128, .bf16⟩
variable {F : FTy → Type} [FloatOps F]
-- ==== ReferenceIdeal.lean ====
abbrev S1x2048x12288 : Shape := ⟨3, ![1, 2048, 12288]⟩
abbrev S1x2048x192x64 : Shape := ⟨4, ![1, 2048, 192, 64]⟩
abbrev S_ : Shape := ⟨0, ![]⟩
abbrev S1x2048x192 : Shape := ⟨3, ![1, 2048, 192]⟩
abbrev S1x2048x192x1 : Shape := ⟨4, ![1, 2048, 192, 1]⟩
abbrev S1x2048x6144 : Shape := ⟨3, ![1, 2048, 6144]⟩
abbrev S1536x256 : Shape := ⟨2, ![1536, 256]⟩
abbrev S1536 : Shape := ⟨1, ![1536]⟩
abbrev S1536x1 : Shape := ⟨2, ![1536, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S1x2048x12288, .bf16⟩
  | .hbm, ⟨1, _⟩ => ⟨S1x2048x12288, .f32⟩
  | .hbm, ⟨2, _⟩ => ⟨S1x2048x192x64, .f32⟩
  | .hbm, ⟨3, _⟩ => ⟨S_, .f32⟩
  | .hbm, ⟨4, _⟩ => ⟨S1x2048x192, .f32⟩
  | .hbm, ⟨5, _⟩ => ⟨S_, .f32⟩
  | .hbm, ⟨6, _⟩ => ⟨S1x2048x192, .f32⟩
  | .hbm, ⟨7, _⟩ => ⟨S1x2048x192, .f32⟩
  | .hbm, ⟨8, _⟩ => ⟨S_, .f32⟩
  | .hbm, ⟨9, _⟩ => ⟨S1x2048x192, .f32⟩
  | .hbm, ⟨10, _⟩ => ⟨S1x2048x192, .f32⟩
  | .hbm, ⟨11, _⟩ => ⟨S_, .f32⟩
  | .hbm, ⟨12, _⟩ => ⟨S1x2048x192, .f32⟩
  | .hbm, ⟨13, _⟩ => ⟨S1x2048x192, .i1⟩
  | .hbm, ⟨14, _⟩ => ⟨S_, .f32⟩
  | .hbm, ⟨15, _⟩ => ⟨S_, .f32⟩
  | .hbm, ⟨16, _⟩ => ⟨S1x2048x192, .f32⟩
  | .hbm, ⟨17, _⟩ => ⟨S1x2048x192, .f32⟩
  | .hbm, ⟨18, _⟩ => ⟨S1x2048x192, .f32⟩
  | .hbm, ⟨19, _⟩ => ⟨S1x2048x192, .f32⟩
  | .hbm, ⟨20, _⟩ => ⟨S1x2048x192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x2048x192, .f32⟩
  | .hbm, ⟨25, _⟩ => ⟨S1x2048x192, .f32⟩
  | .hbm, ⟨26, _⟩ => ⟨S_, .f32⟩
  | .hbm, ⟨27, _⟩ => ⟨S1x2048x192, .f32⟩
  | .hbm, ⟨28, _⟩ => ⟨S1x2048x192, .f32⟩
  | .hbm, ⟨29, _⟩ => ⟨S1x2048x192x1, .f32⟩
  | .hbm, ⟨30, _⟩ => ⟨S1x2048x192x64, .f32⟩
  | .hbm, ⟨31, _⟩ => ⟨S1x2048x192x64, .f32⟩
  | .hbm, ⟨32, _⟩ => ⟨S1x2048x192x64, .f32⟩
  | .hbm, ⟨33, _⟩ => ⟨S1x2048x192x1, .f32⟩
  | .hbm, ⟨34, _⟩ => ⟨S1x2048x192x64, .f32⟩
  | .hbm, ⟨35, _⟩ => ⟨S1x2048x192x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x2048x192x64, .f32⟩
  | .hbm, ⟨40, _⟩ => ⟨S1x2048x192x64, .f32⟩
  | .hbm, ⟨41, _⟩ => ⟨S_, .f32⟩
  | .hbm, ⟨42, _⟩ => ⟨S1x2048x192x64, .f32⟩
  | .hbm, ⟨43, _⟩ => ⟨S1x2048x192x64, .f32⟩
  | .hbm, ⟨44, _⟩ => ⟨S1x2048x192x64, .i32⟩
  | .hbm, ⟨45, _⟩ => ⟨S1x2048x12288, .i32⟩
  | .hbm, ⟨46, _⟩ => ⟨S1x2048x6144, .i32⟩
  | .hbm, ⟨47, _⟩ => ⟨S_, .i32⟩
  | .hbm, ⟨48, _⟩ => ⟨S1x2048x6144, .i32⟩
  | .hbm, ⟨49, _⟩ => ⟨S1x2048x6144, .i32⟩
  | .hbm, ⟨50, _⟩ => ⟨S1x2048x6144, .i32⟩
  | .hbm, ⟨51, _⟩ => ⟨S1x2048x6144, .i32⟩
  | .hbm, ⟨52, _⟩ => ⟨S1x2048x6144, .i8⟩
  | .hbm, ⟨53, _⟩ => ⟨S1x2048x192, .i32⟩
  | .hbm, ⟨54, _⟩ => ⟨S1x2048x192, .i8⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x2048x192, .f32⟩
  | .hbm, ⟨60, _⟩ => ⟨S1x2048x192, .f32⟩
  | .hbm, ⟨61, _⟩ => ⟨S1536x256, .f32⟩
  | .hbm, ⟨62, _⟩ => ⟨S1536x256, .f32⟩
  | .hbm, ⟨63, _⟩ => ⟨S_, .f32⟩
  | .hbm, ⟨64, _⟩ => ⟨S1536, .f32⟩
  | .hbm, ⟨65, _⟩ => ⟨S_, .f32⟩
  | .hbm, ⟨66, _⟩ => ⟨S1536, .f32⟩
  | .hbm, ⟨67, _⟩ => ⟨S1536, .f32⟩
  | .hbm, ⟨68, _⟩ => ⟨S1536x1, .f32⟩
  | .hbm, ⟨69, _⟩ => ⟨S1536x256, .f32⟩
  | .hbm, ⟨70, _⟩ => ⟨S1536x256, .f32⟩
  | .hbm, ⟨71, _⟩ => ⟨S1536x256, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1536x256, .f32⟩
  | .hbm, ⟨76, _⟩ => ⟨S1536x256, .f32⟩
  | .hbm, ⟨77, _⟩ => ⟨S_, .f32⟩
  | .hbm, ⟨78, _⟩ => ⟨S1536x256, .f32⟩
  | .hbm, ⟨79, _⟩ => ⟨S1536x256, .f32⟩
  | .hbm, ⟨80, _⟩ => ⟨S1536x256, .i32⟩
  | .hbm, ⟨81, _⟩ => ⟨S1536x256, .i8⟩
  | .hbm, ⟨82, _⟩ => ⟨S1536x1, .f32⟩
  | .hbm, ⟨83, _⟩ => ⟨S1x1, .f32⟩
  | _, _ => ⟨S1x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_cst_5 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_call4_v3 : Ref sig .tc := ⟨.hbm, 41, rfl⟩
abbrev main_call4_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_cst_13 : Ref sig .tc := ⟨.hbm, 73, rfl⟩
abbrev main_call6_v0 : Ref sig .tc := ⟨.hbm, 74, rfl⟩
abbrev main_call6_v1 : Ref sig .tc := ⟨.hbm, 75, rfl⟩
abbrev main_call6_v2 : Ref sig .tc := ⟨.hbm, 76, rfl⟩
abbrev main_call6_v3 : Ref sig .tc := ⟨.hbm, 77, rfl⟩
abbrev main_call6_v4 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]
-- ==== Proof.KernelFrame.lean ====
/- The frame of `Kernel`: one trip of its loop and one run of its body, with nothing said of what the buffers hold. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.Frame
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-- The buffers a trip of the loop touches, each whole at some contents. -/
abbrev Trip (c : Dev nD) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x128 .i32) (harg10 : arg10.IsWhole) (arg11 : Memref sig .tc .vmem S2x64x128 .i32) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) : sProp 𝕄 :=
  iprop((∃ f, arg1.view.loc (c : Thread nD τ) ↦[arg1.view.set]{fullShare} f) ∗ (∃ f, arg2.view.loc (c : Thread nD τ) ↦[arg2.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f))

/-- The loop's invariant: the buffers its trips touch, at some contents. -/
@[sl_loop] noncomputable def loopInv_k0_t1 (c : Dev nD) (i : grid0.Coords) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x128 .i32) (harg10 : arg10.IsWhole) (arg11 : Memref sig .tc .vmem S2x64x128 .i32) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 where
  inv := fun _ _ => Trip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  step := fun k acc => by
    unfold Trip k0_t1_body
    iintro ⟨⟨%f1, H1⟩, ⟨%f2, H2⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩⟩
    sl_exec_parts
    sl_step
    isplitl [H1]; · iexists _; iexact H1
    isplitl [H2]; · iexists _; iexact H2
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

/-- The body's triple: from every operand at some contents the body runs to its return and hands every operand back
    at some contents. -/
theorem kernelRun (c : Dev nD) (i : grid0.Coords) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x128 .i32) (harg10 : arg10.IsWhole) (arg11 : Memref sig .tc .vmem S2x64x128 .i32) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) (K : PUnit → sProp 𝕄) :
    iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)
        ∗ (iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) Set.univ (cc0_asym4_encode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_asym4_encode_eq_skeleton]; unfold cc0_asym4_encode_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  sl_exec_parts
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-- Every window is left unnamed: the frame says nothing of the results. -/
def forgets0 : Fin 7 → Bool := fun _ => true

variable [∀ e, Nonempty (Elt F e)]
variable (m : (ℓ : Loc nD τ sig) → Buf (Elt F) ℓ) (ρ : Dev nD → PrngReg)

/-- The proof data of the frame: each array as launched, nothing named after the body, the scratch buffers at some
    contents between the points. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The scratch buffers and the generator register, one by one. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r)) := by
  unfold Pipeline.ΦA; rw [scopedRest0_eq]; simp only [owns_whole]

/-- What the body is called with at a point, and what it hands back. -/
def bodyPre (c : Dev nD) (t : Fin cfg0.N) : sProp 𝕄 :=
  iprop((datsF m 0 c).Φ t.castSucc ∗ (datsF m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d))
def bodyPost (c : Dev nD) (t : Fin cfg0.N) : sProp 𝕄 :=
  iprop((datsF m 0 c).Φ t.succ ∗ (datsF m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d))

/-- The body at a point, between the two. -/
theorem sound_frame (c : Dev nD) (t : Fin cfg0.N) :
    bodyPre m c t ⊢ wp frame (wpE (defs₀ (F := F)) Variants.none c none) Set.univ (bodyAt0 t) (fun _ => bodyPost m c t) := by
  unfold bodyPre bodyPost
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq]
  unfold owns
  iintro ⟨⟨⟨⟨%d8, %f8, -, HS8⟩, ⟨%d9, %f9, -, HS9⟩, ⟨%d10, %f10, -, HS10⟩, ⟨%d11, %f11, -, HS11⟩, ⟨%d12, %f12, -, HS12⟩, ⟨%d13, %f13, -, HS13⟩, ⟨%d14, %f14, -, HS14⟩, ⟨%d15, %f15, -, HS15⟩, ⟨%d16, %f16, -, HS16⟩, ⟨%d17, %f17, -, HS17⟩, ⟨%d18, %f18, -, HS18⟩, ⟨%d19, %f19, -, HS19⟩, ⟨%d20, %f20, -, HS20⟩, ⟨%d21, %f21, -, HS21⟩⟩, Hg⟩, HO, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩
  iapply (kernelRun c _ _ _ _ _ _ _ _ _ _ _ _ _ _ _ _ _ _ _ _ _ _ _ _ _ _ _ _ _ _ _ _ _ _ _ _ _ _ _ _ _ _ _ _)
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS8]; · iexists f8; iexact HS8
  isplitl [HS9]; · iexists f9; iexact HS9
  isplitl [HS10]; · iexists f10; iexact HS10
  isplitl [HS11]; · iexists f11; iexact HS11
  isplitl [HS12]; · iexists f12; iexact HS12
  isplitl [HS13]; · iexists f13; iexact HS13
  isplitl [HS14]; · iexists f14; iexact HS14
  isplitl [HS15]; · iexists f15; iexact HS15
  isplitl [HS16]; · iexists f16; iexact HS16
  isplitl [HS17]; · iexists f17; iexact HS17
  isplitl [HS18]; · iexists f18; iexact HS18
  isplitl [HS19]; · iexists f19; iexact HS19
  isplitl [HS20]; · iexists f20; iexact HS20
  isplitl [HS21]; · iexists f21; iexact HS21
  iintro ⟨⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩⟩
  isplitl [H8 H9 H10 H11 H12 H13 H14 H15 H16 H17 H18 H19 H20 H21 Hg]
  · isplitr [Hg]
    · isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      iexists _, _; isplitr; swap; · iexact H21
      ipureintro; rfl
    iexact Hg
  isplitl [HO]; · iexact HO
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-- The body table's row at a point. -/
theorem defs₀_row (t : Fin cfg0.N) : defs₀ (F := F) .tc cfg0.body (cfg0.bodyArgs t (cfg0.slots t)) = bodyAt0 t := by
  unfold defs₀; rw [Defs.onTc_tc]

/-- The pipeline's body obligation with every window unnamed. -/
theorem frame_obligation (c : Dev nD) :
    BodyObligation (datsF (F := F) m 0 c) (defs₀ (F := F)) Variants.none () Set.univ forgets0 := fun t => by
  rw [bigSep_W0, bigSep_W0, defs₀_row]
  exact triple_restated (sound_frame m c t) rfl .rfl fun _ => .rfl

set_option backward.isDefEq.respectTransparency.types false in
/-- The run: every execution ends, the argument ends unchanged and every semaphore counter ends at zero. -/
theorem run_frame :
    θ_run defs (onTc (τ := τ) (main (F := F))) (s₀ m ρ)
      (fun r => Pipeline.RDat.FramePost (cfgs 0) (fun c => (datsF m 0 c).toRForget forgets0) (V m) r ∧ r.2.sem = fun _ => 0) :=
  Pipeline.θ_run_frame_forget (Q' := _) cfgs (datsF m) (0 : Fin 1) launch0 defs₀ Variants.none forgets0 m ρ main
    (hbody := fun c => (frame_obligation m c).loose) (hshare := fun c => (datsF m 0 c).share_full fun _ => rfl)
    (howed := fun _ _ => rfl) (V := V m) (hmain := hmain m Variants.none) (hA := fun _ _ => rfl) (hΦ := fun _ _ => rfl)

/-- The frame: the argument unchanged, the counters at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => Pipeline.RDat.FramePost.arr_in h.1 c 0 rfl, h.2⟩) (run_frame m ρ)

end Cert.Proof.Kernel

end
-- ==== Proof.KernelIdealFrame.lean ====
/- The frame of `KernelIdeal`: one trip of its loop and one run of its body, with nothing said of what the buffers hold. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Frame
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The buffers a trip of the loop touches, each whole at some contents. -/
abbrev Trip (c : Dev nD) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) : sProp 𝕄 :=
  iprop((∃ f, arg1.view.loc (c : Thread nD τ) ↦[arg1.view.set]{fullShare} f) ∗ (∃ f, arg2.view.loc (c : Thread nD τ) ↦[arg2.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f))

/-- The loop's invariant: the buffers its trips touch, at some contents. -/
@[sl_loop] noncomputable def loopInv_k0_t1 (c : Dev nD) (i : grid0.Coords) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 where
  inv := fun _ _ => Trip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
  step := fun k acc => by
    unfold Trip k0_t1_body
    iintro ⟨⟨%f1, H1⟩, ⟨%f2, H2⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩⟩
    sl_exec_parts
    sl_step
    isplitl [H1]; · iexists _; iexact H1
    isplitl [H2]; · iexists _; iexact H2
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

/-- The body's triple: from every operand at some contents the body runs to its return and hands every operand back
    at some contents. -/
theorem kernelRun (c : Dev nD) (i : grid0.Coords) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) (K : PUnit → sProp 𝕄) :
    iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)
        ∗ (iprop((∃ f, arg1.view.loc (c : Thread nD τ) ↦[arg1.view.set]{fullShare} f) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) Set.univ (cc0_asym4_encode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_asym4_encode_eq_skeleton]; unfold cc0_asym4_encode_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  sl_exec_parts
  sl_step
  iapply Hk
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-- Every window is left unnamed: the frame says nothing of the results. -/
def forgets0 : Fin 7 → Bool := fun _ => true

variable [∀ e, Nonempty (Elt F e)]
variable (m : (ℓ : Loc nD τ sig) → Buf (Elt F) ℓ) (ρ : Dev nD → PrngReg)

/-- The proof data of the frame: each array as launched, nothing named after the body, the scratch buffers at some
    contents between the points. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The scratch buffers and the generator register, one by one. -/
theorem PhiA_eq (c : Dev nD) :
    (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r)) := by
  unfold Pipeline.ΦA; rw [scopedRest0_eq]; simp only [owns_whole]

/-- What the body is called with at a point, and what it hands back. -/
def bodyPre (c : Dev nD) (t : Fin cfg0.N) : sProp 𝕄 :=
  iprop((datsF m 0 c).Φ t.castSucc ∗ (datsF m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d))
def bodyPost (c : Dev nD) (t : Fin cfg0.N) : sProp 𝕄 :=
  iprop((datsF m 0 c).Φ t.succ ∗ (datsF m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d))

/-- The body at a point, between the two. -/
theorem sound_frame (c : Dev nD) (t : Fin cfg0.N) :
    bodyPre m c t ⊢ wp frame (wpE (defs₀ (F := F)) Variants.none c none) Set.univ (bodyAt0 t) (fun _ => bodyPost m c t) := by
  unfold bodyPre bodyPost
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq]
  unfold owns
  iintro ⟨⟨⟨⟨%d8, %f8, -, HS8⟩, ⟨%d9, %f9, -, HS9⟩, ⟨%d10, %f10, -, HS10⟩, ⟨%d11, %f11, -, HS11⟩, ⟨%d12, %f12, -, HS12⟩, ⟨%d13, %f13, -, HS13⟩, ⟨%d14, %f14, -, HS14⟩, ⟨%d15, %f15, -, HS15⟩, ⟨%d16, %f16, -, HS16⟩, ⟨%d17, %f17, -, HS17⟩, ⟨%d18, %f18, -, HS18⟩, ⟨%d19, %f19, -, HS19⟩, ⟨%d20, %f20, -, HS20⟩, ⟨%d21, %f21, -, HS21⟩⟩, Hg⟩, HO, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩
  iapply (kernelRun c _ _ _ _ _ _ _ _ _ _ _ _ _ _ _ _ _ _ _ _ _ _ _ _ _ _ _ _ _ _ _ _ _ _ _ _ _ _ _ _ _ _ _ _)
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS8]; · iexists f8; iexact HS8
  isplitl [HS9]; · iexists f9; iexact HS9
  isplitl [HS10]; · iexists f10; iexact HS10
  isplitl [HS11]; · iexists f11; iexact HS11
  isplitl [HS12]; · iexists f12; iexact HS12
  isplitl [HS13]; · iexists f13; iexact HS13
  isplitl [HS14]; · iexists f14; iexact HS14
  isplitl [HS15]; · iexists f15; iexact HS15
  isplitl [HS16]; · iexists f16; iexact HS16
  isplitl [HS17]; · iexists f17; iexact HS17
  isplitl [HS18]; · iexists f18; iexact HS18
  isplitl [HS19]; · iexists f19; iexact HS19
  isplitl [HS20]; · iexists f20; iexact HS20
  isplitl [HS21]; · iexists f21; iexact HS21
  iintro ⟨⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩⟩
  isplitl [H8 H9 H10 H11 H12 H13 H14 H15 H16 H17 H18 H19 H20 H21 Hg]
  · isplitr [Hg]
    · isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _, _; isplitr; swap; · iexact H20
        ipureintro; rfl
      iexists _, _; isplitr; swap; · iexact H21
      ipureintro; rfl
    iexact Hg
  isplitl [HO]; · iexact HO
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

/-- The body table's row at a point. -/
theorem defs₀_row (t : Fin cfg0.N) : defs₀ (F := F) .tc cfg0.body (cfg0.bodyArgs t (cfg0.slots t)) = bodyAt0 t := by
  unfold defs₀; rw [Defs.onTc_tc]

/-- The pipeline's body obligation with every window unnamed. -/
theorem frame_obligation (c : Dev nD) :
    BodyObligation (datsF (F := F) m 0 c) (defs₀ (F := F)) Variants.none () Set.univ forgets0 := fun t => by
  rw [bigSep_W0, bigSep_W0, defs₀_row]
  exact triple_restated (sound_frame m c t) rfl .rfl fun _ => .rfl

set_option backward.isDefEq.respectTransparency.types false in
/-- The run: every execution ends, the argument ends unchanged and every semaphore counter ends at zero. -/
theorem run_frame :
    θ_run defs (onTc (τ := τ) (main (F := F))) (s₀ m ρ)
      (fun r => Pipeline.RDat.FramePost (cfgs 0) (fun c => (datsF m 0 c).toRForget forgets0) (V m) r ∧ r.2.sem = fun _ => 0) :=
  Pipeline.θ_run_frame_forget (Q' := _) cfgs (datsF m) (0 : Fin 1) launch0 defs₀ Variants.none forgets0 m ρ main
    (hbody := fun c => (frame_obligation m c).loose) (hshare := fun c => (datsF m 0 c).share_full fun _ => rfl)
    (howed := fun _ _ => rfl) (V := V m) (hmain := hmain m Variants.none) (hA := fun _ _ => rfl) (hΦ := fun _ _ => rfl)

/-- The frame: the argument unchanged, the counters at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => Pipeline.RDat.FramePost.arr_in h.1 c 0 rfl, h.2⟩) (run_frame m ρ)

end Cert.Proof.KernelIdeal

end
-- ==== Proof.Val1.lean ====
module
public import proofs.«01_k».proof.Proof.KernelIdealFrame
public import Idealize.ShloMosaic.Lib.Pointwise

/-! One trip of the loop, its values over the extended reals: the permuted blocks, the block extrema, the scales and the
zero points. -/

@[expose] public section
noncomputable section
namespace Cert.Proof.KernelIdeal
open Cert.KernelIdeal Cert.KernelIdeal.Gen
open Idealize.ShloMosaic Idealize.ShloMosaic.TcCoe Idealize.ShloMosaic.View

/-- The column a permuted row `n` reads: within each run of 64, rows and columns of an 8 x 8 square are exchanged. -/
def src (n : ℕ) : ℕ := 64 * (n / 64) + 8 * (n % 8) + (n / 8) % 8

/-- The weight block at a row and a column, as a function of all naturals. -/
def bx (d : S1x256x12288.Idx → EReal) (r c : ℕ) : EReal :=
  d (ix3 0 ⟨r % 256, Nat.mod_lt _ (by norm_num)⟩ ⟨c % 12288, Nat.mod_lt _ (by norm_num)⟩)

/-- What it means that a buffer holds the permutation matrix. -/
def IsPerm (p : S256x256.Idx → EReal) : Prop := ∀ a c : Fin 256, p (ix2 a c) = if c.val = src a.val then 1 else 0

theorem bx_eq (d : S1x256x12288.Idx → EReal) (a : Fin 1) (r : Fin 256) (c : Fin 12288) : d (ix3 a r c) = bx d r.val c.val := by
  unfold bx
  congr 1
  have := r.isLt; have := c.isLt
  rw [show a = 0 from Subsingleton.elim _ _]
  congr 1 <;> apply Fin.ext <;> show _ = _ % _ <;> omega

theorem src_lt {n : ℕ} (h : n < 256) : src n < 256 := by unfold src; omega

/-- A product with the permutation matrix moves the columns. -/
theorem pay3_perm (x : S1x256x256.Idx → EReal) (p : S256x256.Idx → EReal) (hp : IsPerm p) (a b : Fin 256) :
    k0_pay3 (F := Ideal) x p (ix2 a b) = x (ix3 0 b ⟨src a.val, src_lt a.isLt⟩) := by
  pointwise [k0_pay3]
  rw [Finset.sum_eq_single (⟨src a.val, src_lt a.isLt⟩ : Fin 256)]
  · rw [hp, if_pos rfl, one_mul]
  · intro b _ hb
    rw [hp, if_neg (fun h => hb (Fin.ext h)), zero_mul]
  · intro h; exact absurd (Finset.mem_univ _) h

theorem off1_0 : ∀ k : Fin k0_t1_loop.trips, k0_off1 k 0#32 = ![0, 0, 512 * k.val] := by decide
theorem off1_1 : ∀ k : Fin k0_t1_loop.trips, k0_off1 k 256#32 = ![0, 0, 512 * k.val + 256] := by decide

theorem ld_bx (d : S1x256x12288.Idx → EReal) (off : Fin 3 → ℕ) (o : ℕ) (h : off = ![0, 0, o]) (inb) (b c : Fin 256) :
    View.ld (Val := Elt Ideal) (e' := .bf16) d (Rect.unit off S1x256x256.size inb : Rect S1x256x12288) (ix3 0 b c) = bx d b.val (o + c.val) := by
  subst h
  have hb := b.isLt
  have hi := inb 2
  have hi' : o + 256 ≤ 12288 := hi
  unfold bx View.ld
  congr 1
  funext a
  apply Fin.ext
  match a with
  | ⟨0, _⟩ => rfl
  | ⟨1, _⟩ => show 0 + 1 * b.val = b.val % 256; omega
  | ⟨2, _⟩ => show o + 1 * c.val = (o + c.val) % 12288; omega

section
variable (c : Dev nD) (arg1 : Memref sig .tc .vmem S1x256x12288 .bf16) (arg8 : Memref sig .tc .vmem S256x256 .bf16)
  (k : Fin k0_t1_loop.trips) (f1 : Buf (Elt Ideal) (arg1.view.loc (c : Thread nD τ))) (f8 : Buf (Elt Ideal) (arg8.view.loc (c : Thread nD τ)))

/-- The first tile of a trip, permuted. -/
theorem r_eq (hp : IsPerm (arg8.view.read (Elt Ideal) f8)) (a b : Fin 256) :
    loopInv_k0_t1.sl.r c arg1 arg8 k f1 f8 (ix2 a b) = bx (arg1.view.read (Elt Ideal) f1) b.val (512 * k.val + src a.val) := by
  unfold loopInv_k0_t1.sl.r
  rw [View.readAt_eq_ld, View.readAt_eq_ld, View.ld_unit_zero (by decide)]
  rw [pay3_perm _ _ hp, ld_bx _ _ _ (off1_0 k)]

/-- The second tile of a trip, permuted. -/
theorem r_30_eq (hp : IsPerm (arg8.view.read (Elt Ideal) f8)) (a b : Fin 256) :
    loopInv_k0_t1.sl.r_30 c arg1 arg8 k f1 f8 (ix2 a b) = bx (arg1.view.read (Elt Ideal) f1) b.val (512 * k.val + 256 + src a.val) := by
  unfold loopInv_k0_t1.sl.r_30
  rw [View.readAt_eq_ld, View.readAt_eq_ld, View.ld_unit_zero (by decide)]
  rw [show k0_pay79 (F := Ideal) = k0_pay3 from rfl, pay3_perm _ _ hp, ld_bx _ _ _ (off1_1 k)]

theorem fold_r (inb1) (inb2) :
    k0_pay3 (F := Ideal) (View.readAt (Elt Ideal) arg1.view (Rect.unit (k0_off1 k 0#32) ![1, 256, 256] inb1 : Rect S1x256x12288).toLoadRect f1)
      (View.readAt (Elt Ideal) arg8.view (Rect.unit ![0, 0] ![256, 256] inb2 : Rect S256x256).toLoadRect f8)
      = loopInv_k0_t1.sl.r c arg1 arg8 k f1 f8 := rfl

theorem fold_r_30 (inb1) (inb2) :
    k0_pay79 (F := Ideal) (View.readAt (Elt Ideal) arg1.view (Rect.unit (k0_off1 k 256#32) ![1, 256, 256] inb1 : Rect S1x256x12288).toLoadRect f1)
      (View.readAt (Elt Ideal) arg8.view (Rect.unit ![0, 0] ![256, 256] inb2 : Rect S256x256).toLoadRect f8)
      = loopInv_k0_t1.sl.r_30 c arg1 arg8 k f1 f8 := rfl

/-- The extremum over the four elements of one parity, from a column on. -/
def quad (d : S1x256x12288.Idx → EReal) (op : EReal → EReal → EReal) (R C : ℕ) : EReal :=
  op (op (bx d R C) (bx d R (C + 2))) (op (bx d R (C + 4)) (bx d R (C + 6)))

/-- The block extrema's buffer: at a half, a row `8 b + s`, a parity and a lane, the extremum over the elements `8 s + e` of block `b`, `e` of that parity. -/
def G10 (d : S1x256x12288.Idx → EReal) (k : ℕ) (op : EReal → EReal → EReal) (y : S2x64x2x128.Idx) : EReal :=
  quad d op (128 * (y 0).val + (y 3).val) (512 * k + 8 * (y 1).val + (y 2).val)

theorem G10_emb (d : S1x256x12288.Idx → EReal) (k : ℕ) (op : EReal → EReal → EReal) (h b : ℕ)
    (inb : ∀ a, (![h, b, 0, 0] : Fin 4 → ℕ) a + (![1, 8, 2, 128] : Fin 4 → ℕ) a ≤ S2x64x2x128.size a)
    (x0 : Fin 1) (x1 : Fin 8) (x2 : Fin 2) (x3 : Fin 128) :
    G10 d k op ((Rect.unit ![h, b, 0, 0] ![1, 8, 2, 128] inb : Rect S2x64x2x128).emb (ix4 x0 x1 x2 x3)) =
      quad d op (128 * h + x3.val) (512 * k + 8 * b + 8 * x1.val + x2.val) := by
  show quad d op (128 * (h + 1 * x0.val) + (0 + 1 * x3.val)) (512 * k + 8 * (b + 1 * x1.val) + (0 + 1 * x2.val)) = _
  have := x0.isLt
  congr 1 <;> omega

theorem e1 (n : ℕ) : 2 * n % 2 = 0 := by omega
theorem e2 (n : ℕ) : (2 * n + 1) % 2 = 1 := by omega
theorem e3 (n : ℕ) : 2 * n / 2 = n := by omega
theorem e4 (n : ℕ) : (2 * n + 1) / 2 = n := by omega

theorem bx_congr {d : S1x256x12288.Idx → EReal} {r r' c c' : ℕ} (hr : r = r') (hc : c = c') : bx d r c = bx d r' c' := by rw [hr, hc]

/-- Which piece of the buffer an index lies in. -/
theorem mem_piece (y : S2x64x2x128.Idx) (h b : ℕ)
    (inb : ∀ a, (![h, b, 0, 0] : Fin 4 → ℕ) a + (![1, 8, 2, 128] : Fin 4 → ℕ) a ≤ S2x64x2x128.size a)
    (h0 : (y 0).val = h) (h1 : b ≤ (y 1).val) (h2 : (y 1).val < b + 8) :
    y ∈ (Rect.unit ![h, b, 0, 0] ![1, 8, 2, 128] inb : Rect S2x64x2x128).set := by
  rw [Rect.mem_set_unit]
  intro a
  have l2 : (y 2).val < 2 := (y 2).isLt
  have l3 : (y 3).val < 128 := (y 3).isLt
  match a with
  | ⟨0, _⟩ => show h ≤ (y 0).val ∧ (y 0).val < h + 1; omega
  | ⟨1, _⟩ => show b ≤ (y 1).val ∧ (y 1).val < b + 8; omega
  | ⟨2, _⟩ => show 0 ≤ (y 2).val ∧ (y 2).val < 0 + 2; omega
  | ⟨3, _⟩ => show 0 ≤ (y 3).val ∧ (y 3).val < 0 + 128; omega

section
variable (hp : IsPerm (arg8.view.read (Elt Ideal) f8))
include hp
set_option maxHeartbeats 2000000 in
theorem canon10 (y : S2x64x2x128.Idx) : View.canon (loopInv_k0_t1.sl.H10_16 c arg1 arg8 k f1 f8) y =
    G10 (arg1.view.read (Elt Ideal) f1) k.val max y := by
  apply View.canon_apply_of_pieces
  · unfold loopInv_k0_t1.sl.H10_16 loopInv_k0_t1.sl.H10_15 loopInv_k0_t1.sl.H10_13 loopInv_k0_t1.sl.H10_12 loopInv_k0_t1.sl.H10_11 loopInv_k0_t1.sl.H10_10 loopInv_k0_t1.sl.H10_9 loopInv_k0_t1.sl.H10_8 loopInv_k0_t1.sl.H10_7 loopInv_k0_t1.sl.H10_6 loopInv_k0_t1.sl.H10_5 loopInv_k0_t1.sl.H10_4 loopInv_k0_t1.sl.H10_3 loopInv_k0_t1.sl.H10_2
    simp only [List.forall_mem_cons]
    refine ⟨?_, ?_, ?_, ?_, ?_, ?_, ?_, ?_, ?_, ?_, ?_, ?_, ?_, ?_, ?_, ?_, fun _ h => absurd h (List.not_mem_nil)⟩
    all_goals
      intro x
      change S1x8x2x128.Idx at x
      idx_vars x
      refine Eq.trans ?_ (G10_emb _ _ _ _ _ _ x0 x1 x2 x3).symm
      first
        | unfold loopInv_k0_t1.sl.k0_w32
        | skip
      try simp only [loopInv_k0_t1.sl.v578_lo, loopInv_k0_t1.sl.v578_hi, loopInv_k0_t1.sl.r_1, loopInv_k0_t1.sl.r_2, loopInv_k0_t1.sl.r_3, loopInv_k0_t1.sl.r_4, loopInv_k0_t1.sl.r_5, loopInv_k0_t1.sl.r_6, loopInv_k0_t1.sl.r_7, loopInv_k0_t1.sl.r_8, loopInv_k0_t1.sl.r_9, loopInv_k0_t1.sl.r_10, loopInv_k0_t1.sl.r_11, loopInv_k0_t1.sl.r_12, loopInv_k0_t1.sl.r_13, loopInv_k0_t1.sl.r_14, loopInv_k0_t1.sl.r_15, loopInv_k0_t1.sl.r_16, loopInv_k0_t1.sl.r_17, loopInv_k0_t1.sl.r_18, loopInv_k0_t1.sl.r_19, loopInv_k0_t1.sl.r_20, loopInv_k0_t1.sl.r_21, loopInv_k0_t1.sl.r_22, loopInv_k0_t1.sl.r_23, loopInv_k0_t1.sl.r_24, loopInv_k0_t1.sl.r_25, loopInv_k0_t1.sl.r_26, loopInv_k0_t1.sl.r_27, loopInv_k0_t1.sl.r_28, loopInv_k0_t1.sl.r_29, loopInv_k0_t1.sl.r_31, loopInv_k0_t1.sl.r_32, loopInv_k0_t1.sl.r_33, loopInv_k0_t1.sl.r_34, loopInv_k0_t1.sl.r_35, loopInv_k0_t1.sl.r_36, loopInv_k0_t1.sl.r_37, loopInv_k0_t1.sl.r_38, loopInv_k0_t1.sl.r_39, loopInv_k0_t1.sl.r_40, loopInv_k0_t1.sl.r_41, loopInv_k0_t1.sl.r_42, loopInv_k0_t1.sl.r_43, loopInv_k0_t1.sl.r_44, loopInv_k0_t1.sl.r_45, loopInv_k0_t1.sl.r_46, loopInv_k0_t1.sl.r_47, loopInv_k0_t1.sl.r_48, loopInv_k0_t1.sl.r_49, loopInv_k0_t1.sl.r_50, loopInv_k0_t1.sl.r_51, loopInv_k0_t1.sl.r_52, loopInv_k0_t1.sl.r_53, loopInv_k0_t1.sl.r_54, loopInv_k0_t1.sl.r_55, loopInv_k0_t1.sl.r_56, loopInv_k0_t1.sl.r_57, loopInv_k0_t1.sl.r_58, loopInv_k0_t1.sl.r_59, loopInv_k0_t1.sl.r_60, loopInv_k0_t1.sl.r_61, loopInv_k0_t1.sl.r_62, loopInv_k0_t1.sl.r_63, loopInv_k0_t1.sl.r_64, loopInv_k0_t1.sl.r_65, loopInv_k0_t1.sl.r_66, loopInv_k0_t1.sl.r_67, loopInv_k0_t1.sl.r_68]
      try simp only [k0_pay5, k0_pay6, k0_pay7, k0_pay8, k0_pay9, k0_pay10, k0_pay11, k0_pay81, k0_pay82, k0_pay83, fold_r, fold_r_30]
      pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, r_eq c arg1 arg8 k f1 f8 hp, r_30_eq c arg1 arg8 k f1 f8 hp]
      simp only [e1, e2, e3, e4, one_ne_zero, ↓reduceIte, quad]
      have hx1 := x1.isLt
      have hx2 := x2.isLt
      split
      · refine congrArg₂ _ (congrArg₂ _ (bx_congr ?_ ?_) (bx_congr ?_ ?_)) (congrArg₂ _ (bx_congr ?_ ?_) (bx_congr ?_ ?_)) <;> simp only [src] <;> omega
      · refine congrArg₂ _ (congrArg₂ _ (bx_congr ?_ ?_) (bx_congr ?_ ?_)) (congrArg₂ _ (bx_congr ?_ ?_) (bx_congr ?_ ?_)) <;> simp only [src] <;> omega
  · unfold loopInv_k0_t1.sl.H10_16 loopInv_k0_t1.sl.H10_15 loopInv_k0_t1.sl.H10_13 loopInv_k0_t1.sl.H10_12 loopInv_k0_t1.sl.H10_11 loopInv_k0_t1.sl.H10_10 loopInv_k0_t1.sl.H10_9 loopInv_k0_t1.sl.H10_8 loopInv_k0_t1.sl.H10_7 loopInv_k0_t1.sl.H10_6 loopInv_k0_t1.sl.H10_5 loopInv_k0_t1.sl.H10_4 loopInv_k0_t1.sl.H10_3 loopInv_k0_t1.sl.H10_2
    simp only [List.mem_cons, exists_eq_or_imp]
    have l0 : (y 0).val < 2 := (y 0).isLt
    have l1 : (y 1).val < 64 := (y 1).isLt
    obtain h0 | h0 : (y 0).val = 0 ∨ (y 0).val = 1 := by omega
    all_goals
      obtain h1 | h1 | h1 | h1 | h1 | h1 | h1 | h1 : (y 1).val / 8 = 0 ∨ (y 1).val / 8 = 1 ∨ (y 1).val / 8 = 2 ∨ (y 1).val / 8 = 3 ∨
          (y 1).val / 8 = 4 ∨ (y 1).val / 8 = 5 ∨ (y 1).val / 8 = 6 ∨ (y 1).val / 8 = 7 := by omega
      all_goals
        repeat first
          | exact Or.inl (mem_piece y _ _ _ (by omega) (by omega) (by omega))
          | apply Or.inr
set_option maxHeartbeats 2000000 in
theorem canon11 (y : S2x64x2x128.Idx) : View.canon (loopInv_k0_t1.sl.H11_16 c arg1 arg8 k f1 f8) y =
    G10 (arg1.view.read (Elt Ideal) f1) k.val min y := by
  apply View.canon_apply_of_pieces
  · unfold loopInv_k0_t1.sl.H11_16 loopInv_k0_t1.sl.H11_15 loopInv_k0_t1.sl.H11_14 loopInv_k0_t1.sl.H11_13 loopInv_k0_t1.sl.H11_12 loopInv_k0_t1.sl.H11_11 loopInv_k0_t1.sl.H11_10 loopInv_k0_t1.sl.H11_9 loopInv_k0_t1.sl.H11_8 loopInv_k0_t1.sl.H11_7 loopInv_k0_t1.sl.H11_6 loopInv_k0_t1.sl.H11_5 loopInv_k0_t1.sl.H11_3 loopInv_k0_t1.sl.H11_2 loopInv_k0_t1.sl.H11_1
    simp only [List.forall_mem_cons]
    refine ⟨?_, ?_, ?_, ?_, ?_, ?_, ?_, ?_, ?_, ?_, ?_, ?_, ?_, ?_, ?_, ?_, fun _ h => absurd h (List.not_mem_nil)⟩
    all_goals
      intro x
      change S1x8x2x128.Idx at x
      idx_vars x
      refine Eq.trans ?_ (G10_emb _ _ _ _ _ _ x0 x1 x2 x3).symm
      first
        | unfold loopInv_k0_t1.sl.k0_w32
        | skip
      try simp only [loopInv_k0_t1.sl.v578_lo, loopInv_k0_t1.sl.v578_hi, loopInv_k0_t1.sl.r_1, loopInv_k0_t1.sl.r_2, loopInv_k0_t1.sl.r_3, loopInv_k0_t1.sl.r_4, loopInv_k0_t1.sl.r_5, loopInv_k0_t1.sl.r_6, loopInv_k0_t1.sl.r_7, loopInv_k0_t1.sl.r_8, loopInv_k0_t1.sl.r_9, loopInv_k0_t1.sl.r_10, loopInv_k0_t1.sl.r_11, loopInv_k0_t1.sl.r_12, loopInv_k0_t1.sl.r_13, loopInv_k0_t1.sl.r_14, loopInv_k0_t1.sl.r_15, loopInv_k0_t1.sl.r_16, loopInv_k0_t1.sl.r_17, loopInv_k0_t1.sl.r_18, loopInv_k0_t1.sl.r_19, loopInv_k0_t1.sl.r_20, loopInv_k0_t1.sl.r_21, loopInv_k0_t1.sl.r_22, loopInv_k0_t1.sl.r_23, loopInv_k0_t1.sl.r_24, loopInv_k0_t1.sl.r_25, loopInv_k0_t1.sl.r_26, loopInv_k0_t1.sl.r_27, loopInv_k0_t1.sl.r_28, loopInv_k0_t1.sl.r_29, loopInv_k0_t1.sl.r_31, loopInv_k0_t1.sl.r_32, loopInv_k0_t1.sl.r_33, loopInv_k0_t1.sl.r_34, loopInv_k0_t1.sl.r_35, loopInv_k0_t1.sl.r_36, loopInv_k0_t1.sl.r_37, loopInv_k0_t1.sl.r_38, loopInv_k0_t1.sl.r_39, loopInv_k0_t1.sl.r_40, loopInv_k0_t1.sl.r_41, loopInv_k0_t1.sl.r_42, loopInv_k0_t1.sl.r_43, loopInv_k0_t1.sl.r_44, loopInv_k0_t1.sl.r_45, loopInv_k0_t1.sl.r_46, loopInv_k0_t1.sl.r_47, loopInv_k0_t1.sl.r_48, loopInv_k0_t1.sl.r_49, loopInv_k0_t1.sl.r_50, loopInv_k0_t1.sl.r_51, loopInv_k0_t1.sl.r_52, loopInv_k0_t1.sl.r_53, loopInv_k0_t1.sl.r_54, loopInv_k0_t1.sl.r_55, loopInv_k0_t1.sl.r_56, loopInv_k0_t1.sl.r_57, loopInv_k0_t1.sl.r_58, loopInv_k0_t1.sl.r_59, loopInv_k0_t1.sl.r_60, loopInv_k0_t1.sl.r_61, loopInv_k0_t1.sl.r_62, loopInv_k0_t1.sl.r_63, loopInv_k0_t1.sl.r_64, loopInv_k0_t1.sl.r_65, loopInv_k0_t1.sl.r_66, loopInv_k0_t1.sl.r_67, loopInv_k0_t1.sl.r_68]
      try simp only [k0_pay5, k0_pay6, k0_pay7, k0_pay8, k0_pay9, k0_pay10, k0_pay11, k0_pay81, k0_pay82, k0_pay83, fold_r, fold_r_30]
      pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, r_eq c arg1 arg8 k f1 f8 hp, r_30_eq c arg1 arg8 k f1 f8 hp]
      simp only [e1, e2, e3, e4, one_ne_zero, ↓reduceIte, quad]
      have hx1 := x1.isLt
      have hx2 := x2.isLt
      split
      · refine congrArg₂ _ (congrArg₂ _ (bx_congr ?_ ?_) (bx_congr ?_ ?_)) (congrArg₂ _ (bx_congr ?_ ?_) (bx_congr ?_ ?_)) <;> simp only [src] <;> omega
      · refine congrArg₂ _ (congrArg₂ _ (bx_congr ?_ ?_) (bx_congr ?_ ?_)) (congrArg₂ _ (bx_congr ?_ ?_) (bx_congr ?_ ?_)) <;> simp only [src] <;> omega
  · unfold loopInv_k0_t1.sl.H11_16 loopInv_k0_t1.sl.H11_15 loopInv_k0_t1.sl.H11_14 loopInv_k0_t1.sl.H11_13 loopInv_k0_t1.sl.H11_12 loopInv_k0_t1.sl.H11_11 loopInv_k0_t1.sl.H11_10 loopInv_k0_t1.sl.H11_9 loopInv_k0_t1.sl.H11_8 loopInv_k0_t1.sl.H11_7 loopInv_k0_t1.sl.H11_6 loopInv_k0_t1.sl.H11_5 loopInv_k0_t1.sl.H11_3 loopInv_k0_t1.sl.H11_2 loopInv_k0_t1.sl.H11_1
    simp only [List.mem_cons, exists_eq_or_imp]
    have l0 : (y 0).val < 2 := (y 0).isLt
    have l1 : (y 1).val < 64 := (y 1).isLt
    obtain h0 | h0 : (y 0).val = 0 ∨ (y 0).val = 1 := by omega
    all_goals
      obtain h1 | h1 | h1 | h1 | h1 | h1 | h1 | h1 : (y 1).val / 8 = 0 ∨ (y 1).val / 8 = 1 ∨ (y 1).val / 8 = 2 ∨ (y 1).val / 8 = 3 ∨
          (y 1).val / 8 = 4 ∨ (y 1).val / 8 = 5 ∨ (y 1).val / 8 = 6 ∨ (y 1).val / 8 = 7 := by omega
      all_goals
        repeat first
          | exact Or.inl (mem_piece y _ _ _ (by omega) (by omega) (by omega))
          | apply Or.inr

end
end
end Cert.Proof.KernelIdeal
end
-- ==== Proof.Val2.lean ====
module
public import proofs.«01_k».proof.Proof.Val1

/-! One trip of the loop: the extrema of each block, its scale and its zero point. -/

@[expose] public section
noncomputable section
namespace Cert.Proof.KernelIdeal
open Cert.KernelIdeal Cert.KernelIdeal.Gen
open Idealize.ShloMosaic Idealize.ShloMosaic.TcCoe Idealize.ShloMosaic.View

/-- The extremum over eight runs of eight, one element parity of each. -/
def oct (d : S1x256x12288.Idx → EReal) (op : EReal → EReal → EReal) (R C : ℕ) : EReal :=
  op (op (op (quad d op R C) (quad d op R (C + 8))) (op (quad d op R (C + 16)) (quad d op R (C + 24))))
    (op (op (quad d op R (C + 32)) (quad d op R (C + 40))) (op (quad d op R (C + 48)) (quad d op R (C + 56))))

/-- The largest element of a block of 64. -/
def MX (d : S1x256x12288.Idx → EReal) (R C : ℕ) : EReal := ⨆ j : Fin 64, bx d R (C + j.val)

/-- The smallest element of a block of 64. -/
def MN (d : S1x256x12288.Idx → EReal) (R C : ℕ) : EReal := ⨅ j : Fin 64, bx d R (C + j.val)

theorem forall_split (C : ℕ) (P : ℕ → Prop) :
    (∀ j : Fin 64, P (C + j.val)) ↔ (∀ (s : Fin 8) (e : Fin 4), P (C + 8 * s.val + 2 * e.val)) ∧ ∀ (s : Fin 8) (e : Fin 4), P (C + 1 + 8 * s.val + 2 * e.val) := by
  constructor
  · intro h
    refine ⟨fun s e => ?_, fun s e => ?_⟩
    · have := s.isLt; have := e.isLt
      have := h ⟨8 * s.val + 2 * e.val, by omega⟩
      rwa [← Nat.add_assoc] at this
    · have := s.isLt; have := e.isLt
      have := h ⟨1 + 8 * s.val + 2 * e.val, by omega⟩
      rwa [← Nat.add_assoc, ← Nat.add_assoc] at this
  · rintro ⟨h0, h1⟩ j
    have hj := j.isLt
    by_cases hp : j.val % 2 = 0
    · have := h0 ⟨j.val / 8, by omega⟩ ⟨j.val % 8 / 2, by omega⟩
      rwa [show C + 8 * (j.val / 8) + 2 * (j.val % 8 / 2) = C + j.val by omega] at this
    · have := h1 ⟨j.val / 8, by omega⟩ ⟨j.val % 8 / 2, by omega⟩
      rwa [show C + 1 + 8 * (j.val / 8) + 2 * (j.val % 8 / 2) = C + j.val by omega] at this

theorem forall_oct (C : ℕ) (P : ℕ → Prop) : (∀ (s : Fin 8) (e : Fin 4), P (C + 8 * s.val + 2 * e.val)) ↔
    (((((P C ∧ P (C + 2)) ∧ (P (C + 4) ∧ P (C + 6))) ∧ ((P (C + 8) ∧ P (C + 8 + 2)) ∧ (P (C + 8 + 4) ∧ P (C + 8 + 6)))) ∧
      (((P (C + 16) ∧ P (C + 16 + 2)) ∧ (P (C + 16 + 4) ∧ P (C + 16 + 6))) ∧ ((P (C + 24) ∧ P (C + 24 + 2)) ∧ (P (C + 24 + 4) ∧ P (C + 24 + 6))))) ∧
    ((((P (C + 32) ∧ P (C + 32 + 2)) ∧ (P (C + 32 + 4) ∧ P (C + 32 + 6))) ∧ ((P (C + 40) ∧ P (C + 40 + 2)) ∧ (P (C + 40 + 4) ∧ P (C + 40 + 6)))) ∧
      (((P (C + 48) ∧ P (C + 48 + 2)) ∧ (P (C + 48 + 4) ∧ P (C + 48 + 6))) ∧ ((P (C + 56) ∧ P (C + 56 + 2)) ∧ (P (C + 56 + 4) ∧ P (C + 56 + 6)))))) := by
  simp only [Fin.forall_fin_succ, Fin.forall_fin_zero_pi, IsEmpty.forall_iff, and_true]
  simp only [Fin.val_zero, Fin.val_succ, Nat.mul_zero, Nat.add_zero, Nat.zero_add, Nat.reduceAdd, Nat.reduceMul, and_assoc]

theorem oct_max (d : S1x256x12288.Idx → EReal) (R C : ℕ) : max (oct d max R C) (oct d max R (C + 1)) = MX d R C := by
  refine eq_of_forall_ge_iff fun z => ?_
  unfold MX
  rw [iSup_le_iff, forall_split C (fun n => bx d R n ≤ z), forall_oct C (fun n => bx d R n ≤ z), forall_oct (C + 1) (fun n => bx d R n ≤ z)]
  simp only [oct, quad, max_le_iff]

theorem oct_min (d : S1x256x12288.Idx → EReal) (R C : ℕ) : min (oct d min R C) (oct d min R (C + 1)) = MN d R C := by
  refine eq_of_forall_le_iff fun z => ?_
  unfold MN
  rw [le_iInf_iff, forall_split C (fun n => z ≤ bx d R n), forall_oct C (fun n => z ≤ bx d R n), forall_oct (C + 1) (fun n => z ≤ bx d R n)]
  simp only [oct, quad, le_min_iff]

/-- A block's first scale. -/
def scaleS (mx mn : EReal) : EReal :=
  if Ideal.div (mx - mn) (Ideal.ofBits .f32 0x41700000#32) = 0 then 1 else Ideal.div (mx - mn) (Ideal.ofBits .f32 0x41700000#32)

/-- A block's zero point. -/
def zeroS (mx mn : EReal) : EReal :=
  min (Ideal.ofBits .f32 0x41700000#32) (max 0 (Ideal.liftRound Ideal.roundHalfEven ((0 - mn) * Ideal.div 1 (scaleS mx mn))))

section
variable (c : Dev nD) (arg1 : Memref sig .tc .vmem S1x256x12288 .bf16) (arg8 : Memref sig .tc .vmem S256x256 .bf16)
  (arg10 arg11 : Memref sig .tc .vmem S2x64x2x128 .bf16)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

/-- The buffer of maxima, read back at every eighth row. -/
theorem raw10 (h s : ℕ) (inb) (x0 : Fin 1) (x1 : Fin 8) (x2 : Fin 2) (x3 : Fin 128) :
    arg10.view.readCov (loopInv_k0_t1.sl.H10_16 c arg1 arg8 k f1 f8)
      ({ off := ![h, s, 0, 0], size := ![1, 8, 2, 128], stride := ![1, 8, 1, 1], inb := inb } : LoadRect S2x64x2x128) (ix4 x0 x1 x2 x3) =
      quad (arg1.view.read (Elt Ideal) f1) max (128 * h + x3.val) (512 * k.val + 64 * x1.val + 8 * s + x2.val) := by
  rw [readCov_eq_canon']
  show View.canon _ _ = _
  rw [canon10 c arg1 arg8 k f1 f8 hp]
  show quad _ _ (128 * (h + 1 * x0.val) + (0 + 1 * x3.val)) (512 * k.val + 8 * (s + 8 * x1.val) + (0 + 1 * x2.val)) = _
  have := x0.isLt
  congr 1 <;> omega

/-- The buffer of minima, read back at every eighth row. -/
theorem raw11 (h s : ℕ) (inb) (x0 : Fin 1) (x1 : Fin 8) (x2 : Fin 2) (x3 : Fin 128) :
    arg11.view.readCov (loopInv_k0_t1.sl.H11_16 c arg1 arg8 k f1 f8)
      ({ off := ![h, s, 0, 0], size := ![1, 8, 2, 128], stride := ![1, 8, 1, 1], inb := inb } : LoadRect S2x64x2x128) (ix4 x0 x1 x2 x3) =
      quad (arg1.view.read (Elt Ideal) f1) min (128 * h + x3.val) (512 * k.val + 64 * x1.val + 8 * s + x2.val) := by
  rw [readCov_eq_canon']
  show View.canon _ _ = _
  rw [canon11 c arg1 arg8 k f1 f8 hp]
  show quad _ _ (128 * (h + 1 * x0.val) + (0 + 1 * x3.val)) (512 * k.val + 8 * (s + 8 * x1.val) + (0 + 1 * x2.val)) = _
  have := x0.isLt
  congr 1 <;> omega

/-- The maxima of the first half of a trip. -/
theorem r_74_eq (x0 : Fin 8) (x1 : Fin 128) : loopInv_k0_t1.sl.r_74 c arg1 arg8 arg10 k f1 f8 (ix2 x0 x1) =
    MX (arg1.view.read (Elt Ideal) f1) x1.val (512 * k.val + 64 * x0.val) := by
  simp only [loopInv_k0_t1.sl.r_74, loopInv_k0_t1.sl.r_69, loopInv_k0_t1.sl.v579_hi, loopInv_k0_t1.sl.v579_lo, loopInv_k0_t1.sl.v579_raw, loopInv_k0_t1.sl.v580_hi, loopInv_k0_t1.sl.v580_lo, loopInv_k0_t1.sl.v581, loopInv_k0_t1.sl.v582_hi, loopInv_k0_t1.sl.v582_lo, loopInv_k0_t1.sl.v582_raw, loopInv_k0_t1.sl.v583_hi, loopInv_k0_t1.sl.v583_lo, loopInv_k0_t1.sl.v584, loopInv_k0_t1.sl.v585_hi, loopInv_k0_t1.sl.v585_lo, loopInv_k0_t1.sl.v585_raw, loopInv_k0_t1.sl.v586_hi, loopInv_k0_t1.sl.v586_lo, loopInv_k0_t1.sl.v587, loopInv_k0_t1.sl.v588_hi, loopInv_k0_t1.sl.v588_lo, loopInv_k0_t1.sl.v588_raw, loopInv_k0_t1.sl.v589_hi, loopInv_k0_t1.sl.v589_lo, loopInv_k0_t1.sl.v590, loopInv_k0_t1.sl.v591_hi, loopInv_k0_t1.sl.v591_lo, loopInv_k0_t1.sl.v591_raw, loopInv_k0_t1.sl.v592_hi, loopInv_k0_t1.sl.v592_lo, loopInv_k0_t1.sl.v593, loopInv_k0_t1.sl.v594_hi, loopInv_k0_t1.sl.v594_lo, loopInv_k0_t1.sl.v594_raw, loopInv_k0_t1.sl.v597_raw, loopInv_k0_t1.sl.v600_raw]
  pointwise [k0_pay163, k0_pay169, raw10 c arg1 arg8 arg10 k f1 f8 hp]
  simp only [e1, e2, e3, e4, one_ne_zero, ↓reduceIte]
  exact oct_max _ _ _

/-- The minima of the first half of a trip. -/
theorem r_75_eq (x0 : Fin 8) (x1 : Fin 128) : k0_pay172 (F := Ideal) (loopInv_k0_t1.sl.r_75 c arg1 arg8 arg11 k f1 f8) (loopInv_k0_t1.sl.r_76 c arg1 arg8 arg11 k f1 f8) (ix2 x0 x1) =
    MN (arg1.view.read (Elt Ideal) f1) x1.val (512 * k.val + 64 * x0.val) := by
  simp only [loopInv_k0_t1.sl.r_75, loopInv_k0_t1.sl.r_76, loopInv_k0_t1.sl.r_70, loopInv_k0_t1.sl.r_71, loopInv_k0_t1.sl.r_72, loopInv_k0_t1.sl.r_73, loopInv_k0_t1.sl.v610_raw, loopInv_k0_t1.sl.v613_raw, loopInv_k0_t1.sl.v616_raw, loopInv_k0_t1.sl.v619_raw, loopInv_k0_t1.sl.v622_raw, loopInv_k0_t1.sl.v625_raw, loopInv_k0_t1.sl.v628_raw, loopInv_k0_t1.sl.v631_raw]
  pointwise [k0_pay164, k0_pay165, k0_pay166, k0_pay167, k0_pay168, k0_pay170, k0_pay171, k0_pay172, raw11 c arg1 arg8 arg11 k f1 f8 hp]
  simp only [e1, e2, e3, e4, one_ne_zero, ↓reduceIte]
  exact oct_min _ _ _

/-- The maxima of the second half of a trip. -/
theorem r_182_eq (x0 : Fin 8) (x1 : Fin 128) : k0_pay314 (F := Ideal) (loopInv_k0_t1.sl.r_182 c arg1 arg8 arg10 k f1 f8) (loopInv_k0_t1.sl.r_183 c arg1 arg8 arg10 k f1 f8) (ix2 x0 x1) =
    MX (arg1.view.read (Elt Ideal) f1) (128 + x1.val) (512 * k.val + 64 * x0.val) := by
  simp only [loopInv_k0_t1.sl.r_182, loopInv_k0_t1.sl.r_183, loopInv_k0_t1.sl.r_176, loopInv_k0_t1.sl.v1717_hi, loopInv_k0_t1.sl.v1717_lo, loopInv_k0_t1.sl.v1717_raw, loopInv_k0_t1.sl.v1718_hi, loopInv_k0_t1.sl.v1718_lo, loopInv_k0_t1.sl.v1719, loopInv_k0_t1.sl.v1720_hi, loopInv_k0_t1.sl.v1720_lo, loopInv_k0_t1.sl.v1720_raw, loopInv_k0_t1.sl.v1721_hi, loopInv_k0_t1.sl.v1721_lo, loopInv_k0_t1.sl.v1722, loopInv_k0_t1.sl.v1723_hi, loopInv_k0_t1.sl.v1723_lo, loopInv_k0_t1.sl.v1723_raw, loopInv_k0_t1.sl.v1724_hi, loopInv_k0_t1.sl.v1724_lo, loopInv_k0_t1.sl.v1725, loopInv_k0_t1.sl.v1726_hi, loopInv_k0_t1.sl.v1726_lo, loopInv_k0_t1.sl.v1726_raw, loopInv_k0_t1.sl.v1727_hi, loopInv_k0_t1.sl.v1727_lo, loopInv_k0_t1.sl.v1728, loopInv_k0_t1.sl.v1729_hi, loopInv_k0_t1.sl.v1729_lo, loopInv_k0_t1.sl.v1729_raw, loopInv_k0_t1.sl.v1730_hi, loopInv_k0_t1.sl.v1730_lo, loopInv_k0_t1.sl.v1732_raw, loopInv_k0_t1.sl.v1735_raw, loopInv_k0_t1.sl.v1738_raw]
  pointwise [k0_pay306, k0_pay312, k0_pay313, k0_pay314, raw10 c arg1 arg8 arg10 k f1 f8 hp]
  simp only [e1, e2, e3, e4, one_ne_zero, ↓reduceIte]
  exact oct_max _ _ _

/-- The minima of the second half of a trip. -/
theorem r_181_eq (x0 : Fin 8) (x1 : Fin 128) : k0_pay315 (F := Ideal) (loopInv_k0_t1.sl.r_181 c arg1 arg8 arg11 k f1 f8) (ix2 x0 x1) =
    MN (arg1.view.read (Elt Ideal) f1) (128 + x1.val) (512 * k.val + 64 * x0.val) := by
  simp only [loopInv_k0_t1.sl.r_181, loopInv_k0_t1.sl.r_177, loopInv_k0_t1.sl.r_178, loopInv_k0_t1.sl.r_179, loopInv_k0_t1.sl.r_180, loopInv_k0_t1.sl.v1748_raw, loopInv_k0_t1.sl.v1751_raw, loopInv_k0_t1.sl.v1754_raw, loopInv_k0_t1.sl.v1757_raw, loopInv_k0_t1.sl.v1760_raw, loopInv_k0_t1.sl.v1763_raw, loopInv_k0_t1.sl.v1766_raw, loopInv_k0_t1.sl.v1769_raw]
  pointwise [k0_pay307, k0_pay308, k0_pay309, k0_pay310, k0_pay311, k0_pay315, raw11 c arg1 arg8 arg11 k f1 f8 hp]
  simp only [e1, e2, e3, e4, one_ne_zero, ↓reduceIte]
  exact oct_min _ _ _

end

theorem pay179_eq (a : FVec Ideal S8x128 .f32) (b c : FVec Ideal S8x128 .bf16) (x0 : Fin 8) (x1 : Fin 128) :
    k0_pay179 (F := Ideal) a b c (ix2 x0 x1) = scaleS (a (ix2 x0 x1)) (k0_pay172 (F := Ideal) b c (ix2 x0 x1)) := by
  pointwise [k0_pay173, k0_pay174, k0_pay175, k0_pay179]
  rfl

theorem pay180_eq (a : FVec Ideal S8x128 .f32) (b c : FVec Ideal S8x128 .bf16) (x0 : Fin 8) (x1 : Fin 128) :
    k0_pay180 (F := Ideal) a b c (ix2 x0 x1) = Ideal.fptosi 32 (zeroS (a (ix2 x0 x1)) (k0_pay172 (F := Ideal) b c (ix2 x0 x1))) := by
  pointwise [k0_pay173, k0_pay174, k0_pay175, k0_pay176, k0_pay177, k0_pay178, k0_pay180]
  rfl

theorem pay323_eq (a : FVec Ideal S16x128 .bf16) (e : FVec Ideal S8x128 .bf16) (f : FVec Ideal S8x128 .f32) (x0 : Fin 8) (x1 : Fin 128) :
    k0_pay323 (F := Ideal) a e f (ix2 x0 x1) = scaleS (k0_pay314 (F := Ideal) e f (ix2 x0 x1)) (k0_pay315 (F := Ideal) a (ix2 x0 x1)) := by
  pointwise [k0_pay316, k0_pay317, k0_pay318, k0_pay323]
  rfl

theorem pay324_eq (a : FVec Ideal S16x128 .bf16) (e : FVec Ideal S8x128 .bf16) (f : FVec Ideal S8x128 .f32) (x0 : Fin 8) (x1 : Fin 128) :
    k0_pay324 (F := Ideal) a e f (ix2 x0 x1) = Ideal.fptosi 32 (zeroS (k0_pay314 (F := Ideal) e f (ix2 x0 x1)) (k0_pay315 (F := Ideal) a (ix2 x0 x1))) := by
  pointwise [k0_pay316, k0_pay317, k0_pay318, k0_pay319, k0_pay320, k0_pay322, k0_pay324]
  rfl
end Cert.Proof.KernelIdeal
end
-- ==== Proof.Val3.lean ====
module
public import proofs.«01_k».proof.Proof.Val2
public import Idealize.ShloMosaic.Lib.WritesUnit

/-! One trip of the loop: the rows of the scale and zero point buffers it leaves. -/

@[expose] public section
noncomputable section
namespace Cert.Proof.KernelIdeal
open Cert.KernelIdeal Cert.KernelIdeal.Gen
open Idealize.ShloMosaic Idealize.ShloMosaic.TcCoe Idealize.ShloMosaic.View

/-- The first scale of block `r` of row `R`. -/
def SC (d : S1x256x12288.Idx → EReal) (r R : ℕ) : EReal := scaleS (MX d R (64 * r)) (MN d R (64 * r))

/-- The zero point of block `r` of row `R`, as a word. -/
def ZR (d : S1x256x12288.Idx → EReal) (r R : ℕ) : BitVec 32 := Ideal.fptosi 32 (zeroS (MX d R (64 * r)) (MN d R (64 * r)))

/-- The first `8 k` rows of the scale buffer hold the blocks' scales. -/
def P16 (d : S1x256x12288.Idx → EReal) (k : ℕ) (x : S192x256.Idx → EReal) : Prop :=
  ∀ (r : Fin 192) (R : Fin 256), r.val < 8 * k → x (ix2 r R) = SC d r.val R.val

/-- The first `8 k` rows of the zero point buffer hold the blocks' zero points. -/
def P17 (d : S1x256x12288.Idx → EReal) (k : ℕ) (x : S192x256.Idx → BitVec 32) : Prop :=
  ∀ (r : Fin 192) (R : Fin 256), r.val < 8 * k → x (ix2 r R) = ZR d r.val R.val

theorem off2_eq : ∀ k : Fin k0_t1_loop.trips, k0_off2 k = ![8 * k.val, 0] := by decide
theorem off4_eq : ∀ k : Fin k0_t1_loop.trips, k0_off4 k = ![8 * k.val, 128] := by decide

/-- Two stores side by side on the rows `8 k … 8 k + 7`, read back. -/
theorem two_writes {e : EltTy} {S : Space} (v : View sig .tc S S192x256 e) (f : v.ty.Contents (Elt Ideal)) (k : ℕ)
    (G : ℕ → ℕ → Elt Ideal e) (offA offB : Fin 2 → ℕ) (hA : offA = ![8 * k, 0]) (hB : offB = ![8 * k, 128])
    (inbA) (inbB) (wA wB : S8x128.Idx → Elt Ideal e)
    (gA : ∀ (a : Fin 8) (b : Fin 128), wA (ix2 a b) = G (8 * k + a.val) b.val)
    (gB : ∀ (a : Fin 8) (b : Fin 128), wB (ix2 a b) = G (8 * k + a.val) (128 + b.val))
    (h : ∀ (r : Fin 192) (R : Fin 256), r.val < 8 * k → v.read (Elt Ideal) f (ix2 r R) = G r.val R.val)
    (r : Fin 192) (R : Fin 256) (hr : r.val < 8 * (k + 1)) :
    v.read (Elt Ideal) (v.writes (Elt Ideal) f
      [(⟨Rect.unit (s := S192x256) offB S8x128.size inbB, wB⟩ : View.Piece (Elt Ideal) S192x256 e), ⟨Rect.unit (s := S192x256) offA S8x128.size inbA, wA⟩]) (ix2 r R) = G r.val R.val := by
  have hR := R.isLt
  by_cases h0 : r.val < 8 * k
  · rw [View.read_writes_cons_unit_of_not_mem v f inbB wB _ (ix2 r R) hB (0 : Fin 2) (Or.inl h0),
      View.read_writes_cons_unit_of_not_mem v f inbA wA _ (ix2 r R) hA (0 : Fin 2) (Or.inl h0)]
    exact h r R h0
  · by_cases h1 : R.val < 128
    · rw [View.read_writes_cons_unit_of_not_mem v f inbB wB _ (ix2 r R) hB (1 : Fin 2) (Or.inl h1),
        View.read_writes_cons_unit_of_mem v f inbA wA _ (ix2 r R) (ix2 (⟨r.val - 8 * k, by omega⟩ : Fin 8) (⟨R.val, h1⟩ : Fin 128)) hA
          (by intro a; match a with
              | ⟨0, _⟩ => show r.val = 8 * k + (r.val - 8 * k); omega
              | ⟨1, _⟩ => show R.val = 0 + R.val; omega)]
      rw [gA]
      show G (8 * k + (r.val - 8 * k)) R.val = _
      rw [show 8 * k + (r.val - 8 * k) = r.val by omega]
    · rw [View.read_writes_cons_unit_of_mem v f inbB wB _ (ix2 r R) (ix2 (⟨r.val - 8 * k, by omega⟩ : Fin 8) (⟨R.val - 128, by omega⟩ : Fin 128)) hB
          (by intro a; match a with
              | ⟨0, _⟩ => show r.val = 8 * k + (r.val - 8 * k); omega
              | ⟨1, _⟩ => show R.val = 128 + (R.val - 128); omega)]
      rw [gB]
      show G (8 * k + (r.val - 8 * k)) (128 + (R.val - 128)) = _
      rw [show 8 * k + (r.val - 8 * k) = r.val by omega, show 128 + (R.val - 128) = R.val by omega]

section
variable (c : Dev nD) (arg1 : Memref sig .tc .vmem S1x256x12288 .bf16) (arg8 : Memref sig .tc .vmem S256x256 .bf16)
  (arg10 arg11 : Memref sig .tc .vmem S2x64x2x128 .bf16) (arg16 : Memref sig .tc .vmem S192x256 .f32) (arg17 : Memref sig .tc .vmem S192x256 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

/-- A trip extends the rows of scales. -/
theorem P16_step (f16 : Buf (Elt Ideal) (arg16.view.loc (c : Thread nD τ)))
    (h : P16 (arg1.view.read (Elt Ideal) f1) k.val (arg16.view.read (Elt Ideal) f16)) :
    P16 (arg1.view.read (Elt Ideal) f1) (k.val + 1)
      (arg16.view.read (Elt Ideal) (arg16.view.writes (Elt Ideal) f16 (loopInv_k0_t1.sl.H16_2 c arg1 arg8 arg10 arg11 k f1 f8))) := by
  intro r R hr
  unfold loopInv_k0_t1.sl.H16_2 loopInv_k0_t1.sl.H16_1
  refine two_writes arg16.view f16 k.val (SC (arg1.view.read (Elt Ideal) f1)) _ _ (off2_eq k) (off4_eq k) _ _ _ _ ?_ ?_ h r R hr
  · intro a b
    rw [pay179_eq, r_74_eq c arg1 arg8 arg10 k f1 f8 hp, r_75_eq c arg1 arg8 arg11 k f1 f8 hp]
    unfold SC
    rw [show 64 * (8 * k.val + a.val) = 512 * k.val + 64 * a.val by omega]
  · intro a b
    rw [pay323_eq, r_182_eq c arg1 arg8 arg10 k f1 f8 hp, r_181_eq c arg1 arg8 arg11 k f1 f8 hp]
    unfold SC
    rw [show 64 * (8 * k.val + a.val) = 512 * k.val + 64 * a.val by omega]

/-- A trip extends the rows of zero points. -/
theorem P17_step (f17 : Buf (Elt Ideal) (arg17.view.loc (c : Thread nD τ)))
    (h : P17 (arg1.view.read (Elt Ideal) f1) k.val (arg17.view.read (Elt Ideal) f17)) :
    P17 (arg1.view.read (Elt Ideal) f1) (k.val + 1)
      (arg17.view.read (Elt Ideal) (arg17.view.writes (Elt Ideal) f17 (loopInv_k0_t1.sl.H17_2 c arg1 arg8 arg10 arg11 k f1 f8))) := by
  intro r R hr
  unfold loopInv_k0_t1.sl.H17_2 loopInv_k0_t1.sl.H17_1
  refine two_writes arg17.view f17 k.val (ZR (arg1.view.read (Elt Ideal) f1)) _ _ (off2_eq k) (off4_eq k) _ _ _ _ ?_ ?_ h r R hr
  · intro a b
    rw [pay180_eq, r_74_eq c arg1 arg8 arg10 k f1 f8 hp, r_75_eq c arg1 arg8 arg11 k f1 f8 hp]
    unfold ZR
    rw [show 64 * (8 * k.val + a.val) = 512 * k.val + 64 * a.val by omega]
  · intro a b
    rw [pay324_eq, r_182_eq c arg1 arg8 arg10 k f1 f8 hp, r_181_eq c arg1 arg8 arg11 k f1 f8 hp]
    unfold ZR
    rw [show 64 * (8 * k.val + a.val) = 512 * k.val + 64 * a.val by omega]
end
end Cert.Proof.KernelIdeal
end
-- ==== Proof.Val4.lean ====
module
public import proofs.«01_k».proof.Proof.Val3

/-! The rest of the body: the scales laid out in rows of 256. -/

@[expose] public section
noncomputable section
namespace Cert.Proof.KernelIdeal
open Cert.KernelIdeal Cert.KernelIdeal.Gen
open Idealize.ShloMosaic Idealize.ShloMosaic.TcCoe Idealize.ShloMosaic.View

/-- The scales in row-major order over rows of 192 blocks, 256 rows to each block of weights. -/
def FL (blk : ℕ → S1x256x12288.Idx → EReal) (g : ℕ) : EReal := SC (blk (g / 192 / 256)) (g % 192) (g / 192 % 256)

/-- The first `192 t` flat rows' left halves are in place. -/
def P20 (blk : ℕ → S1x256x12288.Idx → EReal) (t : ℕ) (x : S1536x128.Idx → EReal) : Prop :=
  ∀ (n : Fin 1536) (b : Fin 128), n.val < 192 * t → x (ix2 n b) = FL blk (256 * n.val + b.val)

/-- The first `192 t` flat rows' right halves are in place. -/
def P21 (blk : ℕ → S1x256x12288.Idx → EReal) (t : ℕ) (x : S1536x128.Idx → EReal) : Prop :=
  ∀ (n : Fin 1536) (b : Fin 128), n.val < 192 * t → x (ix2 n b) = FL blk (256 * n.val + 128 + b.val)

theorem FL_eq {blk : ℕ → S1x256x12288.Idx → EReal} {d : S1x256x12288.Idx → EReal} {t : ℕ} (hd : blk t = d) {g j R : ℕ}
    (hj : j < 192) (hR : R < 256) (h : g = 49152 * t + 192 * R + j) : FL blk g = SC d j R := by
  unfold FL
  rw [show g / 192 / 256 = t by omega, show g % 192 = j by omega, show g / 192 % 256 = R by omega, hd]

/-- A store read at an index it wrote. -/
theorem put_mem {S : Space} (v : View sig .tc S S1536x128 .f32) (f : v.ty.Contents (Elt Ideal)) (r : Rect S1536x128)
    (w : r.shape.Idx → Elt Ideal .f32) (L) (y : S1536x128.Idx) (x : r.shape.Idx) (h : ∀ a, (y a).val = r.off a + r.stride a * (x a).val) :
    v.read (Elt Ideal) (v.writes (Elt Ideal) f ((⟨r, w⟩ : View.Piece (Elt Ideal) S1536x128 .f32) :: L)) y = w x := by
  have hy : r.emb x = y := funext fun a => Fin.ext (h a).symm
  rw [← hy]
  exact View.read_writes_cons_emb v f r w L x

/-- A store read at an index it missed. -/
theorem put_not_mem {S : Space} (v : View sig .tc S S1536x128 .f32) (f : v.ty.Contents (Elt Ideal)) (r : Rect S1536x128)
    (w : r.shape.Idx → Elt Ideal .f32) (L) (y : S1536x128.Idx) (a : Fin 2) (h : ∀ j < r.size a, (y a).val ≠ r.off a + r.stride a * j) :
    v.read (Elt Ideal) (v.writes (Elt Ideal) f ((⟨r, w⟩ : View.Piece (Elt Ideal) S1536x128 .f32) :: L)) y = v.read (Elt Ideal) (v.writes (Elt Ideal) f L) y := by
  refine View.read_slice_write_of_not_mem r _ _ _ ?_
  rw [Rect.map_emb_univ]
  intro hm
  obtain ⟨j, hj, e⟩ := (LoadRect.mem_set r.toLoadRect).1 hm a
  exact h j hj e

/-- Three strided stores that together fill 192 rows. -/
theorem three_writes {S : Space} (v : View sig .tc S S1536x128 .f32) (f : v.ty.Contents (Elt Ideal)) (t : ℕ) (G : ℕ → ℕ → EReal)
    (o0 o1 o2 : Fin 2 → ℕ) (h0 : o0 = ![192 * t, 0]) (h1 : o1 = ![192 * t + 1, 0]) (h2 : o2 = ![192 * t + 2, 0])
    (inb0) (sp0) (inb1) (sp1) (inb2) (sp2) (w0 w1 w2 : S64x128.Idx → Elt Ideal .f32)
    (g0 : ∀ (m : Fin 64) (b : Fin 128), w0 (ix2 m b) = G (192 * t + 3 * m.val) b.val)
    (g1 : ∀ (m : Fin 64) (b : Fin 128), w1 (ix2 m b) = G (192 * t + 1 + 3 * m.val) b.val)
    (g2 : ∀ (m : Fin 64) (b : Fin 128), w2 (ix2 m b) = G (192 * t + 2 + 3 * m.val) b.val)
    (h : ∀ (n : Fin 1536) (b : Fin 128), n.val < 192 * t → v.read (Elt Ideal) f (ix2 n b) = G n.val b.val)
    (n : Fin 1536) (b : Fin 128) (hn : n.val < 192 * (t + 1)) :
    v.read (Elt Ideal) (v.writes (Elt Ideal) f
      [(⟨⟨({ off := o2, size := ![64, 128], stride := ![3, 1], inb := inb2 } : LoadRect S1536x128), sp2⟩, w2⟩ : View.Piece (Elt Ideal) S1536x128 .f32),
       ⟨⟨({ off := o1, size := ![64, 128], stride := ![3, 1], inb := inb1 } : LoadRect S1536x128), sp1⟩, w1⟩,
       ⟨⟨({ off := o0, size := ![64, 128], stride := ![3, 1], inb := inb0 } : LoadRect S1536x128), sp0⟩, w0⟩]) (ix2 n b) = G n.val b.val := by
  subst h0 h1 h2
  by_cases hlt : n.val < 192 * t
  · rw [put_not_mem v f _ _ _ _ 0 (by intro j hj; simp only [Matrix.cons_val_zero] at hj ⊢; show n.val ≠ _; change j < 64 at hj; omega), put_not_mem v f _ _ _ _ 0 (by intro j hj; simp only [Matrix.cons_val_zero] at hj ⊢; show n.val ≠ _; change j < 64 at hj; omega), put_not_mem v f _ _ _ _ 0 (by intro j hj; simp only [Matrix.cons_val_zero] at hj ⊢; show n.val ≠ _; change j < 64 at hj; omega)]
    exact h n b hlt
  · obtain h3 | h3 | h3 : (n.val - 192 * t) % 3 = 0 ∨ (n.val - 192 * t) % 3 = 1 ∨ (n.val - 192 * t) % 3 = 2 := by omega
    · rw [put_not_mem v f _ _ _ _ 0 (by intro j hj; simp only [Matrix.cons_val_zero] at hj ⊢; show n.val ≠ _; change j < 64 at hj; omega), put_not_mem v f _ _ _ _ 0 (by intro j hj; simp only [Matrix.cons_val_zero] at hj ⊢; show n.val ≠ _; change j < 64 at hj; omega),
        put_mem v f _ _ _ _ (ix2 (⟨(n.val - 192 * t) / 3, by omega⟩ : Fin 64) b) (by intro a; match a with
            | ⟨0, _⟩ => show n.val = 192 * t + 3 * ((n.val - 192 * t) / 3); omega
            | ⟨1, _⟩ => show b.val = 0 + 1 * b.val; omega), g0]
      show G (192 * t + 3 * ((n.val - 192 * t) / 3)) b.val = _
      congr 1; omega
    · rw [put_not_mem v f _ _ _ _ 0 (by intro j hj; simp only [Matrix.cons_val_zero] at hj ⊢; show n.val ≠ _; change j < 64 at hj; omega),
        put_mem v f _ _ _ _ (ix2 (⟨(n.val - 192 * t) / 3, by omega⟩ : Fin 64) b) (by intro a; match a with
            | ⟨0, _⟩ => show n.val = 192 * t + 1 + 3 * ((n.val - 192 * t) / 3); omega
            | ⟨1, _⟩ => show b.val = 0 + 1 * b.val; omega), g1]
      show G (192 * t + 1 + 3 * ((n.val - 192 * t) / 3)) b.val = _
      congr 1; omega
    · rw [put_mem v f _ _ _ _ (ix2 (⟨(n.val - 192 * t) / 3, by omega⟩ : Fin 64) b) (by intro a; match a with
            | ⟨0, _⟩ => show n.val = 192 * t + 2 + 3 * ((n.val - 192 * t) / 3); omega
            | ⟨1, _⟩ => show b.val = 0 + 1 * b.val; omega), g2]
      show G (192 * t + 2 + 3 * ((n.val - 192 * t) / 3)) b.val = _
      congr 1; omega

theorem off6_eq : ∀ i : grid0.Coords, k0_off6 i = ![192 * (i 0).val, 0] := by decide
theorem off7_1 : ∀ i : grid0.Coords, k0_off7 i 1#32 = ![192 * (i 0).val + 1, 0] := by decide
theorem off7_2 : ∀ i : grid0.Coords, k0_off7 i 2#32 = ![192 * (i 0).val + 2, 0] := by decide

section
variable (c : Dev nD) (i : grid0.Coords) (arg16 : Memref sig .tc .vmem S192x256 .f32) (arg17 : Memref sig .tc .vmem S192x256 .i32)
  (arg18 arg19 : Memref sig .tc .vmem S256x128 .f32) (arg20 arg21 : Memref sig .tc .vmem S1536x128 .f32)
  (f16 : Buf (Elt Ideal) (arg16.view.loc (c : Thread nD τ))) (f17 : Buf (Elt Ideal) (arg17.view.loc (c : Thread nD τ)))
  (f19 : Buf (Elt Ideal) (arg19.view.loc (c : Thread nD τ)))
  (d : S1x256x12288.Idx → EReal) (h16 : P16 d 24 (arg16.view.read (Elt Ideal) f16))
include h16

/-- The natural-order scales, first 128 blocks of a row, read at every fourth row. -/
theorem natA (q : ℕ) (hq : q < 4) (inb) (m : Fin 64) (b : Fin 128) :
    arg18.view.readCov (kernelRun.sl.H18_1 c arg16 f16)
      ({ off := ![q, 0], size := ![64, 128], stride := ![4, 1], inb := inb } : LoadRect S256x128) (ix2 m b) = SC d b.val (4 * m.val + q) := by
  have hm := m.isLt
  have hb := b.isLt
  rw [readCov_eq_canon']
  show View.canon _ _ = _
  unfold kernelRun.sl.H18_1
  rw [View.canon_unit_zero (by decide)]
  have he : ({ off := ![q, 0], size := ![64, 128], stride := ![4, 1], inb := inb } : LoadRect S256x128).idx (ix2 m b) = ix2 (⟨4 * m.val + q, by omega⟩ : Fin 256) b :=
    funext fun a => Fin.ext (by
      match a with
      | ⟨0, _⟩ => show q + 4 * m.val = 4 * m.val + q; omega
      | ⟨1, _⟩ => show 0 + 1 * b.val = b.val; omega)
  rw [he, View.readAt_eq_ld, View.ld_unit_zero (by decide)]
  pointwise [k0_pay450, k0_pay453]
  rw [h16 _ _ (by show b.val < 192; omega)]

/-- The natural-order scales, last 64 blocks of a row, read at every fourth row. -/
theorem natB (q : ℕ) (hq : q < 4) (inb) (m : Fin 64) (b : Fin 128) (hb : b.val < 64) :
    View.readAt (Elt Ideal) arg19.view ({ off := ![q, 0], size := ![64, 128], stride := ![4, 1], inb := inb } : LoadRect S256x128)
      (arg19.view.writes (Elt Ideal) f19 (kernelRun.sl.H19_1 c arg16 f16)) (ix2 m b) = SC d (128 + b.val) (4 * m.val + q) := by
  have hm := m.isLt
  have he : ({ off := ![q, 0], size := ![64, 128], stride := ![4, 1], inb := inb } : LoadRect S256x128).idx (ix2 m b) = ix2 (⟨4 * m.val + q, by omega⟩ : Fin 256) b :=
    funext fun a => Fin.ext (by
      match a with
      | ⟨0, _⟩ => show q + 4 * m.val = 4 * m.val + q; omega
      | ⟨1, _⟩ => show 0 + 1 * b.val = b.val; omega)
  show arg19.view.read (Elt Ideal) _ (LoadRect.idx _ _) = _
  rw [he]
  unfold kernelRun.sl.H19_1
  refine (View.read_writes_cons_unit_of_mem arg19.view f19 inb_S256x128_S256x64_0_0 _ [] (ix2 (⟨4 * m.val + q, by omega⟩ : Fin 256) b) (ix2 (⟨4 * m.val + q, by omega⟩ : Fin 256) (⟨b.val, hb⟩ : Fin 64)) rfl
    (by intro a; match a with
        | ⟨0, _⟩ => show 4 * m.val + q = 0 + (4 * m.val + q); omega
        | ⟨1, _⟩ => show b.val = 0 + b.val; omega)).trans ?_
  rw [View.readAt_eq_ld, View.ld_unit_zero (by decide)]
  pointwise [k0_pay450, k0_pay454]
  rw [h16 _ _ (by show 128 + b.val < 192; omega)]

omit h16 in
/-- The left lanes are those below 64. -/
theorem mask_eq (m : Fin 64) (b : Fin 128) : k0_pay455 (ix2 m b) = if b.val < 64 then 1#1 else 0#1 := by
  pointwise [k0_pay455]
  have h : ∀ b : Fin 128, IntOp.cmpi CmpIPredicate.slt (BitVec.ofNat 32 b.val) 64#32 = if b.val < 64 then 1#1 else 0#1 := by decide
  exact h b

/-- The left half of the first flat row of a group. -/
theorem v43_eq (m : Fin 64) (b : Fin 128) : kernelRun.sl.v43 c arg16 arg18 f16 (ix2 m b) = SC d b.val (4 * m.val) := by
  simp only [kernelRun.sl.v43, kernelRun.sl.v26]
  pointwise []
  exact natA c arg16 arg18 f16 d h16 0 (by omega) _ m b

/-- The right half of the second flat row of a group. -/
theorem v59_eq (m : Fin 64) (b : Fin 128) : kernelRun.sl.v59 c arg16 arg18 f16 (ix2 m b) = SC d b.val (4 * m.val + 2) := by
  simp only [kernelRun.sl.v59, kernelRun.sl.v28]
  pointwise []
  exact natA c arg16 arg18 f16 d h16 2 (by omega) _ m b

/-- The right half of the first flat row of a group. -/
theorem v48_eq (m : Fin 64) (b : Fin 128) : kernelRun.sl.v48 c arg16 arg18 arg19 f19 f16 (ix2 m b) = if b.val < 64 then SC d (128 + b.val) (4 * m.val) else SC d (b.val - 64) (4 * m.val + 1) := by
  have hb := b.isLt
  simp only [kernelRun.sl.v48, kernelRun.sl.v44, kernelRun.sl.v36, kernelRun.sl.v27]
  pointwise []
  rw [mask_eq]
  by_cases h : b.val < 64
  · rw [if_pos h, if_pos h]
    refine (natB c arg16 arg19 f16 f19 d h16 0 (by omega) _ m _ (by first | omega | (simp only []; omega))).trans ?_
    congr 1

  · rw [if_neg h, if_neg h]
    refine (natA c arg16 arg18 f16 d h16 1 (by omega) _ m _).trans ?_
    congr 1
    simp only []; omega

/-- The left half of the second flat row of a group. -/
theorem v54_eq (m : Fin 64) (b : Fin 128) : kernelRun.sl.v54 c arg16 arg18 arg19 f19 f16 (ix2 m b) = if b.val < 64 then SC d (64 + b.val) (4 * m.val + 1) else SC d (64 + b.val) (4 * m.val + 1) := by
  have hb := b.isLt
  simp only [kernelRun.sl.v54, kernelRun.sl.v49, kernelRun.sl.v36, kernelRun.sl.v37, kernelRun.sl.v27]
  pointwise []
  rw [mask_eq]
  by_cases h : b.val < 64
  · rw [if_pos h, if_pos h]
    refine (natA c arg16 arg18 f16 d h16 1 (by omega) _ m _).trans ?_
    congr 1
    simp only []; omega
  · rw [if_neg h, if_neg h]
    refine (natB c arg16 arg19 f16 f19 d h16 1 (by omega) _ m _ (by first | omega | (simp only []; omega))).trans ?_
    congr 1
    simp only []; omega

/-- The left half of the third flat row of a group. -/
theorem pay1_eq (m : Fin 64) (b : Fin 128) : k0_pay1 (kernelRun.sl.v60 c arg16 arg18 arg19 f19 f16) (ix2 m b) = if b.val < 64 then SC d (128 + b.val) (4 * m.val + 2) else SC d (b.val - 64) (4 * m.val + 3) := by
  have hb := b.isLt
  simp only [kernelRun.sl.v60, kernelRun.sl.v38, kernelRun.sl.v29]
  pointwise [k0_pay1]
  rw [mask_eq]
  by_cases h : b.val < 64
  · rw [if_pos h, if_pos h]
    refine (natB c arg16 arg19 f16 f19 d h16 2 (by omega) _ m _ (by first | omega | (simp only []; omega))).trans ?_
    congr 1

  · rw [if_neg h, if_neg h]
    refine (natA c arg16 arg18 f16 d h16 3 (by omega) _ m _).trans ?_
    congr 1
    simp only []; omega

/-- The right half of the third flat row of a group. -/
theorem pay2_eq (m : Fin 64) (b : Fin 128) : k0_pay2 k0_pay455 (kernelRun.sl.v38 c arg16 arg18 f16) (kernelRun.sl.v39 c arg16 arg19 f19 f16) (ix2 m b) = if b.val < 64 then SC d (64 + b.val) (4 * m.val + 3) else SC d (64 + b.val) (4 * m.val + 3) := by
  have hb := b.isLt
  simp only [kernelRun.sl.v38, kernelRun.sl.v39, kernelRun.sl.v29]
  pointwise [k0_pay2]
  rw [mask_eq]
  by_cases h : b.val < 64
  · rw [if_pos h, if_pos h]
    refine (natA c arg16 arg18 f16 d h16 3 (by omega) _ m _).trans ?_
    congr 1
    simp only []; omega
  · rw [if_neg h, if_neg h]
    refine (natB c arg16 arg19 f16 f19 d h16 3 (by omega) _ m _ (by first | omega | (simp only []; omega))).trans ?_
    congr 1
    simp only []; omega

/-- The point's stores add its rows to the left halves. -/
theorem P20_step (blk : ℕ → S1x256x12288.Idx → EReal) (t : ℕ) (ht : (i 0).val = t) (hd : blk t = d) (f20 : arg20.view.ty.Contents (Elt Ideal))
    (h : P20 blk t (arg20.view.read (Elt Ideal) f20)) :
    P20 blk (t + 1) (arg20.view.read (Elt Ideal) (arg20.view.writes (Elt Ideal) f20 (kernelRun.sl.H20_3 c i arg16 arg18 arg19 f19 f16))) := by
  intro n b hn
  have hb := b.isLt
  unfold kernelRun.sl.H20_3 kernelRun.sl.H20_1
  refine three_writes arg20.view f20 t (fun n b => FL blk (256 * n + b)) _ _ _ (by rw [off6_eq, ht]) (by rw [off7_1, ht]) (by rw [off7_2, ht]) _ _ _ _ _ _ _ _ _ ?_ ?_ ?_ h n b hn
  · intro m b
    have hm := m.isLt; have hb := b.isLt
    refine (v43_eq c arg16 arg18 f16 d h16 m b).trans (FL_eq hd (by omega) (by omega) (by omega)).symm
  · intro m b
    have hm := m.isLt; have hb := b.isLt
    refine (v54_eq c arg16 arg18 arg19 f16 f19 d h16 m b).trans ?_
    rw [ite_self]
    exact (FL_eq hd (by omega) (by omega) (by omega)).symm
  · intro m b
    have hm := m.isLt; have hb := b.isLt
    refine (pay1_eq c arg16 arg18 arg19 f16 f19 d h16 m b).trans ?_
    split <;> exact (FL_eq hd (by omega) (by omega) (by omega)).symm

/-- The point's stores add its rows to the right halves. -/
theorem P21_step (blk : ℕ → S1x256x12288.Idx → EReal) (t : ℕ) (ht : (i 0).val = t) (hd : blk t = d) (f21 : arg21.view.ty.Contents (Elt Ideal))
    (h : P21 blk t (arg21.view.read (Elt Ideal) f21)) :
    P21 blk (t + 1) (arg21.view.read (Elt Ideal) (arg21.view.writes (Elt Ideal) f21 (kernelRun.sl.H21_3 c i arg16 arg18 arg19 f19 f16))) := by
  intro n b hn
  have hb := b.isLt
  unfold kernelRun.sl.H21_3 kernelRun.sl.H21_1
  refine three_writes arg21.view f21 t (fun n b => FL blk (256 * n + 128 + b)) _ _ _ (by rw [off6_eq, ht]) (by rw [off7_1, ht]) (by rw [off7_2, ht]) _ _ _ _ _ _ _ _ _ ?_ ?_ ?_ h n b hn
  · intro m b
    have hm := m.isLt; have hb := b.isLt
    refine (v48_eq c arg16 arg18 arg19 f16 f19 d h16 m b).trans ?_
    split <;> exact (FL_eq hd (by omega) (by omega) (by omega)).symm
  · intro m b
    have hm := m.isLt; have hb := b.isLt
    refine (v59_eq c arg16 arg18 f16 d h16 m b).trans (FL_eq hd (by omega) (by omega) (by omega)).symm
  · intro m b
    have hm := m.isLt; have hb := b.isLt
    refine (pay2_eq c arg16 arg18 arg19 f16 f19 d h16 m b).trans ?_
    rw [ite_self]
    exact (FL_eq hd (by omega) (by omega) (by omega)).symm

/-- The block of the scales result. -/
theorem out3_eq (arg3 : Memref sig .tc .vmem S1x256x192 .f32) (f3 : arg3.view.ty.Contents (Elt Ideal)) :
    arg3.view.read (Elt Ideal) (arg3.view.writes (Elt Ideal) f3 (kernelRun.sl.H3_1 c arg16 f16)) = fun x : S1x256x192.Idx => SC d (x 2).val (x 1).val := by
  funext x
  idx_vars x
  unfold kernelRun.sl.H3_1
  refine (View.read_writes_cons_unit_of_mem arg3.view f3 inb_S1x256x192_S1x256x192_0_0_0 _ [] (ix3 x0 x1 x2) (ix3 x0 x1 x2) rfl (by intro a; match a with
        | ⟨0, _⟩ => show x0.val = 0 + x0.val; omega
        | ⟨1, _⟩ => show x1.val = 0 + x1.val; omega
        | ⟨2, _⟩ => show x2.val = 0 + x2.val; omega)).trans ?_
  rw [View.readAt_eq_ld, View.ld_unit_zero (by decide)]
  pointwise [k0_pay450, k0_pay451]
  exact h16 _ _ x2.isLt

omit h16 in
/-- The block of the zeros result. -/
theorem out4_eq (h17 : P17 d 24 (arg17.view.read (Elt Ideal) f17)) (arg4 : Memref sig .tc .vmem S1x256x192 .i8) (f4 : arg4.view.ty.Contents (Elt Ideal)) :
    arg4.view.read (Elt Ideal) (arg4.view.writes (Elt Ideal) f4 (kernelRun.sl.H4_1 c arg17 f17)) = fun x : S1x256x192.Idx => BitVec.setWidth 8 (ZR d (x 2).val (x 1).val) := by
  funext x
  idx_vars x
  unfold kernelRun.sl.H4_1
  refine (View.read_writes_cons_unit_of_mem arg4.view f4 inb_S1x256x192_S1x256x192_0_0_0 _ [] (ix3 x0 x1 x2) (ix3 x0 x1 x2) rfl (by intro a; match a with
        | ⟨0, _⟩ => show x0.val = 0 + x0.val; omega
        | ⟨1, _⟩ => show x1.val = 0 + x1.val; omega
        | ⟨2, _⟩ => show x2.val = 0 + x2.val; omega)).trans ?_
  rw [View.readAt_eq_ld, View.ld_unit_zero (by decide)]
  pointwise [k0_pay452]
  rw [h17 _ _ x2.isLt]
end

set_option maxRecDepth 20000 in
/-- The stored matrix is the permutation. -/
theorem isPerm_pay448 : IsPerm (k0_pay448 (F := Ideal)) := by
  intro a b
  pointwise [k0_pay448]
  have h : ∀ a : Fin 256, IntOp.ori (IntOp.ori (IntOp.andi (BitVec.ofNat 32 a.val) 4294967232#32)
      (IntOp.shli ArithUnit.vector (IntOp.andi (BitVec.ofNat 32 a.val) 7#32) 3#32))
      (IntOp.andi (IntOp.shrsi ArithUnit.vector (BitVec.ofNat 32 a.val) 3#32) 7#32) = BitVec.ofNat 32 (src a.val) := by decide
  rw [h]
  have h1 := src_lt a.isLt
  have h2 := b.isLt
  by_cases e : b.val = src a.val
  · rw [if_pos e, e]
    simp [IntOp.cmpi, Scalar.select]
  · rw [if_neg e]
    have h3 : BitVec.ofNat 32 b.val ≠ BitVec.ofNat 32 (src a.val) := fun h4 => e (by
      have := congrArg BitVec.toNat h4
      rw [BitVec.toNat_ofNat, BitVec.toNat_ofNat] at this
      omega)
    have h5 : (BitVec.ofNat 32 b.val == BitVec.ofNat 32 (src a.val)) = false := beq_eq_false_iff_ne.2 h3
    simp [IntOp.cmpi, Scalar.select, h5]
end Cert.Proof.KernelIdeal
end
-- ==== Proof.RefV.lean ====
/- The reference's results, in the words the kernel's are stated in. -/
module

public import proofs.«01_k».proof.Proof.Gen.ReferenceIdeal.Read
public import proofs.«01_k».proof.Proof.Val4

@[expose] public section

noncomputable section

namespace Cert.Proof.RefV

open Cert.ReferenceIdeal Cert.ReferenceIdeal.Read
open Idealize.ShloMosaic Idealize.ShloMosaic.Tactic
open Cert.Proof.KernelIdeal (bx MX MN scaleS zeroS SC ZR FL)

/-- The argument's rows in blocks of 256. -/
def blks (x : S1x2048x12288.Idx → EReal) (t : ℕ) : Cert.KernelIdeal.S1x256x12288.Idx → EReal := fun y =>
  if h : 256 * t + (y 1).val < 2048 then x (ix3 (0 : Fin 1) (⟨256 * t + (y 1).val, h⟩ : Fin 2048) (y 2)) else 0

variable (x : S1x2048x12288.Idx → EReal)

theorem bx_blks (R : Fin 2048) (C : ℕ) (hC : C < 12288) :
    bx (blks x (R.val / 256)) (R.val % 256) C = x (ix3 (0 : Fin 1) R (⟨C, hC⟩ : Fin 12288)) := by
  have hR := R.isLt
  unfold bx blks
  refine (dif_pos (show 256 * (R.val / 256) + R.val % 256 % 256 < 2048 by omega)).trans ?_
  congr 1
  have e1 : (⟨256 * (R.val / 256) + R.val % 256 % 256, by omega⟩ : Fin 2048) = R := Fin.ext (by show 256 * (R.val / 256) + R.val % 256 % 256 = R.val; omega)
  have e2 : (⟨C % 12288, by omega⟩ : Fin 12288) = ⟨C, hC⟩ := Fin.ext (Nat.mod_eq_of_lt hC)
  rw [← e2]
  exact congrArg (fun q : Fin 2048 => ix3 (0 : Fin 1) q (⟨C % 12288, by omega⟩ : Fin 12288)) e1

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem fold_max {n : ℕ} (f : Fin n → EReal) (b : EReal) (hb : b = ⊥) : Finset.fold max b f Finset.univ = ⨆ j, f j := by
  subst hb
  rw [← Finset.sup_univ_eq_iSup]; rfl
theorem fold_min {n : ℕ} (f : Fin n → EReal) (b : EReal) (hb : b = ⊤) : Finset.fold min b f Finset.univ = ⨅ j, f j := by
  subst hb
  rw [← Finset.inf_univ_eq_iInf]; rfl

theorem v1_apply (R : Fin 2048) (r : Fin 192) (j : Fin 64) :
    val_main_v1 (F := Ideal) x (ix4 (0 : Fin 1) R r j) = bx (blks x (R.val / 256)) (R.val % 256) (64 * r.val + j.val) := by
  have hr := r.isLt
  have hj := j.isLt
  rw [bx_blks x R (64 * r.val + j.val) (by omega)]
  pointwise [val_main_v1, val_main_v0]
  exact congrArg (fun q : Fin 12288 => x (ix3 (0 : Fin 1) R q)) (Fin.ext (by show r.val * 64 + j.val = 64 * r.val + j.val; omega))

/-- The reference's largest element of a block. -/
theorem v3_apply (R : Fin 2048) (r : Fin 192) :
    val_main_v3 (F := Ideal) x (ix3 (0 : Fin 1) R r) = MX (blks x (R.val / 256)) (R.val % 256) (64 * r.val) := by
  have h : ∀ j, val_main_v1 (F := Ideal) x (ix4 (0 : Fin 1) R r j) = _ := v1_apply x R r
  unfold val_main_v3 MX
  simp only [← h]
  generalize val_main_v1 (F := Ideal) x = y
  pointwise [val_main_cst_0]
  exact fold_max _ _ neg_inf

/-- The reference's smallest element of a block. -/
theorem v2_apply (R : Fin 2048) (r : Fin 192) :
    val_main_v2 (F := Ideal) x (ix3 (0 : Fin 1) R r) = MN (blks x (R.val / 256)) (R.val % 256) (64 * r.val) := by
  have h : ∀ j, val_main_v1 (F := Ideal) x (ix4 (0 : Fin 1) R r j) = _ := v1_apply x R r
  unfold val_main_v2 MN
  simp only [← h]
  generalize val_main_v1 (F := Ideal) x = y
  pointwise [val_main_cst]
  exact fold_min _ _ pos_inf

/-- The reference's scales. -/
theorem v9_apply (R : Fin 2048) (r : Fin 192) :
    val_main_v9 (F := Ideal) x (ix3 (0 : Fin 1) R r) = SC (blks x (R.val / 256)) r.val (R.val % 256) := by
  unfold SC scaleS
  rw [← v3_apply, ← v2_apply]
  rw [val_main_v9_apply, val_main_v8_apply, val_main_v6_apply, val_main_v4_apply, val_main_v5_apply, val_main_v7_apply,
    val_main_call0_v1_apply, val_main_call0_v0_apply, val_main_cst_1_apply, val_main_cst_2_apply, val_main_cst_3_apply]
  generalize val_main_v3 (F := Ideal) x (ix3 (0 : Fin 1) R r) = y
  generalize val_main_v2 (F := Ideal) x (ix3 (0 : Fin 1) R r) = z
  pointwise []

/-- The reference's zero points, as words. -/
theorem v30_apply (R : Fin 2048) (r : Fin 192) :
    val_main_v30 (F := Ideal) x (ix3 (0 : Fin 1) R r) = ZR (blks x (R.val / 256)) r.val (R.val % 256) := by
  unfold ZR zeroS
  rw [val_main_v30_apply, val_main_v13_apply, val_main_call2_v4_apply, val_main_call2_v3_apply, val_main_cst_5_apply, val_main_call2_v2_apply,
    val_main_call2_v1_apply, val_main_call2_v0_apply, val_main_cst_4_apply, val_main_v12_apply, val_main_v11_apply, val_main_v10_apply, v9_apply]
  unfold SC
  rw [← v3_apply, ← v2_apply]
  generalize val_main_v3 (F := Ideal) x (ix3 (0 : Fin 1) R r) = y
  generalize val_main_v2 (F := Ideal) x (ix3 (0 : Fin 1) R r) = z
  have hs : scaleS y z ≠ 0 := by
    unfold scaleS
    split
    · exact one_ne_zero
    · assumption
  generalize scaleS y z = s at hs
  pointwise []
  unfold Ideal.div
  rw [if_neg hs, if_neg hs, one_mul, zero_sub]
  rfl

theorem v32_apply (i : S_.Idx) : val_main_v32 (F := Ideal) x i = ∑ R : Fin 2048, ∑ r : Fin 192, SC (blks x (R.val / 256)) r.val (R.val % 256) := by
  simp only [← v9_apply]
  unfold val_main_v32
  generalize val_main_v9 (F := Ideal) x = y
  pointwise [val_main_cst_8]
  exact Fin.sum_univ_one _

theorem v36_apply (n : Fin 1536) (b : Fin 256) :
    val_main_v36 (F := Ideal) x (ix2 n b) = FL (blks x) (256 * n.val + b.val) - val_main_v33 (F := Ideal) x ix0 := by
  have hn := n.isLt
  have hb := b.isLt
  have h : val_main_v9 (F := Ideal) x (ix3 (0 : Fin 1) (⟨(n.val * 256 + b.val) / 192, by omega⟩ : Fin 2048) (⟨(n.val * 256 + b.val) % 192, by omega⟩ : Fin 192))
      = FL (blks x) (256 * n.val + b.val) := by
    rw [v9_apply]; unfold FL; simp only [mul_comm n.val 256]
  rw [← h]
  unfold val_main_v36 val_main_v35
  generalize val_main_v9 (F := Ideal) x = y
  pointwise [val_main_v34]

theorem v40_apply (n : Fin 1536) :
    val_main_v40 (F := Ideal) x (ix1 n) = Ideal.div (⨆ b : Fin 256, FloatOps.absf (F := Ideal) (φ := .f32) (val_main_v36 (F := Ideal) x (ix2 n b))) (Ideal.ofBits .f32 0x42FE0000#32) := by
  unfold val_main_v40 val_main_v38 val_main_v37
  generalize val_main_v36 (F := Ideal) x = y
  pointwise [val_main_v39, val_main_cst_11, val_main_cst_10]
  rw [fold_max _ _ neg_inf]

theorem v46_apply (n : Fin 1536) (b : Fin 256) :
    val_main_v46 (F := Ideal) x (ix2 n b) = Ideal.fptosi 32 (min (Ideal.ofBits .f32 0x42FE0000#32) (max (Ideal.ofBits .f32 0xC2FE0000#32)
      (Ideal.liftRound Ideal.roundHalfEven (Ideal.div (val_main_v36 (F := Ideal) x (ix2 n b)) (val_main_v40 (F := Ideal) x (ix1 n)))))) := by
  rw [val_main_v46_apply, val_main_v45_apply, val_main_call6_v4_apply, val_main_call6_v3_apply, val_main_cst_13_apply, val_main_call6_v2_apply,
    val_main_call6_v1_apply, val_main_call6_v0_apply, val_main_cst_12_apply, val_main_v44_apply, val_main_v43_apply, val_main_v42_apply, val_main_v41_apply]
  rw [show idx_main_v41 (idx_main_v42 (ix2 n b)) = ix1 n from by funext a; match a with | ⟨0, _⟩ => rfl]
  generalize val_main_v36 (F := Ideal) x (ix2 n b) = y
  generalize val_main_v40 (F := Ideal) x (ix1 n) = z
  pointwise []
  rfl

end Cert.Proof.RefV

end
-- ==== Proof.Val5.lean ====
module
public import proofs.«01_k».proof.Proof.Val3
public import Idealize.ShloMosaic.Lib.BitcastFour

/-! One trip of the loop: the buffers of the second pass, and the words of the packed codes. -/

@[expose] public section
noncomputable section
namespace Cert.Proof.KernelIdeal
open Cert.KernelIdeal Cert.KernelIdeal.Gen
open Idealize.ShloMosaic Idealize.ShloMosaic.TcCoe Idealize.ShloMosaic.View

/-- Pairs of 16-bit rows read as words: the even row is the low half. -/
theorem bc16_32 (x : S16x128.Idx → BitVec 16) (h : S16x128.Bitcasts 16 S8x128 32) (a : Fin 8) (l : Fin 128) :
    bitcast S8x128 32 x h (ix2 a l) = x (ix2 (⟨2 * a.val + 1, by omega⟩ : Fin 16) l) ++ x (ix2 (⟨2 * a.val, by omega⟩ : Fin 16) l) := by
  rw [bitcast_16_32]
  congr 2 <;> funext c <;> match c with
    | ⟨0, _⟩ => exact Fin.ext ((h.srcIdx_row _ _ _ ⟨0, Nat.zero_lt_two⟩ rfl).trans rfl)
    | ⟨1, _⟩ => exact Fin.ext (h.srcIdx_other _ _ _ ⟨1, Nat.one_lt_two⟩ (by show ¬ 1 + 2 = 2; omega))

/-- Words read as pairs of 16-bit rows. -/
theorem bc32_16 (x : S8x128.Idx → BitVec 32) (h : S8x128.Bitcasts 32 S16x128 16) (a : Fin 16) (l : Fin 128) :
    bitcast S16x128 16 x h (ix2 a l) = (x (ix2 (⟨a.val / 2, by omega⟩ : Fin 8) l)).extractLsb' (16 * (a.val % 2)) 16 := by
  rw [bitcast_32_16]
  show BitVec.extractLsb' (16 * (a.val % 2)) 16 _ = _
  congr 2 <;> funext c <;> match c with
    | ⟨0, _⟩ => exact Fin.ext ((h.srcIdx_row _ _ _ ⟨0, Nat.zero_lt_two⟩ rfl).trans rfl)
    | ⟨1, _⟩ => exact Fin.ext (h.srcIdx_other _ _ _ ⟨1, Nat.one_lt_two⟩ (by show ¬ 1 + 2 = 2; omega))

/-- The low halves: the even rows. -/
theorem bc32_16_lo (x : S8x128.Idx → BitVec 32) (h : S8x128.Bitcasts 32 S16x128 16) (s : ℕ) (hs : 2 * s < 16) (l : Fin 128) :
    bitcast S16x128 16 x h (ix2 (⟨2 * s, hs⟩ : Fin 16) l) = (x (ix2 (⟨s, by omega⟩ : Fin 8) l)).extractLsb' 0 16 := by
  rw [bc32_16]
  have e : (⟨2 * s / 2, by omega⟩ : Fin 8) = ⟨s, by omega⟩ := Fin.ext (by show 2 * s / 2 = s; omega)
  show BitVec.extractLsb' (16 * (2 * s % 2)) 16 (x (ix2 (⟨2 * s / 2, _⟩ : Fin 8) l)) = _
  rw [e, show 16 * (2 * s % 2) = 0 by omega]

/-- The high halves: the odd rows. -/
theorem bc32_16_hi (x : S8x128.Idx → BitVec 32) (h : S8x128.Bitcasts 32 S16x128 16) (s : ℕ) (hs : 2 * s + 1 < 16) (l : Fin 128) :
    bitcast S16x128 16 x h (ix2 (⟨2 * s + 1, hs⟩ : Fin 16) l) = (x (ix2 (⟨s, by omega⟩ : Fin 8) l)).extractLsb' 16 16 := by
  rw [bc32_16]
  have e : (⟨(2 * s + 1) / 2, by omega⟩ : Fin 8) = ⟨s, by omega⟩ := Fin.ext (by show (2 * s + 1) / 2 = s; omega)
  show BitVec.extractLsb' (16 * ((2 * s + 1) % 2)) 16 (x (ix2 (⟨(2 * s + 1) / 2, _⟩ : Fin 8) l)) = _
  rw [e, show 16 * ((2 * s + 1) % 2) = 16 by omega]

/-- Words read as bytes: row `4 s + j` is byte `j` of row `s`. -/
theorem bc32_8 (x : S8x128.Idx → BitVec 32) (h : S8x128.Bitcasts 32 S32x128 8) (a : Fin 32) (l : Fin 128) :
    bitcast S32x128 8 x h (ix2 a l) = (x (ix2 (⟨a.val / 4, by omega⟩ : Fin 8) l)).extractLsb' (8 * (a.val % 4)) 8 := by
  apply BitVec.eq_of_getLsbD_eq
  intro i hi
  rw [bitcast_getLsbD x h _ i hi (by decide), BitVec.getLsbD_extractLsb']
  have ep : (a.val * 8 + i) / 32 = a.val / 4 := by omega
  have eq : (a.val * 8 + i) % 32 = 8 * (a.val % 4) + i := by omega
  show (x (h.srcIdx _ ((a.val * 8 + i) / 32) _)).getLsbD ((a.val * 8 + i) % 32) = _
  rw [eq]
  simp only [hi, decide_true, Bool.true_and]
  congr 2
  funext c
  match c with
    | ⟨0, _⟩ => exact Fin.ext ((h.srcIdx_row _ _ _ ⟨0, Nat.zero_lt_two⟩ rfl).trans ep)
    | ⟨1, _⟩ => exact Fin.ext (h.srcIdx_other _ _ _ ⟨1, Nat.one_lt_two⟩ (by show ¬ 1 + 2 = 2; omega))

/-- The factor of a block's elements: the inverse of its scale, and for a constant block at most 1 and at most what brings it to 1024. -/
def invS (mx mn : EReal) : EReal :=
  if Ideal.div (mx - mn) (Ideal.ofBits .f32 0x41700000#32) = 0 then
    min 1 (Ideal.div (Ideal.ofBits .f32 0x44800000#32) (FloatOps.absf (F := Ideal) (φ := .f32) mx))
  else Ideal.div 1 (scaleS mx mn)

/-- A pattern twice in a word: the bound `v` less the zero point. -/
def bndS (v : BitVec 32) (mx mn : EReal) : BitVec 32 :=
  BitVec.setWidth 16 (IntOp.addi (Ideal.fptosi 32 (Ideal.ofBits .f32 v - zeroS mx mn)) 17024#32) ++
    BitVec.setWidth 16 (IntOp.addi (Ideal.fptosi 32 (Ideal.ofBits .f32 v - zeroS mx mn)) 17024#32)

/-- The word added to the second pair of a byte: the zero point at both places of both bytes, and what brings the halves to multiples of 256. -/
def zaS (mx mn : EReal) : BitVec 32 := IntOp.addi (IntOp.muli (Ideal.fptosi 32 (zeroS mx mn)) 1114129#32) 14418144#32

/-- The word of one element. -/
def codeW (y inv : EReal) : BitVec 32 :=
  IntOp.addi (Ideal.fptosi 32 (Ideal.liftRound Ideal.roundHalfEven (y * inv + Ideal.ofBits .f32 0x4B404320#32))) 1249902592#32

/-- Two elements' words cut to 16 bits and clamped between two pairs of bounds. -/
def pairW (a b lo hi : BitVec 32) : BitVec 32 :=
  IntOp.minsi (IntOp.maxsi ((BitVec.setWidth 16 b ++ BitVec.setWidth 16 a).extractLsb' 16 16) (lo.extractLsb' 16 16)) (hi.extractLsb' 16 16) ++
    IntOp.minsi (IntOp.maxsi ((BitVec.setWidth 16 b ++ BitVec.setWidth 16 a).extractLsb' 0 16) (lo.extractLsb' 0 16)) (hi.extractLsb' 0 16)

/-- The four bytes of eight elements. -/
def wordW (y : ℕ → EReal) (inv : EReal) (lo hi za : BitVec 32) : BitVec 32 :=
  IntOp.ori
    (IntOp.andi (IntOp.addi (IntOp.shli .vector (pairW (codeW (y 0) inv) (codeW (y 4) inv) lo hi) 4#32)
      (IntOp.addi (pairW (codeW (y 1) inv) (codeW (y 5) inv) lo hi) za)) 16711935#32)
    (IntOp.shli .vector (IntOp.andi (IntOp.addi (IntOp.shli .vector (pairW (codeW (y 2) inv) (codeW (y 6) inv) lo hi) 4#32)
      (IntOp.addi (pairW (codeW (y 3) inv) (codeW (y 7) inv) lo hi) za)) 16711935#32) 8#32)

/-- The word of elements `8 s … 8 s + 7` of the block of 64 columns from `C` on. -/
def blockW (d : S1x256x12288.Idx → EReal) (R C s : ℕ) : BitVec 32 :=
  wordW (fun e => bx d R (C + (8 * s + e))) (invS (MX d R C) (MN d R C)) (bndS 0x43200000#32 (MX d R C) (MN d R C))
    (bndS 0x432F0000#32 (MX d R C) (MN d R C)) (zaS (MX d R C) (MN d R C))

theorem pay181_eq (a : FVec Ideal S8x128 .f32) (b c : FVec Ideal S8x128 .bf16) (x0 : Fin 1) (x1 : Fin 8) (x2 : Fin 128) :
    k0_pay181 (F := Ideal) a b c (ix3 x0 x1 x2) = invS (a (ix2 x1 x2)) (k0_pay172 (F := Ideal) b c (ix2 x1 x2)) := by
  pointwise [k0_pay181, k0_pay173, k0_pay174, k0_pay175, k0_pay176]
  rfl

theorem pay177_eq (a : FVec Ideal S8x128 .f32) (b c : FVec Ideal S8x128 .bf16) (x0 : Fin 8) (x1 : Fin 128) :
    k0_pay177 (F := Ideal) a b c (ix2 x0 x1) = zeroS (a (ix2 x0 x1)) (k0_pay172 (F := Ideal) b c (ix2 x0 x1)) := by
  pointwise [k0_pay173, k0_pay174, k0_pay175, k0_pay176, k0_pay177]
  rfl

theorem pay320_eq (a : FVec Ideal S16x128 .bf16) (e : FVec Ideal S8x128 .bf16) (f : FVec Ideal S8x128 .f32) (x0 : Fin 8) (x1 : Fin 128) :
    k0_pay320 (F := Ideal) a e f (ix2 x0 x1) = zeroS (k0_pay314 (F := Ideal) e f (ix2 x0 x1)) (k0_pay315 (F := Ideal) a (ix2 x0 x1)) := by
  pointwise [k0_pay316, k0_pay317, k0_pay318, k0_pay319, k0_pay320]
  rfl

theorem pay321_eq (a : FVec Ideal S16x128 .bf16) (e : FVec Ideal S8x128 .bf16) (f : FVec Ideal S8x128 .f32) (x0 : Fin 8) (x1 : Fin 128) :
    k0_pay321 (F := Ideal) a e f (ix2 x0 x1) = invS (k0_pay314 (F := Ideal) e f (ix2 x0 x1)) (k0_pay315 (F := Ideal) a (ix2 x0 x1)) := by
  pointwise [k0_pay316, k0_pay317, k0_pay318, k0_pay319, k0_pay321]
  rfl

theorem pay183_eq (a : FVec Ideal S8x128 .f32) (b c : FVec Ideal S8x128 .bf16) (x0 : Fin 1) (x1 : Fin 8) (x2 : Fin 128) :
    k0_pay183 (F := Ideal) (k0_pay182 (F := Ideal) a b c) (ix3 x0 x1 x2) = bndS 0x43200000#32 (a (ix2 x1 x2)) (k0_pay172 (F := Ideal) b c (ix2 x1 x2)) := by
  pointwise [k0_pay182, k0_pay183, pay177_eq]
  rfl

theorem pay184_eq (a : FVec Ideal S8x128 .f32) (b c : FVec Ideal S8x128 .bf16) (x0 : Fin 1) (x1 : Fin 8) (x2 : Fin 128) :
    k0_pay184 (F := Ideal) (k0_pay177 (F := Ideal) a b c) (ix3 x0 x1 x2) = bndS 0x432F0000#32 (a (ix2 x1 x2)) (k0_pay172 (F := Ideal) b c (ix2 x1 x2)) := by
  pointwise [k0_pay184, pay177_eq]
  rfl

theorem pay185_eq (a : FVec Ideal S8x128 .f32) (b c : FVec Ideal S8x128 .bf16) (x0 : Fin 1) (x1 : Fin 8) (x2 : Fin 128) :
    k0_pay185 (k0_pay178 (F := Ideal) a b c) (ix3 x0 x1 x2) = zaS (a (ix2 x1 x2)) (k0_pay172 (F := Ideal) b c (ix2 x1 x2)) := by
  pointwise [k0_pay178, k0_pay185, pay177_eq]
  rfl

theorem pay325_eq (a : FVec Ideal S16x128 .bf16) (e : FVec Ideal S8x128 .bf16) (f : FVec Ideal S8x128 .f32) (x0 : Fin 1) (x1 : Fin 8) (x2 : Fin 128) :
    k0_pay325 (F := Ideal) (k0_pay321 (F := Ideal) a e f) (ix3 x0 x1 x2) = invS (k0_pay314 (F := Ideal) e f (ix2 x1 x2)) (k0_pay315 (F := Ideal) a (ix2 x1 x2)) := by
  pointwise [k0_pay325, pay321_eq]

theorem pay326_eq (a : FVec Ideal S16x128 .bf16) (e : FVec Ideal S8x128 .bf16) (f : FVec Ideal S8x128 .f32) (x0 : Fin 1) (x1 : Fin 8) (x2 : Fin 128) :
    k0_pay326 (F := Ideal) (k0_pay320 (F := Ideal) a e f) (ix3 x0 x1 x2) = bndS 0x43200000#32 (k0_pay314 (F := Ideal) e f (ix2 x1 x2)) (k0_pay315 (F := Ideal) a (ix2 x1 x2)) := by
  pointwise [k0_pay326, pay320_eq]
  rfl

theorem pay327_eq (a : FVec Ideal S16x128 .bf16) (e : FVec Ideal S8x128 .bf16) (f : FVec Ideal S8x128 .f32) (x0 : Fin 1) (x1 : Fin 8) (x2 : Fin 128) :
    k0_pay327 (F := Ideal) (k0_pay320 (F := Ideal) a e f) (ix3 x0 x1 x2) = bndS 0x432F0000#32 (k0_pay314 (F := Ideal) e f (ix2 x1 x2)) (k0_pay315 (F := Ideal) a (ix2 x1 x2)) := by
  pointwise [k0_pay327, pay320_eq]
  rfl

theorem pay328_eq (a : FVec Ideal S16x128 .bf16) (e : FVec Ideal S8x128 .bf16) (f : FVec Ideal S8x128 .f32) (x0 : Fin 1) (x1 : Fin 8) (x2 : Fin 128) :
    k0_pay328 (k0_pay322 (F := Ideal) a e f) (ix3 x0 x1 x2) = zaS (k0_pay314 (F := Ideal) e f (ix2 x1 x2)) (k0_pay315 (F := Ideal) a (ix2 x1 x2)) := by
  pointwise [k0_pay322, k0_pay328, pay320_eq]
  rfl

theorem canon_at {S : Shape} {e : EltTy} (v : View sig .tc .vmem S e) (l : List (View.Piece (Elt Ideal) S e)) (r : LoadRect S) (j : r.shape.Idx) :
    v.readCov l r j = View.canon l (r.idx j) := by
  rw [readCov_eq_canon']

/-- What the buffer of permuted tiles holds. -/
def G9 (d : S1x256x12288.Idx → EReal) (k : ℕ) (y : S512x256.Idx) : EReal := bx d (y 1).val (512 * k + src (y 0).val)

/-- What a buffer of values of the blocks of a trip holds: `f` of the block's largest and least element. -/
def G12 {α : Type} (d : S1x256x12288.Idx → EReal) (k : ℕ) (f : EReal → EReal → α) (y : S2x8x128.Idx) : α :=
  f (MX d (128 * (y 0).val + (y 2).val) (512 * k + 64 * (y 1).val)) (MN d (128 * (y 0).val + (y 2).val) (512 * k + 64 * (y 1).val))

theorem G12_emb {α : Type} (d : S1x256x12288.Idx → EReal) (k : ℕ) (f : EReal → EReal → α) (h : ℕ) (inb) (x0 : Fin 1) (x1 : Fin 8) (x2 : Fin 128) :
    G12 d k f ((Rect.unit ![h, 0, 0] ![1, 8, 128] inb : Rect S2x8x128).emb (ix3 x0 x1 x2)) =
      f (MX d (128 * h + x2.val) (512 * k + 64 * x1.val)) (MN d (128 * h + x2.val) (512 * k + 64 * x1.val)) := by
  show f (MX d (128 * (h + 1 * x0.val) + (0 + 1 * x2.val)) (512 * k + 64 * (0 + 1 * x1.val)))
    (MN d (128 * (h + 1 * x0.val) + (0 + 1 * x2.val)) (512 * k + 64 * (0 + 1 * x1.val))) = _
  have := x0.isLt
  rw [show 128 * (h + 1 * x0.val) + (0 + 1 * x2.val) = 128 * h + x2.val by omega, show 0 + 1 * x1.val = x1.val by omega]

theorem G12_row {α : Type} (d : S1x256x12288.Idx → EReal) (k : ℕ) (f : EReal → EReal → α) (h b : ℕ) (inb) (x0 x1 : Fin 1) (x2 : Fin 128) :
    G12 d k f ((Rect.unit (s := S2x8x128) ![h, b, 0] ![1, 1, 128] inb).toLoadRect.idx (ix3 x0 x1 x2)) =
      f (MX d (128 * h + x2.val) (512 * k + 64 * b)) (MN d (128 * h + x2.val) (512 * k + 64 * b)) := by
  show f (MX d (128 * (h + 1 * x0.val) + (0 + 1 * x2.val)) (512 * k + 64 * (b + 1 * x1.val)))
    (MN d (128 * (h + 1 * x0.val) + (0 + 1 * x2.val)) (512 * k + 64 * (b + 1 * x1.val))) = _
  have := x0.isLt
  have := x1.isLt
  rw [show 128 * (h + 1 * x0.val) + (0 + 1 * x2.val) = 128 * h + x2.val by omega, show b + 1 * x1.val = b by omega]

theorem mem_half (y : S2x8x128.Idx) (h : ℕ) (inb) (e : (y 0).val = h) : y ∈ (Rect.unit ![h, 0, 0] ![1, 8, 128] inb : Rect S2x8x128).set := by
  have l1 : (y 1).val < 8 := (y 1).isLt
  have l2 : (y 2).val < 128 := (y 2).isLt
  rw [Rect.mem_set_unit]
  intro a
  match a with
  | ⟨0, _⟩ => show h ≤ (y 0).val ∧ (y 0).val < h + 1; omega
  | ⟨1, _⟩ => show 0 ≤ (y 1).val ∧ (y 1).val < 0 + 8; omega
  | ⟨2, _⟩ => show 0 ≤ (y 2).val ∧ (y 2).val < 0 + 128; omega

section
variable (c : Dev nD) (arg1 : Memref sig .tc .vmem S1x256x12288 .bf16) (arg8 : Memref sig .tc .vmem S256x256 .bf16)
  (arg9 : Memref sig .tc .vmem S512x256 .f32)
  (arg10 arg11 : Memref sig .tc .vmem S2x64x2x128 .bf16)
  (arg12 : Memref sig .tc .vmem S2x8x128 .f32) (arg13 arg14 arg15 : Memref sig .tc .vmem S2x8x128 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

/-- The two permuted tiles of a trip, one under the other. -/
theorem canon9 (y : S512x256.Idx) : View.canon (loopInv_k0_t1.sl.H9_2 c arg1 arg8 k f1 f8) y =
    G9 (arg1.view.read (Elt Ideal) f1) k.val y := by
  have l0 : (y 0).val < 512 := (y 0).isLt
  have l1 : (y 1).val < 256 := (y 1).isLt
  apply View.canon_apply_of_pieces
  · unfold loopInv_k0_t1.sl.H9_2 loopInv_k0_t1.sl.H9_1
    simp only [List.forall_mem_cons]
    refine ⟨?_, ?_, fun _ h => absurd h (List.not_mem_nil)⟩
    all_goals
      intro x
      change S256x256.Idx at x
      idx_vars x
    · simp only [k0_pay80, fold_r_30]
      pointwise [r_30_eq c arg1 arg8 k f1 f8 hp]
      show _ = bx _ (0 + 1 * x1.val) (512 * k.val + src (256 + 1 * x0.val))
      have := x0.isLt
      exact bx_congr (by omega) (by simp only [src]; omega)
    · simp only [k0_pay4, fold_r]
      pointwise [r_eq c arg1 arg8 k f1 f8 hp]
      show _ = bx _ (0 + 1 * x1.val) (512 * k.val + src (0 + 1 * x0.val))
      exact bx_congr (by omega) (by simp only [src]; omega)
  · unfold loopInv_k0_t1.sl.H9_2 loopInv_k0_t1.sl.H9_1
    simp only [List.mem_cons, exists_eq_or_imp]
    by_cases h0 : (y 0).val < 256
    · refine Or.inr (Or.inl ?_)
      show y ∈ (Rect.unit _ _ _ : Rect S512x256).set
      rw [Rect.mem_set_unit]
      intro a
      match a with
      | ⟨0, _⟩ => show 0 ≤ (y 0).val ∧ (y 0).val < 0 + 256; omega
      | ⟨1, _⟩ => show 0 ≤ (y 1).val ∧ (y 1).val < 0 + 256; omega
    · refine Or.inl ?_
      show y ∈ (Rect.unit _ _ _ : Rect S512x256).set
      rw [Rect.mem_set_unit]
      intro a
      match a with
      | ⟨0, _⟩ => show 256 ≤ (y 0).val ∧ (y 0).val < 256 + 256; omega
      | ⟨1, _⟩ => show 0 ≤ (y 1).val ∧ (y 1).val < 0 + 256; omega

/-- Eight rows of the permuted tiles, first half of the lanes. -/
theorem raw9_0 (a : ℕ) (inb) (x0 : Fin 8) (x1 : Fin 128) :
    arg9.view.readCov (loopInv_k0_t1.sl.H9_2 c arg1 arg8 k f1 f8) (Rect.unit (s := S512x256) ![a, 0] ![8, 128] inb).toLoadRect (ix2 x0 x1) =
      bx (arg1.view.read (Elt Ideal) f1) x1.val (512 * k.val + src (a + x0.val)) := by
  rw [canon_at, canon9 c arg1 arg8 k f1 f8 hp]
  show bx _ (0 + 1 * x1.val) (512 * k.val + src (a + 1 * x0.val)) = _
  simp only [Nat.zero_add, Nat.one_mul]

/-- Eight rows of the permuted tiles, second half of the lanes. -/
theorem raw9_1 (a : ℕ) (inb) (x0 : Fin 8) (x1 : Fin 128) :
    arg9.view.readCov (loopInv_k0_t1.sl.H9_2 c arg1 arg8 k f1 f8) (Rect.unit (s := S512x256) ![a, 128] ![8, 128] inb).toLoadRect (ix2 x0 x1) =
      bx (arg1.view.read (Elt Ideal) f1) (128 + x1.val) (512 * k.val + src (a + x0.val)) := by
  rw [canon_at, canon9 c arg1 arg8 k f1 f8 hp]
  show bx _ (128 + 1 * x1.val) (512 * k.val + src (a + 1 * x0.val)) = _
  simp only [Nat.one_mul]

/-- The buffer of factors after the first half of a trip. -/
theorem canon12_1 (y : S2x8x128.Idx) (hy : (y 0).val = 0) : View.canon (loopInv_k0_t1.sl.H12_1 c arg1 arg8 arg10 arg11 k f1 f8) y = G12 (arg1.view.read (Elt Ideal) f1) k.val invS y := by
  apply View.canon_apply_of_pieces
  · unfold loopInv_k0_t1.sl.H12_1
    simp only [List.forall_mem_cons]
    refine ⟨?_, fun _ h => absurd h (List.not_mem_nil)⟩
    intro x
    change S1x8x128.Idx at x
    idx_vars x
    refine Eq.trans ?_ (G12_emb _ _ _ _ _ x0 x1 x2).symm
    refine (pay181_eq _ _ _ x0 x1 x2).trans ?_
    rw [r_74_eq c arg1 arg8 arg10 k f1 f8 hp, r_75_eq c arg1 arg8 arg11 k f1 f8 hp, show 128 * 0 + x2.val = x2.val by omega]
  · unfold loopInv_k0_t1.sl.H12_1
    simp only [List.mem_cons, exists_eq_or_imp]
    exact Or.inl (mem_half y 0 _ hy)

/-- The buffer of factors after the second half of a trip. -/
theorem canon12_2 (y : S2x8x128.Idx) : View.canon (loopInv_k0_t1.sl.H12_2 c arg1 arg8 arg10 arg11 k f1 f8) y = G12 (arg1.view.read (Elt Ideal) f1) k.val invS y := by
  have l0 : (y 0).val < 2 := (y 0).isLt
  apply View.canon_apply_of_pieces
  · unfold loopInv_k0_t1.sl.H12_2 loopInv_k0_t1.sl.H12_1 loopInv_k0_t1.sl.r_185
    simp only [List.forall_mem_cons]
    refine ⟨?_, ?_, fun _ h => absurd h (List.not_mem_nil)⟩
    all_goals
      intro x
      change S1x8x128.Idx at x
      idx_vars x
    · refine Eq.trans ?_ (G12_emb _ _ _ _ _ x0 x1 x2).symm
      refine (pay325_eq _ _ _ x0 x1 x2).trans ?_
      rw [r_182_eq c arg1 arg8 arg10 k f1 f8 hp, r_181_eq c arg1 arg8 arg11 k f1 f8 hp]
    · refine Eq.trans ?_ (G12_emb _ _ _ _ _ x0 x1 x2).symm
      refine (pay181_eq _ _ _ x0 x1 x2).trans ?_
      rw [r_74_eq c arg1 arg8 arg10 k f1 f8 hp, r_75_eq c arg1 arg8 arg11 k f1 f8 hp, show 128 * 0 + x2.val = x2.val by omega]
  · unfold loopInv_k0_t1.sl.H12_2 loopInv_k0_t1.sl.H12_1
    simp only [List.mem_cons, exists_eq_or_imp]
    obtain h0 | h0 : (y 0).val = 0 ∨ (y 0).val = 1 := by omega
    · exact Or.inr (Or.inl (mem_half y 0 _ h0))
    · exact Or.inl (mem_half y 1 _ h0)

/-- A block's row of the factors, first half of a trip. -/
theorem raw12_0 (b : ℕ) (inb) (x0 x1 : Fin 1) (x2 : Fin 128) :
    arg12.view.readCov (loopInv_k0_t1.sl.H12_1 c arg1 arg8 arg10 arg11 k f1 f8) (Rect.unit (s := S2x8x128) ![0, b, 0] ![1, 1, 128] inb).toLoadRect (ix3 x0 x1 x2) =
      invS (MX (arg1.view.read (Elt Ideal) f1) x2.val (512 * k.val + 64 * b)) (MN (arg1.view.read (Elt Ideal) f1) x2.val (512 * k.val + 64 * b)) := by
  rw [canon_at, canon12_1 c arg1 arg8 arg10 arg11 k f1 f8 hp _ (by have := x0.isLt; show 0 + 1 * x0.val = 0; omega), G12_row]
  rw [show 128 * 0 + x2.val = x2.val by omega]

/-- A block's row of the factors, second half of a trip. -/
theorem raw12_1 (b : ℕ) (inb) (x0 x1 : Fin 1) (x2 : Fin 128) :
    arg12.view.readCov (loopInv_k0_t1.sl.H12_2 c arg1 arg8 arg10 arg11 k f1 f8) (Rect.unit (s := S2x8x128) ![1, b, 0] ![1, 1, 128] inb).toLoadRect (ix3 x0 x1 x2) =
      invS (MX (arg1.view.read (Elt Ideal) f1) (128 + x2.val) (512 * k.val + 64 * b)) (MN (arg1.view.read (Elt Ideal) f1) (128 + x2.val) (512 * k.val + 64 * b)) := by
  rw [canon_at, canon12_2 c arg1 arg8 arg10 arg11 k f1 f8 hp, G12_row]

/-- The buffer of lower bounds after the first half of a trip. -/
theorem canon13_1 (y : S2x8x128.Idx) (hy : (y 0).val = 0) : View.canon (loopInv_k0_t1.sl.H13_1 c arg1 arg8 arg10 arg11 k f1 f8) y = G12 (arg1.view.read (Elt Ideal) f1) k.val (bndS 0x43200000#32) y := by
  apply View.canon_apply_of_pieces
  · unfold loopInv_k0_t1.sl.H13_1 loopInv_k0_t1.sl.r_79
    simp only [List.forall_mem_cons]
    refine ⟨?_, fun _ h => absurd h (List.not_mem_nil)⟩
    intro x
    change S1x8x128.Idx at x
    idx_vars x
    refine Eq.trans ?_ (G12_emb _ _ _ _ _ x0 x1 x2).symm
    refine (pay183_eq _ _ _ x0 x1 x2).trans ?_
    rw [r_74_eq c arg1 arg8 arg10 k f1 f8 hp, r_75_eq c arg1 arg8 arg11 k f1 f8 hp, show 128 * 0 + x2.val = x2.val by omega]
  · unfold loopInv_k0_t1.sl.H13_1
    simp only [List.mem_cons, exists_eq_or_imp]
    exact Or.inl (mem_half y 0 _ hy)

/-- The buffer of lower bounds after the second half of a trip. -/
theorem canon13_2 (y : S2x8x128.Idx) : View.canon (loopInv_k0_t1.sl.H13_2 c arg1 arg8 arg10 arg11 k f1 f8) y = G12 (arg1.view.read (Elt Ideal) f1) k.val (bndS 0x43200000#32) y := by
  have l0 : (y 0).val < 2 := (y 0).isLt
  apply View.canon_apply_of_pieces
  · unfold loopInv_k0_t1.sl.H13_2 loopInv_k0_t1.sl.H13_1 loopInv_k0_t1.sl.r_79 loopInv_k0_t1.sl.r_184
    simp only [List.forall_mem_cons]
    refine ⟨?_, ?_, fun _ h => absurd h (List.not_mem_nil)⟩
    all_goals
      intro x
      change S1x8x128.Idx at x
      idx_vars x
    · refine Eq.trans ?_ (G12_emb _ _ _ _ _ x0 x1 x2).symm
      refine (pay326_eq _ _ _ x0 x1 x2).trans ?_
      rw [r_182_eq c arg1 arg8 arg10 k f1 f8 hp, r_181_eq c arg1 arg8 arg11 k f1 f8 hp]
    · refine Eq.trans ?_ (G12_emb _ _ _ _ _ x0 x1 x2).symm
      refine (pay183_eq _ _ _ x0 x1 x2).trans ?_
      rw [r_74_eq c arg1 arg8 arg10 k f1 f8 hp, r_75_eq c arg1 arg8 arg11 k f1 f8 hp, show 128 * 0 + x2.val = x2.val by omega]
  · unfold loopInv_k0_t1.sl.H13_2 loopInv_k0_t1.sl.H13_1
    simp only [List.mem_cons, exists_eq_or_imp]
    obtain h0 | h0 : (y 0).val = 0 ∨ (y 0).val = 1 := by omega
    · exact Or.inr (Or.inl (mem_half y 0 _ h0))
    · exact Or.inl (mem_half y 1 _ h0)

/-- A block's row of the lower bounds, first half of a trip. -/
theorem raw13_0 (b : ℕ) (inb) (x0 x1 : Fin 1) (x2 : Fin 128) :
    arg13.view.readCov (loopInv_k0_t1.sl.H13_1 c arg1 arg8 arg10 arg11 k f1 f8) (Rect.unit (s := S2x8x128) ![0, b, 0] ![1, 1, 128] inb).toLoadRect (ix3 x0 x1 x2) =
      (bndS 0x43200000#32) (MX (arg1.view.read (Elt Ideal) f1) x2.val (512 * k.val + 64 * b)) (MN (arg1.view.read (Elt Ideal) f1) x2.val (512 * k.val + 64 * b)) := by
  rw [canon_at, canon13_1 c arg1 arg8 arg10 arg11 k f1 f8 hp _ (by have := x0.isLt; show 0 + 1 * x0.val = 0; omega), G12_row]
  rw [show 128 * 0 + x2.val = x2.val by omega]

/-- A block's row of the lower bounds, second half of a trip. -/
theorem raw13_1 (b : ℕ) (inb) (x0 x1 : Fin 1) (x2 : Fin 128) :
    arg13.view.readCov (loopInv_k0_t1.sl.H13_2 c arg1 arg8 arg10 arg11 k f1 f8) (Rect.unit (s := S2x8x128) ![1, b, 0] ![1, 1, 128] inb).toLoadRect (ix3 x0 x1 x2) =
      (bndS 0x43200000#32) (MX (arg1.view.read (Elt Ideal) f1) (128 + x2.val) (512 * k.val + 64 * b)) (MN (arg1.view.read (Elt Ideal) f1) (128 + x2.val) (512 * k.val + 64 * b)) := by
  rw [canon_at, canon13_2 c arg1 arg8 arg10 arg11 k f1 f8 hp, G12_row]

/-- The buffer of upper bounds after the first half of a trip. -/
theorem canon14_1 (y : S2x8x128.Idx) (hy : (y 0).val = 0) : View.canon (loopInv_k0_t1.sl.H14_1 c arg1 arg8 arg10 arg11 k f1 f8) y = G12 (arg1.view.read (Elt Ideal) f1) k.val (bndS 0x432F0000#32) y := by
  apply View.canon_apply_of_pieces
  · unfold loopInv_k0_t1.sl.H14_1 loopInv_k0_t1.sl.r_77
    simp only [List.forall_mem_cons]
    refine ⟨?_, fun _ h => absurd h (List.not_mem_nil)⟩
    intro x
    change S1x8x128.Idx at x
    idx_vars x
    refine Eq.trans ?_ (G12_emb _ _ _ _ _ x0 x1 x2).symm
    refine (pay184_eq _ _ _ x0 x1 x2).trans ?_
    rw [r_74_eq c arg1 arg8 arg10 k f1 f8 hp, r_75_eq c arg1 arg8 arg11 k f1 f8 hp, show 128 * 0 + x2.val = x2.val by omega]
  · unfold loopInv_k0_t1.sl.H14_1
    simp only [List.mem_cons, exists_eq_or_imp]
    exact Or.inl (mem_half y 0 _ hy)

/-- The buffer of upper bounds after the second half of a trip. -/
theorem canon14_2 (y : S2x8x128.Idx) : View.canon (loopInv_k0_t1.sl.H14_2 c arg1 arg8 arg10 arg11 k f1 f8) y = G12 (arg1.view.read (Elt Ideal) f1) k.val (bndS 0x432F0000#32) y := by
  have l0 : (y 0).val < 2 := (y 0).isLt
  apply View.canon_apply_of_pieces
  · unfold loopInv_k0_t1.sl.H14_2 loopInv_k0_t1.sl.H14_1 loopInv_k0_t1.sl.r_77 loopInv_k0_t1.sl.r_184
    simp only [List.forall_mem_cons]
    refine ⟨?_, ?_, fun _ h => absurd h (List.not_mem_nil)⟩
    all_goals
      intro x
      change S1x8x128.Idx at x
      idx_vars x
    · refine Eq.trans ?_ (G12_emb _ _ _ _ _ x0 x1 x2).symm
      refine (pay327_eq _ _ _ x0 x1 x2).trans ?_
      rw [r_182_eq c arg1 arg8 arg10 k f1 f8 hp, r_181_eq c arg1 arg8 arg11 k f1 f8 hp]
    · refine Eq.trans ?_ (G12_emb _ _ _ _ _ x0 x1 x2).symm
      refine (pay184_eq _ _ _ x0 x1 x2).trans ?_
      rw [r_74_eq c arg1 arg8 arg10 k f1 f8 hp, r_75_eq c arg1 arg8 arg11 k f1 f8 hp, show 128 * 0 + x2.val = x2.val by omega]
  · unfold loopInv_k0_t1.sl.H14_2 loopInv_k0_t1.sl.H14_1
    simp only [List.mem_cons, exists_eq_or_imp]
    obtain h0 | h0 : (y 0).val = 0 ∨ (y 0).val = 1 := by omega
    · exact Or.inr (Or.inl (mem_half y 0 _ h0))
    · exact Or.inl (mem_half y 1 _ h0)

/-- A block's row of the upper bounds, first half of a trip. -/
theorem raw14_0 (b : ℕ) (inb) (x0 x1 : Fin 1) (x2 : Fin 128) :
    arg14.view.readCov (loopInv_k0_t1.sl.H14_1 c arg1 arg8 arg10 arg11 k f1 f8) (Rect.unit (s := S2x8x128) ![0, b, 0] ![1, 1, 128] inb).toLoadRect (ix3 x0 x1 x2) =
      (bndS 0x432F0000#32) (MX (arg1.view.read (Elt Ideal) f1) x2.val (512 * k.val + 64 * b)) (MN (arg1.view.read (Elt Ideal) f1) x2.val (512 * k.val + 64 * b)) := by
  rw [canon_at, canon14_1 c arg1 arg8 arg10 arg11 k f1 f8 hp _ (by have := x0.isLt; show 0 + 1 * x0.val = 0; omega), G12_row]
  rw [show 128 * 0 + x2.val = x2.val by omega]

/-- A block's row of the upper bounds, second half of a trip. -/
theorem raw14_1 (b : ℕ) (inb) (x0 x1 : Fin 1) (x2 : Fin 128) :
    arg14.view.readCov (loopInv_k0_t1.sl.H14_2 c arg1 arg8 arg10 arg11 k f1 f8) (Rect.unit (s := S2x8x128) ![1, b, 0] ![1, 1, 128] inb).toLoadRect (ix3 x0 x1 x2) =
      (bndS 0x432F0000#32) (MX (arg1.view.read (Elt Ideal) f1) (128 + x2.val) (512 * k.val + 64 * b)) (MN (arg1.view.read (Elt Ideal) f1) (128 + x2.val) (512 * k.val + 64 * b)) := by
  rw [canon_at, canon14_2 c arg1 arg8 arg10 arg11 k f1 f8 hp, G12_row]

/-- The buffer of added words after the first half of a trip. -/
theorem canon15_1 (y : S2x8x128.Idx) (hy : (y 0).val = 0) : View.canon (loopInv_k0_t1.sl.H15_1 c arg1 arg8 arg10 arg11 k f1 f8) y = G12 (arg1.view.read (Elt Ideal) f1) k.val zaS y := by
  apply View.canon_apply_of_pieces
  · unfold loopInv_k0_t1.sl.H15_1 loopInv_k0_t1.sl.r_78
    simp only [List.forall_mem_cons]
    refine ⟨?_, fun _ h => absurd h (List.not_mem_nil)⟩
    intro x
    change S1x8x128.Idx at x
    idx_vars x
    refine Eq.trans ?_ (G12_emb _ _ _ _ _ x0 x1 x2).symm
    refine (pay185_eq _ _ _ x0 x1 x2).trans ?_
    rw [r_74_eq c arg1 arg8 arg10 k f1 f8 hp, r_75_eq c arg1 arg8 arg11 k f1 f8 hp, show 128 * 0 + x2.val = x2.val by omega]
  · unfold loopInv_k0_t1.sl.H15_1
    simp only [List.mem_cons, exists_eq_or_imp]
    exact Or.inl (mem_half y 0 _ hy)

/-- The buffer of added words after the second half of a trip. -/
theorem canon15_2 (y : S2x8x128.Idx) : View.canon (loopInv_k0_t1.sl.H15_2 c arg1 arg8 arg10 arg11 k f1 f8) y = G12 (arg1.view.read (Elt Ideal) f1) k.val zaS y := by
  have l0 : (y 0).val < 2 := (y 0).isLt
  apply View.canon_apply_of_pieces
  · unfold loopInv_k0_t1.sl.H15_2 loopInv_k0_t1.sl.H15_1 loopInv_k0_t1.sl.r_78 loopInv_k0_t1.sl.r_186
    simp only [List.forall_mem_cons]
    refine ⟨?_, ?_, fun _ h => absurd h (List.not_mem_nil)⟩
    all_goals
      intro x
      change S1x8x128.Idx at x
      idx_vars x
    · refine Eq.trans ?_ (G12_emb _ _ _ _ _ x0 x1 x2).symm
      refine (pay328_eq _ _ _ x0 x1 x2).trans ?_
      rw [r_182_eq c arg1 arg8 arg10 k f1 f8 hp, r_181_eq c arg1 arg8 arg11 k f1 f8 hp]
    · refine Eq.trans ?_ (G12_emb _ _ _ _ _ x0 x1 x2).symm
      refine (pay185_eq _ _ _ x0 x1 x2).trans ?_
      rw [r_74_eq c arg1 arg8 arg10 k f1 f8 hp, r_75_eq c arg1 arg8 arg11 k f1 f8 hp, show 128 * 0 + x2.val = x2.val by omega]
  · unfold loopInv_k0_t1.sl.H15_2 loopInv_k0_t1.sl.H15_1
    simp only [List.mem_cons, exists_eq_or_imp]
    obtain h0 | h0 : (y 0).val = 0 ∨ (y 0).val = 1 := by omega
    · exact Or.inr (Or.inl (mem_half y 0 _ h0))
    · exact Or.inl (mem_half y 1 _ h0)

/-- A block's row of the added words, first half of a trip. -/
theorem raw15_0 (b : ℕ) (inb) (x0 x1 : Fin 1) (x2 : Fin 128) :
    arg15.view.readCov (loopInv_k0_t1.sl.H15_1 c arg1 arg8 arg10 arg11 k f1 f8) (Rect.unit (s := S2x8x128) ![0, b, 0] ![1, 1, 128] inb).toLoadRect (ix3 x0 x1 x2) =
      zaS (MX (arg1.view.read (Elt Ideal) f1) x2.val (512 * k.val + 64 * b)) (MN (arg1.view.read (Elt Ideal) f1) x2.val (512 * k.val + 64 * b)) := by
  rw [canon_at, canon15_1 c arg1 arg8 arg10 arg11 k f1 f8 hp _ (by have := x0.isLt; show 0 + 1 * x0.val = 0; omega), G12_row]
  rw [show 128 * 0 + x2.val = x2.val by omega]

/-- A block's row of the added words, second half of a trip. -/
theorem raw15_1 (b : ℕ) (inb) (x0 x1 : Fin 1) (x2 : Fin 128) :
    arg15.view.readCov (loopInv_k0_t1.sl.H15_2 c arg1 arg8 arg10 arg11 k f1 f8) (Rect.unit (s := S2x8x128) ![1, b, 0] ![1, 1, 128] inb).toLoadRect (ix3 x0 x1 x2) =
      zaS (MX (arg1.view.read (Elt Ideal) f1) (128 + x2.val) (512 * k.val + 64 * b)) (MN (arg1.view.read (Elt Ideal) f1) (128 + x2.val) (512 * k.val + 64 * b)) := by
  rw [canon_at, canon15_2 c arg1 arg8 arg10 arg11 k f1 f8 hp, G12_row]

end
end Cert.Proof.KernelIdeal
end
-- ==== Proof.Val6a.lean ====
module
public import proofs.«01_k».proof.Proof.Val5

/-! The bytes of the packed codes, block by block. -/

@[expose] public section
noncomputable section
namespace Cert.Proof.KernelIdeal
open Cert.KernelIdeal Cert.KernelIdeal.Gen
open Idealize.ShloMosaic Idealize.ShloMosaic.TcCoe Idealize.ShloMosaic.View

section
variable (c : Dev nD) (arg1 : Memref sig .tc .vmem S1x256x12288 .bf16) (arg8 : Memref sig .tc .vmem S256x256 .bf16)
  (arg9 : Memref sig .tc .vmem S512x256 .f32)
  (arg10 arg11 : Memref sig .tc .vmem S2x64x2x128 .bf16)
  (arg12 : Memref sig .tc .vmem S2x8x128 .f32) (arg13 arg14 arg15 : Memref sig .tc .vmem S2x8x128 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

theorem v840_eq (x0 : Fin 32) (x1 : Fin 128) : loopInv_k0_t1.sl.v840 c arg1 arg8 arg9 arg10 arg11 arg12 arg13 arg14 arg15 k f1 f8 (ix2 x0 x1) =
    (blockW (arg1.view.read (Elt Ideal) f1) x1.val (512 * k.val + 0) (x0.val / 4)).extractLsb' (8 * (x0.val % 4)) 8 := by
  simp only [loopInv_k0_t1.sl.v840, loopInv_k0_t1.sl.v839, loopInv_k0_t1.sl.v834, loopInv_k0_t1.sl.v818, loopInv_k0_t1.sl.v811, loopInv_k0_t1.sl.r_93, loopInv_k0_t1.sl.r_80, loopInv_k0_t1.sl.v723, loopInv_k0_t1.sl.r_82, loopInv_k0_t1.sl.r_81, loopInv_k0_t1.sl.v727, loopInv_k0_t1.sl.r_83, loopInv_k0_t1.sl.v732, loopInv_k0_t1.sl.r_85, loopInv_k0_t1.sl.v741, loopInv_k0_t1.sl.v773, loopInv_k0_t1.sl.v810, loopInv_k0_t1.sl.v817, loopInv_k0_t1.sl.v816, loopInv_k0_t1.sl.v815, loopInv_k0_t1.sl.v814, loopInv_k0_t1.sl.v813, loopInv_k0_t1.sl.v812, loopInv_k0_t1.sl.r_86, loopInv_k0_t1.sl.v749, loopInv_k0_t1.sl.r_90, loopInv_k0_t1.sl.v781, loopInv_k0_t1.sl.r_84, loopInv_k0_t1.sl.v737, loopInv_k0_t1.sl.v833, loopInv_k0_t1.sl.v838, loopInv_k0_t1.sl.v836, loopInv_k0_t1.sl.v832, loopInv_k0_t1.sl.v825, loopInv_k0_t1.sl.v823, loopInv_k0_t1.sl.v822, loopInv_k0_t1.sl.v821, loopInv_k0_t1.sl.v820, loopInv_k0_t1.sl.v819, loopInv_k0_t1.sl.r_87, loopInv_k0_t1.sl.v757, loopInv_k0_t1.sl.r_91, loopInv_k0_t1.sl.v789, loopInv_k0_t1.sl.v831, loopInv_k0_t1.sl.v830, loopInv_k0_t1.sl.v829, loopInv_k0_t1.sl.v828, loopInv_k0_t1.sl.v827, loopInv_k0_t1.sl.v826, loopInv_k0_t1.sl.r_89, loopInv_k0_t1.sl.r_88, loopInv_k0_t1.sl.v765, loopInv_k0_t1.sl.r_92, loopInv_k0_t1.sl.v797, loopInv_k0_t1.sl.v837]
  pointwise [k0_pay186, k0_pay187, k0_pay188, k0_pay189, k0_pay190, k0_pay191, k0_pay192, k0_pay193, k0_pay194, k0_pay195, k0_pay196, k0_pay197, k0_pay198, k0_pay199, k0_pay200, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (0 + x0.val / 4) = 512 * k.val + 0 + (8 * (x0.val / 4) + 0) := by simp only [src]; omega
  have t1 : 512 * k.val + src (8 + x0.val / 4) = 512 * k.val + 0 + (8 * (x0.val / 4) + 1) := by simp only [src]; omega
  have t2 : 512 * k.val + src (16 + x0.val / 4) = 512 * k.val + 0 + (8 * (x0.val / 4) + 2) := by simp only [src]; omega
  have t3 : 512 * k.val + src (24 + x0.val / 4) = 512 * k.val + 0 + (8 * (x0.val / 4) + 3) := by simp only [src]; omega
  have t4 : 512 * k.val + src (32 + x0.val / 4) = 512 * k.val + 0 + (8 * (x0.val / 4) + 4) := by simp only [src]; omega
  have t5 : 512 * k.val + src (40 + x0.val / 4) = 512 * k.val + 0 + (8 * (x0.val / 4) + 5) := by simp only [src]; omega
  have t6 : 512 * k.val + src (48 + x0.val / 4) = 512 * k.val + 0 + (8 * (x0.val / 4) + 6) := by simp only [src]; omega
  have t7 : 512 * k.val + src (56 + x0.val / 4) = 512 * k.val + 0 + (8 * (x0.val / 4) + 7) := by simp only [src]; omega
  try rw [Nat.zero_add] at t0
  simp only [t0, t1, t2, t3, t4, t5, t6, t7]
  rfl

theorem r_103_eq (x0 : Fin 32) (x1 : Fin 128) : loopInv_k0_t1.sl.r_103 c arg1 arg8 arg9 arg10 arg11 arg12 arg13 arg14 arg15 k f1 f8 (ix2 x0 x1) =
    (blockW (arg1.view.read (Elt Ideal) f1) x1.val (512 * k.val + 64) (x0.val / 4)).extractLsb' (8 * (x0.val % 4)) 8 := by
  simp only [loopInv_k0_t1.sl.r_103, loopInv_k0_t1.sl.v849, loopInv_k0_t1.sl.v848, loopInv_k0_t1.sl.v847, loopInv_k0_t1.sl.v846, loopInv_k0_t1.sl.v845, loopInv_k0_t1.sl.v854, loopInv_k0_t1.sl.v853, loopInv_k0_t1.sl.v852, loopInv_k0_t1.sl.v851, loopInv_k0_t1.sl.v850, loopInv_k0_t1.sl.r_94, loopInv_k0_t1.sl.v855, loopInv_k0_t1.sl.r_98, loopInv_k0_t1.sl.v844, loopInv_k0_t1.sl.v843, loopInv_k0_t1.sl.v842, loopInv_k0_t1.sl.v841, loopInv_k0_t1.sl.v883, loopInv_k0_t1.sl.r_100, loopInv_k0_t1.sl.v915, loopInv_k0_t1.sl.r_101, loopInv_k0_t1.sl.r_95, loopInv_k0_t1.sl.v859, loopInv_k0_t1.sl.r_96, loopInv_k0_t1.sl.v867, loopInv_k0_t1.sl.r_99, loopInv_k0_t1.sl.v891, loopInv_k0_t1.sl.v899, loopInv_k0_t1.sl.r_102, loopInv_k0_t1.sl.r_97, loopInv_k0_t1.sl.v875, loopInv_k0_t1.sl.v907]
  pointwise [k0_pay205, k0_pay206, k0_pay207, k0_pay208, k0_pay209, k0_pay210, k0_pay211, k0_pay212, k0_pay213, k0_pay214, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (64 + x0.val / 4) = 512 * k.val + 64 + (8 * (x0.val / 4) + 0) := by simp only [src]; omega
  have t1 : 512 * k.val + src (72 + x0.val / 4) = 512 * k.val + 64 + (8 * (x0.val / 4) + 1) := by simp only [src]; omega
  have t2 : 512 * k.val + src (80 + x0.val / 4) = 512 * k.val + 64 + (8 * (x0.val / 4) + 2) := by simp only [src]; omega
  have t3 : 512 * k.val + src (88 + x0.val / 4) = 512 * k.val + 64 + (8 * (x0.val / 4) + 3) := by simp only [src]; omega
  have t4 : 512 * k.val + src (96 + x0.val / 4) = 512 * k.val + 64 + (8 * (x0.val / 4) + 4) := by simp only [src]; omega
  have t5 : 512 * k.val + src (104 + x0.val / 4) = 512 * k.val + 64 + (8 * (x0.val / 4) + 5) := by simp only [src]; omega
  have t6 : 512 * k.val + src (112 + x0.val / 4) = 512 * k.val + 64 + (8 * (x0.val / 4) + 6) := by simp only [src]; omega
  have t7 : 512 * k.val + src (120 + x0.val / 4) = 512 * k.val + 64 + (8 * (x0.val / 4) + 7) := by simp only [src]; omega
  simp only [t0, t1, t2, t3, t4, t5, t6, t7]
  rfl

theorem r_117_eq (x0 : Fin 32) (x1 : Fin 128) : loopInv_k0_t1.sl.r_117 c arg1 arg8 arg9 arg10 arg11 arg12 arg13 arg14 arg15 k f1 f8 (ix2 x0 x1) =
    (blockW (arg1.view.read (Elt Ideal) f1) x1.val (512 * k.val + 128) (x0.val / 4)).extractLsb' (8 * (x0.val % 4)) 8 := by
  simp only [loopInv_k0_t1.sl.r_117, loopInv_k0_t1.sl.r_115, loopInv_k0_t1.sl.r_105, loopInv_k0_t1.sl.v963, loopInv_k0_t1.sl.r_106, loopInv_k0_t1.sl.v968, loopInv_k0_t1.sl.r_107, loopInv_k0_t1.sl.v973, loopInv_k0_t1.sl.r_109, loopInv_k0_t1.sl.r_108, loopInv_k0_t1.sl.v959, loopInv_k0_t1.sl.v977, loopInv_k0_t1.sl.r_110, loopInv_k0_t1.sl.r_104, loopInv_k0_t1.sl.v985, loopInv_k0_t1.sl.r_113, loopInv_k0_t1.sl.v1009, loopInv_k0_t1.sl.r_114, loopInv_k0_t1.sl.v1017, loopInv_k0_t1.sl.r_116, loopInv_k0_t1.sl.r_111, loopInv_k0_t1.sl.v993, loopInv_k0_t1.sl.r_112, loopInv_k0_t1.sl.v1001, loopInv_k0_t1.sl.v1025, loopInv_k0_t1.sl.v1033]
  pointwise [k0_pay215, k0_pay216, k0_pay217, k0_pay218, k0_pay219, k0_pay220, k0_pay221, k0_pay222, k0_pay223, k0_pay224, k0_pay225, k0_pay226, k0_pay227, k0_pay228, k0_pay229, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (128 + x0.val / 4) = 512 * k.val + 128 + (8 * (x0.val / 4) + 0) := by simp only [src]; omega
  have t1 : 512 * k.val + src (136 + x0.val / 4) = 512 * k.val + 128 + (8 * (x0.val / 4) + 1) := by simp only [src]; omega
  have t2 : 512 * k.val + src (144 + x0.val / 4) = 512 * k.val + 128 + (8 * (x0.val / 4) + 2) := by simp only [src]; omega
  have t3 : 512 * k.val + src (152 + x0.val / 4) = 512 * k.val + 128 + (8 * (x0.val / 4) + 3) := by simp only [src]; omega
  have t4 : 512 * k.val + src (160 + x0.val / 4) = 512 * k.val + 128 + (8 * (x0.val / 4) + 4) := by simp only [src]; omega
  have t5 : 512 * k.val + src (168 + x0.val / 4) = 512 * k.val + 128 + (8 * (x0.val / 4) + 5) := by simp only [src]; omega
  have t6 : 512 * k.val + src (176 + x0.val / 4) = 512 * k.val + 128 + (8 * (x0.val / 4) + 6) := by simp only [src]; omega
  have t7 : 512 * k.val + src (184 + x0.val / 4) = 512 * k.val + 128 + (8 * (x0.val / 4) + 7) := by simp only [src]; omega
  simp only [t0, t1, t2, t3, t4, t5, t6, t7]
  rfl

theorem r_130_eq (x0 : Fin 32) (x1 : Fin 128) : loopInv_k0_t1.sl.r_130 c arg1 arg8 arg9 arg10 arg11 arg12 arg13 arg14 arg15 k f1 f8 (ix2 x0 x1) =
    (blockW (arg1.view.read (Elt Ideal) f1) x1.val (512 * k.val + 192) (x0.val / 4)).extractLsb' (8 * (x0.val % 4)) 8 := by
  simp only [loopInv_k0_t1.sl.r_130, loopInv_k0_t1.sl.r_118, loopInv_k0_t1.sl.v1077, loopInv_k0_t1.sl.r_119, loopInv_k0_t1.sl.v1081, loopInv_k0_t1.sl.r_120, loopInv_k0_t1.sl.v1086, loopInv_k0_t1.sl.r_121, loopInv_k0_t1.sl.v1091, loopInv_k0_t1.sl.r_122, loopInv_k0_t1.sl.v1095, loopInv_k0_t1.sl.r_124, loopInv_k0_t1.sl.r_123, loopInv_k0_t1.sl.v1103, loopInv_k0_t1.sl.r_125, loopInv_k0_t1.sl.v1111, loopInv_k0_t1.sl.r_126, loopInv_k0_t1.sl.v1119, loopInv_k0_t1.sl.r_127, loopInv_k0_t1.sl.v1127, loopInv_k0_t1.sl.r_128, loopInv_k0_t1.sl.v1135, loopInv_k0_t1.sl.r_129, loopInv_k0_t1.sl.v1143, loopInv_k0_t1.sl.v1151]
  pointwise [k0_pay230, k0_pay231, k0_pay232, k0_pay233, k0_pay234, k0_pay235, k0_pay236, k0_pay237, k0_pay238, k0_pay239, k0_pay240, k0_pay241, k0_pay242, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (192 + x0.val / 4) = 512 * k.val + 192 + (8 * (x0.val / 4) + 0) := by simp only [src]; omega
  have t1 : 512 * k.val + src (200 + x0.val / 4) = 512 * k.val + 192 + (8 * (x0.val / 4) + 1) := by simp only [src]; omega
  have t2 : 512 * k.val + src (208 + x0.val / 4) = 512 * k.val + 192 + (8 * (x0.val / 4) + 2) := by simp only [src]; omega
  have t3 : 512 * k.val + src (216 + x0.val / 4) = 512 * k.val + 192 + (8 * (x0.val / 4) + 3) := by simp only [src]; omega
  have t4 : 512 * k.val + src (224 + x0.val / 4) = 512 * k.val + 192 + (8 * (x0.val / 4) + 4) := by simp only [src]; omega
  have t5 : 512 * k.val + src (232 + x0.val / 4) = 512 * k.val + 192 + (8 * (x0.val / 4) + 5) := by simp only [src]; omega
  have t6 : 512 * k.val + src (240 + x0.val / 4) = 512 * k.val + 192 + (8 * (x0.val / 4) + 6) := by simp only [src]; omega
  have t7 : 512 * k.val + src (248 + x0.val / 4) = 512 * k.val + 192 + (8 * (x0.val / 4) + 7) := by simp only [src]; omega
  simp only [t0, t1, t2, t3, t4, t5, t6, t7]
  rfl

end
end Cert.Proof.KernelIdeal
end
-- ==== Proof.Val6b.lean ====
module
public import proofs.«01_k».proof.Proof.Val5

/-! The bytes of the packed codes, block by block. -/

@[expose] public section
noncomputable section
namespace Cert.Proof.KernelIdeal
open Cert.KernelIdeal Cert.KernelIdeal.Gen
open Idealize.ShloMosaic Idealize.ShloMosaic.TcCoe Idealize.ShloMosaic.View

section
variable (c : Dev nD) (arg1 : Memref sig .tc .vmem S1x256x12288 .bf16) (arg8 : Memref sig .tc .vmem S256x256 .bf16)
  (arg9 : Memref sig .tc .vmem S512x256 .f32)
  (arg10 arg11 : Memref sig .tc .vmem S2x64x2x128 .bf16)
  (arg12 : Memref sig .tc .vmem S2x8x128 .f32) (arg13 arg14 arg15 : Memref sig .tc .vmem S2x8x128 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

theorem v1312_eq (x0 : Fin 32) (x1 : Fin 128) : loopInv_k0_t1.sl.v1312 c arg1 arg8 arg9 arg10 arg11 arg12 arg13 arg14 arg15 k f1 f8 (ix2 x0 x1) =
    (blockW (arg1.view.read (Elt Ideal) f1) x1.val (512 * k.val + 256) (x0.val / 4)).extractLsb' (8 * (x0.val % 4)) 8 := by
  simp only [loopInv_k0_t1.sl.v1312, loopInv_k0_t1.sl.v1311, loopInv_k0_t1.sl.v1306, loopInv_k0_t1.sl.v1290, loopInv_k0_t1.sl.v1283, loopInv_k0_t1.sl.v1281, loopInv_k0_t1.sl.v1280, loopInv_k0_t1.sl.v1279, loopInv_k0_t1.sl.v1278, loopInv_k0_t1.sl.v1277, loopInv_k0_t1.sl.r_135, loopInv_k0_t1.sl.v1195, loopInv_k0_t1.sl.v1213, loopInv_k0_t1.sl.r_140, loopInv_k0_t1.sl.r_131, loopInv_k0_t1.sl.v1245, loopInv_k0_t1.sl.r_132, loopInv_k0_t1.sl.v1199, loopInv_k0_t1.sl.r_133, loopInv_k0_t1.sl.v1204, loopInv_k0_t1.sl.v810, loopInv_k0_t1.sl.v1289, loopInv_k0_t1.sl.v1288, loopInv_k0_t1.sl.v1287, loopInv_k0_t1.sl.v1286, loopInv_k0_t1.sl.v1285, loopInv_k0_t1.sl.v1284, loopInv_k0_t1.sl.r_136, loopInv_k0_t1.sl.v1221, loopInv_k0_t1.sl.r_141, loopInv_k0_t1.sl.v1253, loopInv_k0_t1.sl.r_134, loopInv_k0_t1.sl.v1209, loopInv_k0_t1.sl.v833, loopInv_k0_t1.sl.v1310, loopInv_k0_t1.sl.v1308, loopInv_k0_t1.sl.v1304, loopInv_k0_t1.sl.v1297, loopInv_k0_t1.sl.v1295, loopInv_k0_t1.sl.v1294, loopInv_k0_t1.sl.v1293, loopInv_k0_t1.sl.v1292, loopInv_k0_t1.sl.v1291, loopInv_k0_t1.sl.r_138, loopInv_k0_t1.sl.r_137, loopInv_k0_t1.sl.v1229, loopInv_k0_t1.sl.r_142, loopInv_k0_t1.sl.v1261, loopInv_k0_t1.sl.v1303, loopInv_k0_t1.sl.v1302, loopInv_k0_t1.sl.v1301, loopInv_k0_t1.sl.v1300, loopInv_k0_t1.sl.v1299, loopInv_k0_t1.sl.v1298, loopInv_k0_t1.sl.r_139, loopInv_k0_t1.sl.v1237, loopInv_k0_t1.sl.v1276, loopInv_k0_t1.sl.r_143, loopInv_k0_t1.sl.v1269, loopInv_k0_t1.sl.v1275, loopInv_k0_t1.sl.v837]
  pointwise [k0_pay243, k0_pay244, k0_pay245, k0_pay246, k0_pay247, k0_pay248, k0_pay249, k0_pay250, k0_pay251, k0_pay252, k0_pay253, k0_pay254, k0_pay255, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (256 + x0.val / 4) = 512 * k.val + 256 + (8 * (x0.val / 4) + 0) := by simp only [src]; omega
  have t1 : 512 * k.val + src (264 + x0.val / 4) = 512 * k.val + 256 + (8 * (x0.val / 4) + 1) := by simp only [src]; omega
  have t2 : 512 * k.val + src (272 + x0.val / 4) = 512 * k.val + 256 + (8 * (x0.val / 4) + 2) := by simp only [src]; omega
  have t3 : 512 * k.val + src (280 + x0.val / 4) = 512 * k.val + 256 + (8 * (x0.val / 4) + 3) := by simp only [src]; omega
  have t4 : 512 * k.val + src (288 + x0.val / 4) = 512 * k.val + 256 + (8 * (x0.val / 4) + 4) := by simp only [src]; omega
  have t5 : 512 * k.val + src (296 + x0.val / 4) = 512 * k.val + 256 + (8 * (x0.val / 4) + 5) := by simp only [src]; omega
  have t6 : 512 * k.val + src (304 + x0.val / 4) = 512 * k.val + 256 + (8 * (x0.val / 4) + 6) := by simp only [src]; omega
  have t7 : 512 * k.val + src (312 + x0.val / 4) = 512 * k.val + 256 + (8 * (x0.val / 4) + 7) := by simp only [src]; omega
  simp only [t0, t1, t2, t3, t4, t5, t6, t7]
  rfl

theorem v1430_eq (x0 : Fin 32) (x1 : Fin 128) : loopInv_k0_t1.sl.v1430 c arg1 arg8 arg9 arg10 arg11 arg12 arg13 arg14 arg15 k f1 f8 (ix2 x0 x1) =
    (blockW (arg1.view.read (Elt Ideal) f1) x1.val (512 * k.val + 320) (x0.val / 4)).extractLsb' (8 * (x0.val % 4)) 8 := by
  simp only [loopInv_k0_t1.sl.v1430, loopInv_k0_t1.sl.v1429, loopInv_k0_t1.sl.v1424, loopInv_k0_t1.sl.v1408, loopInv_k0_t1.sl.r_153, loopInv_k0_t1.sl.v1316, loopInv_k0_t1.sl.v1315, loopInv_k0_t1.sl.v1314, loopInv_k0_t1.sl.v1313, loopInv_k0_t1.sl.v1321, loopInv_k0_t1.sl.v1320, loopInv_k0_t1.sl.v1319, loopInv_k0_t1.sl.v1318, loopInv_k0_t1.sl.v1317, loopInv_k0_t1.sl.r_144, loopInv_k0_t1.sl.v1322, loopInv_k0_t1.sl.r_146, loopInv_k0_t1.sl.v1331, loopInv_k0_t1.sl.v1363, loopInv_k0_t1.sl.v1407, loopInv_k0_t1.sl.v1406, loopInv_k0_t1.sl.v1405, loopInv_k0_t1.sl.r_154, loopInv_k0_t1.sl.r_147, loopInv_k0_t1.sl.v1339, loopInv_k0_t1.sl.v1371, loopInv_k0_t1.sl.r_145, loopInv_k0_t1.sl.v1327, loopInv_k0_t1.sl.v833, loopInv_k0_t1.sl.v1428, loopInv_k0_t1.sl.v1426, loopInv_k0_t1.sl.v1422, loopInv_k0_t1.sl.v1415, loopInv_k0_t1.sl.v1413, loopInv_k0_t1.sl.v1412, loopInv_k0_t1.sl.v1411, loopInv_k0_t1.sl.v1410, loopInv_k0_t1.sl.v1409, loopInv_k0_t1.sl.r_148, loopInv_k0_t1.sl.v1347, loopInv_k0_t1.sl.r_151, loopInv_k0_t1.sl.v1379, loopInv_k0_t1.sl.v810, loopInv_k0_t1.sl.v1421, loopInv_k0_t1.sl.v1420, loopInv_k0_t1.sl.v1419, loopInv_k0_t1.sl.v1418, loopInv_k0_t1.sl.v1417, loopInv_k0_t1.sl.v1416, loopInv_k0_t1.sl.r_150, loopInv_k0_t1.sl.r_149, loopInv_k0_t1.sl.v1355, loopInv_k0_t1.sl.r_152, loopInv_k0_t1.sl.v1387, loopInv_k0_t1.sl.v837]
  pointwise [k0_pay259, k0_pay260, k0_pay261, k0_pay262, k0_pay263, k0_pay264, k0_pay265, k0_pay266, k0_pay267, k0_pay268, k0_pay269, k0_pay270, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (320 + x0.val / 4) = 512 * k.val + 320 + (8 * (x0.val / 4) + 0) := by simp only [src]; omega
  have t1 : 512 * k.val + src (328 + x0.val / 4) = 512 * k.val + 320 + (8 * (x0.val / 4) + 1) := by simp only [src]; omega
  have t2 : 512 * k.val + src (336 + x0.val / 4) = 512 * k.val + 320 + (8 * (x0.val / 4) + 2) := by simp only [src]; omega
  have t3 : 512 * k.val + src (344 + x0.val / 4) = 512 * k.val + 320 + (8 * (x0.val / 4) + 3) := by simp only [src]; omega
  have t4 : 512 * k.val + src (352 + x0.val / 4) = 512 * k.val + 320 + (8 * (x0.val / 4) + 4) := by simp only [src]; omega
  have t5 : 512 * k.val + src (360 + x0.val / 4) = 512 * k.val + 320 + (8 * (x0.val / 4) + 5) := by simp only [src]; omega
  have t6 : 512 * k.val + src (368 + x0.val / 4) = 512 * k.val + 320 + (8 * (x0.val / 4) + 6) := by simp only [src]; omega
  have t7 : 512 * k.val + src (376 + x0.val / 4) = 512 * k.val + 320 + (8 * (x0.val / 4) + 7) := by simp only [src]; omega
  simp only [t0, t1, t2, t3, t4, t5, t6, t7]
  rfl

theorem r_163_eq (x0 : Fin 32) (x1 : Fin 128) : loopInv_k0_t1.sl.r_163 c arg1 arg8 arg9 arg10 arg11 arg12 arg13 arg14 arg15 k f1 f8 (ix2 x0 x1) =
    (blockW (arg1.view.read (Elt Ideal) f1) x1.val (512 * k.val + 384) (x0.val / 4)).extractLsb' (8 * (x0.val % 4)) 8 := by
  simp only [loopInv_k0_t1.sl.r_163, loopInv_k0_t1.sl.v1439, loopInv_k0_t1.sl.v1438, loopInv_k0_t1.sl.v1437, loopInv_k0_t1.sl.v1436, loopInv_k0_t1.sl.v1435, loopInv_k0_t1.sl.v1444, loopInv_k0_t1.sl.v1443, loopInv_k0_t1.sl.v1442, loopInv_k0_t1.sl.v1441, loopInv_k0_t1.sl.v1440, loopInv_k0_t1.sl.v1448, loopInv_k0_t1.sl.v1447, loopInv_k0_t1.sl.v1446, loopInv_k0_t1.sl.v1445, loopInv_k0_t1.sl.r_160, loopInv_k0_t1.sl.v1434, loopInv_k0_t1.sl.v1433, loopInv_k0_t1.sl.v1432, loopInv_k0_t1.sl.v1431, loopInv_k0_t1.sl.r_155, loopInv_k0_t1.sl.v1449, loopInv_k0_t1.sl.r_156, loopInv_k0_t1.sl.v1457, loopInv_k0_t1.sl.r_159, loopInv_k0_t1.sl.v1481, loopInv_k0_t1.sl.v1489, loopInv_k0_t1.sl.r_161, loopInv_k0_t1.sl.r_157, loopInv_k0_t1.sl.v1465, loopInv_k0_t1.sl.v1497, loopInv_k0_t1.sl.r_162, loopInv_k0_t1.sl.r_158, loopInv_k0_t1.sl.v1473, loopInv_k0_t1.sl.v1505]
  pointwise [k0_pay276, k0_pay277, k0_pay278, k0_pay279, k0_pay280, k0_pay281, k0_pay282, k0_pay283, k0_pay284, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (384 + x0.val / 4) = 512 * k.val + 384 + (8 * (x0.val / 4) + 0) := by simp only [src]; omega
  have t1 : 512 * k.val + src (392 + x0.val / 4) = 512 * k.val + 384 + (8 * (x0.val / 4) + 1) := by simp only [src]; omega
  have t2 : 512 * k.val + src (400 + x0.val / 4) = 512 * k.val + 384 + (8 * (x0.val / 4) + 2) := by simp only [src]; omega
  have t3 : 512 * k.val + src (408 + x0.val / 4) = 512 * k.val + 384 + (8 * (x0.val / 4) + 3) := by simp only [src]; omega
  have t4 : 512 * k.val + src (416 + x0.val / 4) = 512 * k.val + 384 + (8 * (x0.val / 4) + 4) := by simp only [src]; omega
  have t5 : 512 * k.val + src (424 + x0.val / 4) = 512 * k.val + 384 + (8 * (x0.val / 4) + 5) := by simp only [src]; omega
  have t6 : 512 * k.val + src (432 + x0.val / 4) = 512 * k.val + 384 + (8 * (x0.val / 4) + 6) := by simp only [src]; omega
  have t7 : 512 * k.val + src (440 + x0.val / 4) = 512 * k.val + 384 + (8 * (x0.val / 4) + 7) := by simp only [src]; omega
  simp only [t0, t1, t2, t3, t4, t5, t6, t7]
  rfl

theorem v1666_eq (x0 : Fin 32) (x1 : Fin 128) : loopInv_k0_t1.sl.v1666 c arg1 arg8 arg9 arg10 arg11 arg12 arg13 arg14 arg15 k f1 f8 (ix2 x0 x1) =
    (blockW (arg1.view.read (Elt Ideal) f1) x1.val (512 * k.val + 448) (x0.val / 4)).extractLsb' (8 * (x0.val % 4)) 8 := by
  simp only [loopInv_k0_t1.sl.v1666, loopInv_k0_t1.sl.v1665, loopInv_k0_t1.sl.r_174, loopInv_k0_t1.sl.r_165, loopInv_k0_t1.sl.v1553, loopInv_k0_t1.sl.r_166, loopInv_k0_t1.sl.v1558, loopInv_k0_t1.sl.r_167, loopInv_k0_t1.sl.v1563, loopInv_k0_t1.sl.r_168, loopInv_k0_t1.sl.v1549, loopInv_k0_t1.sl.v1567, loopInv_k0_t1.sl.r_169, loopInv_k0_t1.sl.r_164, loopInv_k0_t1.sl.v1575, loopInv_k0_t1.sl.r_172, loopInv_k0_t1.sl.v1599, loopInv_k0_t1.sl.r_173, loopInv_k0_t1.sl.v1607, loopInv_k0_t1.sl.v1664, loopInv_k0_t1.sl.r_175, loopInv_k0_t1.sl.r_170, loopInv_k0_t1.sl.v1583, loopInv_k0_t1.sl.r_171, loopInv_k0_t1.sl.v1591, loopInv_k0_t1.sl.v1615, loopInv_k0_t1.sl.v1623, loopInv_k0_t1.sl.v837]
  pointwise [k0_pay285, k0_pay286, k0_pay287, k0_pay288, k0_pay289, k0_pay290, k0_pay291, k0_pay292, k0_pay293, k0_pay294, k0_pay295, k0_pay296, bc16_32, bc32_16_lo, bc32_16_hi, bc32_8, raw9_0 c arg1 arg8 arg9 k f1 f8 hp, raw12_0 c arg1 arg8 arg10 arg11 arg12 k f1 f8 hp, raw13_0 c arg1 arg8 arg10 arg11 arg13 k f1 f8 hp, raw14_0 c arg1 arg8 arg10 arg11 arg14 k f1 f8 hp, raw15_0 c arg1 arg8 arg10 arg11 arg15 k f1 f8 hp]
  have hx := x0.isLt
  have hs : x0.val / 4 < 8 := by omega
  have t0 : 512 * k.val + src (448 + x0.val / 4) = 512 * k.val + 448 + (8 * (x0.val / 4) + 0) := by simp only [src]; omega
  have t1 : 512 * k.val + src (456 + x0.val / 4) = 512 * k.val + 448 + (8 * (x0.val / 4) + 1) := by simp only [src]; omega
  have t2 : 512 * k.val + src (464 + x0.val / 4) = 512 * k.val + 448 + (8 * (x0.val / 4) + 2) := by simp only [src]; omega
  have t3 : 512 * k.val + src (472 + x0.val / 4) = 512 * k.val + 448 + (8 * (x0.val / 4) + 3) := by simp only [src]; omega
  have t4 : 512 * k.val + src (480 + x0.val / 4) = 512 * k.val + 448 + (8 * (x0.val / 4) + 4) := by simp only [src]; omega
  have t5 : 512 * k.val + src (488 + x0.val / 4) = 512 * k.val + 448 + (8 * (x0.val / 4) + 5) := by simp only [src]; omega
  have t6 : 512 * k.val + src (496 + x0.val / 4) = 512 * k.val + 448 + (8 * (x0.val / 4) + 6) := by simp only [src]; omega
  have t7 : 512 * k.val + src (504 + x0.val / 4) = 512 * k.val + 448 + (8 * (x0.val / 4) + 7) := by simp only [src]; omega
  simp only [t0, t1, t2, t3, t4, t5, t6, t7]
  rfl

end
end Cert.Proof.KernelIdeal
end
-- ==== Proof.Val6c.lean ====
module
public import proofs.«01_k».proof.Proof.Val5

/-! The bytes of the packed codes, block by block. -/

@[expose] public section
noncomputable section
namespace Cert.Proof.KernelIdeal
open Cert.KernelIdeal Cert.KernelIdeal.Gen
open Idealize.ShloMosaic Idealize.ShloMosaic.TcCoe Idealize.ShloMosaic.View

section
variable (c : Dev nD) (arg1 : Memref sig .tc .vmem S1x256x12288 .bf16) (arg8 : Memref sig .tc .vmem S256x256 .bf16)
  (arg9 : Memref sig .tc .vmem S512x256 .f32)
  (arg10 arg11 : Memref sig .tc .vmem S2x64x2x128 .bf16)
  (arg12 : Memref sig .tc .vmem S2x8x128 .f32) (arg13 arg14 arg15 : Memref sig .tc .vmem S2x8x128 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

theorem v1978_eq (x0 : Fin 32) (x1 : Fin 128) : loopInv_k0_t1.sl.v1978 c arg1 arg8 arg9 arg10 arg11 arg12 arg13 arg14 arg15 k f1 f8 (ix2 x0 x1) =
    (blockW (arg1.view.read (Elt Ideal) f1) (128 + x1.val) (512 * k.val + 0) (x0.val / 4)).extractLsb' (8 * (x0.val % 4)) 8 := by
  simp only [loopInv_k0_t1.sl.v1978, loopInv_k0_t1.sl.v1977, loopInv_k0_t1.sl.v1972, loopInv_k0_t1.sl.v1956, loopInv_k0_t1.sl.v1949, loopInv_k0_t1.sl.v1947, loopInv_k0_t1.sl.v1946, loopInv_k0_t1.sl.v1945, loopInv_k0_t1.sl.v1944, loopInv_k0_t1.sl.v1943, loopInv_k0_t1.sl.r_192, loopInv_k0_t1.sl.r_187, loopInv_k0_t1.sl.v1861, loopInv_k0_t1.sl.v1879, loopInv_k0_t1.sl.r_197, loopInv_k0_t1.sl.r_188, loopInv_k0_t1.sl.v1911, loopInv_k0_t1.sl.r_189, loopInv_k0_t1.sl.v1865, loopInv_k0_t1.sl.r_190, loopInv_k0_t1.sl.v1870, loopInv_k0_t1.sl.v810, loopInv_k0_t1.sl.v1955, loopInv_k0_t1.sl.v1954, loopInv_k0_t1.sl.v1953, loopInv_k0_t1.sl.v1952, loopInv_k0_t1.sl.v1951, loopInv_k0_t1.sl.v1950, loopInv_k0_t1.sl.r_193, loopInv_k0_t1.sl.v1887, loopInv_k0_t1.sl.r_198, loopInv_k0_t1.sl.v1919, loopInv_k0_t1.sl.r_191, loopInv_k0_t1.sl.v1875, loopInv_k0_t1.sl.v833, loopInv_k0_t1.sl.v1976, loopInv_k0_t1.sl.v1974, loopInv_k0_t1.sl.v1970, loopInv_k0_t1.sl.v1963, loopInv_k0_t1.sl.v1961, loopInv_k0_t1.sl.v1960, loopInv_k0_t1.sl.v1959, loopInv_k0_t1.sl.v1958, loopInv_k0_t1.sl.v1957, loopInv_k0_t1.sl.r_195, loopInv_k0_t1.sl.r_194, loopInv_k0_t1.sl.v1895, loopInv_k0_t1.sl.r_199, loopInv_k0_t1.sl.v1927, loopInv_k0_t1.sl.v1969, loopInv_k0_t1.sl.v1968, loopInv_k0_t1.sl.v1967, loopInv_k0_t1.sl.v1966, loopInv_k0_t1.sl.v1965, loopInv_k0_t1.sl.v1964, loopInv_k0_t1.sl.r_196, loopInv_k0_t1.sl.v1903, loopInv_k0_t1.sl.v1942, loopInv_k0_t1.sl.r_200, loopInv_k0_t1.sl.v1935, loopInv_k0_t1.sl.v837]
  pointwise [k0_pay329, k0_pay330, k0_pay331, k0_pay332, k0_pay333, k0_pay334, k0_pay335, k0_pay336, k0_pay337, k0_pay338, k0_pay339, k0_pay340, k0_pay341, k0_pay342, k0_pay343, k0_pay344, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (0 + x0.val / 4) = 512 * k.val + 0 + (8 * (x0.val / 4) + 0) := by simp only [src]; omega
  have t1 : 512 * k.val + src (8 + x0.val / 4) = 512 * k.val + 0 + (8 * (x0.val / 4) + 1) := by simp only [src]; omega
  have t2 : 512 * k.val + src (16 + x0.val / 4) = 512 * k.val + 0 + (8 * (x0.val / 4) + 2) := by simp only [src]; omega
  have t3 : 512 * k.val + src (24 + x0.val / 4) = 512 * k.val + 0 + (8 * (x0.val / 4) + 3) := by simp only [src]; omega
  have t4 : 512 * k.val + src (32 + x0.val / 4) = 512 * k.val + 0 + (8 * (x0.val / 4) + 4) := by simp only [src]; omega
  have t5 : 512 * k.val + src (40 + x0.val / 4) = 512 * k.val + 0 + (8 * (x0.val / 4) + 5) := by simp only [src]; omega
  have t6 : 512 * k.val + src (48 + x0.val / 4) = 512 * k.val + 0 + (8 * (x0.val / 4) + 6) := by simp only [src]; omega
  have t7 : 512 * k.val + src (56 + x0.val / 4) = 512 * k.val + 0 + (8 * (x0.val / 4) + 7) := by simp only [src]; omega
  try rw [Nat.zero_add] at t0
  simp only [t0, t1, t2, t3, t4, t5, t6, t7]
  rfl

theorem v2096_eq (x0 : Fin 32) (x1 : Fin 128) : loopInv_k0_t1.sl.v2096 c arg1 arg8 arg9 arg10 arg11 arg12 arg13 arg14 arg15 k f1 f8 (ix2 x0 x1) =
    (blockW (arg1.view.read (Elt Ideal) f1) (128 + x1.val) (512 * k.val + 64) (x0.val / 4)).extractLsb' (8 * (x0.val % 4)) 8 := by
  simp only [loopInv_k0_t1.sl.v2096, loopInv_k0_t1.sl.v2095, loopInv_k0_t1.sl.v2090, loopInv_k0_t1.sl.v2074, loopInv_k0_t1.sl.r_209, loopInv_k0_t1.sl.v1982, loopInv_k0_t1.sl.v1981, loopInv_k0_t1.sl.v1980, loopInv_k0_t1.sl.v1979, loopInv_k0_t1.sl.v1987, loopInv_k0_t1.sl.v1986, loopInv_k0_t1.sl.v1985, loopInv_k0_t1.sl.v1984, loopInv_k0_t1.sl.v1983, loopInv_k0_t1.sl.r_201, loopInv_k0_t1.sl.v1988, loopInv_k0_t1.sl.r_203, loopInv_k0_t1.sl.v1997, loopInv_k0_t1.sl.v2029, loopInv_k0_t1.sl.v2073, loopInv_k0_t1.sl.v2072, loopInv_k0_t1.sl.r_210, loopInv_k0_t1.sl.r_204, loopInv_k0_t1.sl.v2005, loopInv_k0_t1.sl.v2037, loopInv_k0_t1.sl.r_202, loopInv_k0_t1.sl.v1993, loopInv_k0_t1.sl.v833, loopInv_k0_t1.sl.v2094, loopInv_k0_t1.sl.v2092, loopInv_k0_t1.sl.v2088, loopInv_k0_t1.sl.v2081, loopInv_k0_t1.sl.v2079, loopInv_k0_t1.sl.v2078, loopInv_k0_t1.sl.v2077, loopInv_k0_t1.sl.v2076, loopInv_k0_t1.sl.v2075, loopInv_k0_t1.sl.r_205, loopInv_k0_t1.sl.v2013, loopInv_k0_t1.sl.r_207, loopInv_k0_t1.sl.v2045, loopInv_k0_t1.sl.v810, loopInv_k0_t1.sl.v2087, loopInv_k0_t1.sl.v2086, loopInv_k0_t1.sl.v2085, loopInv_k0_t1.sl.v2084, loopInv_k0_t1.sl.v2083, loopInv_k0_t1.sl.v2082, loopInv_k0_t1.sl.r_206, loopInv_k0_t1.sl.v2021, loopInv_k0_t1.sl.r_208, loopInv_k0_t1.sl.v2053, loopInv_k0_t1.sl.v837]
  pointwise [k0_pay348, k0_pay349, k0_pay350, k0_pay351, k0_pay352, k0_pay353, k0_pay354, k0_pay355, k0_pay356, k0_pay357, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (64 + x0.val / 4) = 512 * k.val + 64 + (8 * (x0.val / 4) + 0) := by simp only [src]; omega
  have t1 : 512 * k.val + src (72 + x0.val / 4) = 512 * k.val + 64 + (8 * (x0.val / 4) + 1) := by simp only [src]; omega
  have t2 : 512 * k.val + src (80 + x0.val / 4) = 512 * k.val + 64 + (8 * (x0.val / 4) + 2) := by simp only [src]; omega
  have t3 : 512 * k.val + src (88 + x0.val / 4) = 512 * k.val + 64 + (8 * (x0.val / 4) + 3) := by simp only [src]; omega
  have t4 : 512 * k.val + src (96 + x0.val / 4) = 512 * k.val + 64 + (8 * (x0.val / 4) + 4) := by simp only [src]; omega
  have t5 : 512 * k.val + src (104 + x0.val / 4) = 512 * k.val + 64 + (8 * (x0.val / 4) + 5) := by simp only [src]; omega
  have t6 : 512 * k.val + src (112 + x0.val / 4) = 512 * k.val + 64 + (8 * (x0.val / 4) + 6) := by simp only [src]; omega
  have t7 : 512 * k.val + src (120 + x0.val / 4) = 512 * k.val + 64 + (8 * (x0.val / 4) + 7) := by simp only [src]; omega
  simp only [t0, t1, t2, t3, t4, t5, t6, t7]
  rfl

theorem r_219_eq (x0 : Fin 32) (x1 : Fin 128) : loopInv_k0_t1.sl.r_219 c arg1 arg8 arg9 arg10 arg11 arg12 arg13 arg14 arg15 k f1 f8 (ix2 x0 x1) =
    (blockW (arg1.view.read (Elt Ideal) f1) (128 + x1.val) (512 * k.val + 128) (x0.val / 4)).extractLsb' (8 * (x0.val % 4)) 8 := by
  simp only [loopInv_k0_t1.sl.r_219, loopInv_k0_t1.sl.v2105, loopInv_k0_t1.sl.v2104, loopInv_k0_t1.sl.v2103, loopInv_k0_t1.sl.v2102, loopInv_k0_t1.sl.v2101, loopInv_k0_t1.sl.v2110, loopInv_k0_t1.sl.v2109, loopInv_k0_t1.sl.v2108, loopInv_k0_t1.sl.v2107, loopInv_k0_t1.sl.v2106, loopInv_k0_t1.sl.v2114, loopInv_k0_t1.sl.v2113, loopInv_k0_t1.sl.v2112, loopInv_k0_t1.sl.v2111, loopInv_k0_t1.sl.r_216, loopInv_k0_t1.sl.v2100, loopInv_k0_t1.sl.v2099, loopInv_k0_t1.sl.v2098, loopInv_k0_t1.sl.v2097, loopInv_k0_t1.sl.r_211, loopInv_k0_t1.sl.v2115, loopInv_k0_t1.sl.r_212, loopInv_k0_t1.sl.v2123, loopInv_k0_t1.sl.r_215, loopInv_k0_t1.sl.v2147, loopInv_k0_t1.sl.v2155, loopInv_k0_t1.sl.r_217, loopInv_k0_t1.sl.r_213, loopInv_k0_t1.sl.v2131, loopInv_k0_t1.sl.v2163, loopInv_k0_t1.sl.r_218, loopInv_k0_t1.sl.r_214, loopInv_k0_t1.sl.v2139, loopInv_k0_t1.sl.v2171]
  pointwise [k0_pay363, k0_pay364, k0_pay365, k0_pay366, k0_pay367, k0_pay368, k0_pay369, k0_pay370, k0_pay371, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (128 + x0.val / 4) = 512 * k.val + 128 + (8 * (x0.val / 4) + 0) := by simp only [src]; omega
  have t1 : 512 * k.val + src (136 + x0.val / 4) = 512 * k.val + 128 + (8 * (x0.val / 4) + 1) := by simp only [src]; omega
  have t2 : 512 * k.val + src (144 + x0.val / 4) = 512 * k.val + 128 + (8 * (x0.val / 4) + 2) := by simp only [src]; omega
  have t3 : 512 * k.val + src (152 + x0.val / 4) = 512 * k.val + 128 + (8 * (x0.val / 4) + 3) := by simp only [src]; omega
  have t4 : 512 * k.val + src (160 + x0.val / 4) = 512 * k.val + 128 + (8 * (x0.val / 4) + 4) := by simp only [src]; omega
  have t5 : 512 * k.val + src (168 + x0.val / 4) = 512 * k.val + 128 + (8 * (x0.val / 4) + 5) := by simp only [src]; omega
  have t6 : 512 * k.val + src (176 + x0.val / 4) = 512 * k.val + 128 + (8 * (x0.val / 4) + 6) := by simp only [src]; omega
  have t7 : 512 * k.val + src (184 + x0.val / 4) = 512 * k.val + 128 + (8 * (x0.val / 4) + 7) := by simp only [src]; omega
  simp only [t0, t1, t2, t3, t4, t5, t6, t7]
  rfl

theorem r_232_eq (x0 : Fin 32) (x1 : Fin 128) : loopInv_k0_t1.sl.r_232 c arg1 arg8 arg9 arg10 arg11 arg12 arg13 arg14 arg15 k f1 f8 (ix2 x0 x1) =
    (blockW (arg1.view.read (Elt Ideal) f1) (128 + x1.val) (512 * k.val + 192) (x0.val / 4)).extractLsb' (8 * (x0.val % 4)) 8 := by
  simp only [loopInv_k0_t1.sl.r_232, loopInv_k0_t1.sl.r_230, loopInv_k0_t1.sl.r_221, loopInv_k0_t1.sl.v2219, loopInv_k0_t1.sl.r_222, loopInv_k0_t1.sl.v2224, loopInv_k0_t1.sl.r_223, loopInv_k0_t1.sl.v2229, loopInv_k0_t1.sl.r_224, loopInv_k0_t1.sl.v2215, loopInv_k0_t1.sl.v2233, loopInv_k0_t1.sl.r_225, loopInv_k0_t1.sl.r_220, loopInv_k0_t1.sl.v2241, loopInv_k0_t1.sl.r_228, loopInv_k0_t1.sl.v2265, loopInv_k0_t1.sl.r_229, loopInv_k0_t1.sl.v2273, loopInv_k0_t1.sl.r_231, loopInv_k0_t1.sl.r_226, loopInv_k0_t1.sl.v2249, loopInv_k0_t1.sl.r_227, loopInv_k0_t1.sl.v2257, loopInv_k0_t1.sl.v2281, loopInv_k0_t1.sl.v2289]
  pointwise [k0_pay372, k0_pay373, k0_pay374, k0_pay375, k0_pay376, k0_pay377, k0_pay378, k0_pay379, k0_pay380, k0_pay381, k0_pay382, k0_pay383, k0_pay384, k0_pay385, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (192 + x0.val / 4) = 512 * k.val + 192 + (8 * (x0.val / 4) + 0) := by simp only [src]; omega
  have t1 : 512 * k.val + src (200 + x0.val / 4) = 512 * k.val + 192 + (8 * (x0.val / 4) + 1) := by simp only [src]; omega
  have t2 : 512 * k.val + src (208 + x0.val / 4) = 512 * k.val + 192 + (8 * (x0.val / 4) + 2) := by simp only [src]; omega
  have t3 : 512 * k.val + src (216 + x0.val / 4) = 512 * k.val + 192 + (8 * (x0.val / 4) + 3) := by simp only [src]; omega
  have t4 : 512 * k.val + src (224 + x0.val / 4) = 512 * k.val + 192 + (8 * (x0.val / 4) + 4) := by simp only [src]; omega
  have t5 : 512 * k.val + src (232 + x0.val / 4) = 512 * k.val + 192 + (8 * (x0.val / 4) + 5) := by simp only [src]; omega
  have t6 : 512 * k.val + src (240 + x0.val / 4) = 512 * k.val + 192 + (8 * (x0.val / 4) + 6) := by simp only [src]; omega
  have t7 : 512 * k.val + src (248 + x0.val / 4) = 512 * k.val + 192 + (8 * (x0.val / 4) + 7) := by simp only [src]; omega
  simp only [t0, t1, t2, t3, t4, t5, t6, t7]
  rfl

end
end Cert.Proof.KernelIdeal
end
-- ==== Proof.Val6d.lean ====
module
public import proofs.«01_k».proof.Proof.Val5

/-! The bytes of the packed codes, block by block. -/

@[expose] public section
noncomputable section
namespace Cert.Proof.KernelIdeal
open Cert.KernelIdeal Cert.KernelIdeal.Gen
open Idealize.ShloMosaic Idealize.ShloMosaic.TcCoe Idealize.ShloMosaic.View

section
variable (c : Dev nD) (arg1 : Memref sig .tc .vmem S1x256x12288 .bf16) (arg8 : Memref sig .tc .vmem S256x256 .bf16)
  (arg9 : Memref sig .tc .vmem S512x256 .f32)
  (arg10 arg11 : Memref sig .tc .vmem S2x64x2x128 .bf16)
  (arg12 : Memref sig .tc .vmem S2x8x128 .f32) (arg13 arg14 arg15 : Memref sig .tc .vmem S2x8x128 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

theorem r_244_eq (x0 : Fin 32) (x1 : Fin 128) : loopInv_k0_t1.sl.r_244 c arg1 arg8 arg9 arg10 arg11 arg12 arg13 arg14 arg15 k f1 f8 (ix2 x0 x1) =
    (blockW (arg1.view.read (Elt Ideal) f1) (128 + x1.val) (512 * k.val + 256) (x0.val / 4)).extractLsb' (8 * (x0.val % 4)) 8 := by
  simp only [loopInv_k0_t1.sl.r_244, loopInv_k0_t1.sl.r_233, loopInv_k0_t1.sl.v2333, loopInv_k0_t1.sl.r_234, loopInv_k0_t1.sl.v2337, loopInv_k0_t1.sl.r_235, loopInv_k0_t1.sl.v2342, loopInv_k0_t1.sl.r_236, loopInv_k0_t1.sl.v2347, loopInv_k0_t1.sl.r_237, loopInv_k0_t1.sl.v2351, loopInv_k0_t1.sl.r_238, loopInv_k0_t1.sl.v2359, loopInv_k0_t1.sl.r_239, loopInv_k0_t1.sl.v2367, loopInv_k0_t1.sl.r_240, loopInv_k0_t1.sl.v2375, loopInv_k0_t1.sl.r_241, loopInv_k0_t1.sl.v2383, loopInv_k0_t1.sl.r_242, loopInv_k0_t1.sl.v2391, loopInv_k0_t1.sl.r_243, loopInv_k0_t1.sl.v2399, loopInv_k0_t1.sl.v2407]
  pointwise [k0_pay386, k0_pay387, k0_pay388, k0_pay389, k0_pay390, k0_pay391, k0_pay392, k0_pay393, k0_pay394, k0_pay395, k0_pay396, k0_pay397, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (256 + x0.val / 4) = 512 * k.val + 256 + (8 * (x0.val / 4) + 0) := by simp only [src]; omega
  have t1 : 512 * k.val + src (264 + x0.val / 4) = 512 * k.val + 256 + (8 * (x0.val / 4) + 1) := by simp only [src]; omega
  have t2 : 512 * k.val + src (272 + x0.val / 4) = 512 * k.val + 256 + (8 * (x0.val / 4) + 2) := by simp only [src]; omega
  have t3 : 512 * k.val + src (280 + x0.val / 4) = 512 * k.val + 256 + (8 * (x0.val / 4) + 3) := by simp only [src]; omega
  have t4 : 512 * k.val + src (288 + x0.val / 4) = 512 * k.val + 256 + (8 * (x0.val / 4) + 4) := by simp only [src]; omega
  have t5 : 512 * k.val + src (296 + x0.val / 4) = 512 * k.val + 256 + (8 * (x0.val / 4) + 5) := by simp only [src]; omega
  have t6 : 512 * k.val + src (304 + x0.val / 4) = 512 * k.val + 256 + (8 * (x0.val / 4) + 6) := by simp only [src]; omega
  have t7 : 512 * k.val + src (312 + x0.val / 4) = 512 * k.val + 256 + (8 * (x0.val / 4) + 7) := by simp only [src]; omega
  simp only [t0, t1, t2, t3, t4, t5, t6, t7]
  rfl

theorem v2568_eq (x0 : Fin 32) (x1 : Fin 128) : loopInv_k0_t1.sl.v2568 c arg1 arg8 arg9 arg10 arg11 arg12 arg13 arg14 arg15 k f1 f8 (ix2 x0 x1) =
    (blockW (arg1.view.read (Elt Ideal) f1) (128 + x1.val) (512 * k.val + 320) (x0.val / 4)).extractLsb' (8 * (x0.val % 4)) 8 := by
  simp only [loopInv_k0_t1.sl.v2568, loopInv_k0_t1.sl.v2567, loopInv_k0_t1.sl.v2562, loopInv_k0_t1.sl.v2546, loopInv_k0_t1.sl.v2539, loopInv_k0_t1.sl.v2537, loopInv_k0_t1.sl.r_257, loopInv_k0_t1.sl.r_245, loopInv_k0_t1.sl.v2451, loopInv_k0_t1.sl.r_246, loopInv_k0_t1.sl.v2455, loopInv_k0_t1.sl.r_247, loopInv_k0_t1.sl.v2460, loopInv_k0_t1.sl.r_249, loopInv_k0_t1.sl.v2469, loopInv_k0_t1.sl.v2501, loopInv_k0_t1.sl.v810, loopInv_k0_t1.sl.v2545, loopInv_k0_t1.sl.v2544, loopInv_k0_t1.sl.v2543, loopInv_k0_t1.sl.v2542, loopInv_k0_t1.sl.v2541, loopInv_k0_t1.sl.v2540, loopInv_k0_t1.sl.r_250, loopInv_k0_t1.sl.v2477, loopInv_k0_t1.sl.r_254, loopInv_k0_t1.sl.v2509, loopInv_k0_t1.sl.r_248, loopInv_k0_t1.sl.v2465, loopInv_k0_t1.sl.v833, loopInv_k0_t1.sl.v2566, loopInv_k0_t1.sl.v2564, loopInv_k0_t1.sl.v2560, loopInv_k0_t1.sl.v2553, loopInv_k0_t1.sl.v2551, loopInv_k0_t1.sl.v2550, loopInv_k0_t1.sl.v2549, loopInv_k0_t1.sl.v2548, loopInv_k0_t1.sl.v2547, loopInv_k0_t1.sl.r_251, loopInv_k0_t1.sl.v2485, loopInv_k0_t1.sl.r_255, loopInv_k0_t1.sl.v2517, loopInv_k0_t1.sl.v2559, loopInv_k0_t1.sl.v2558, loopInv_k0_t1.sl.v2557, loopInv_k0_t1.sl.v2556, loopInv_k0_t1.sl.v2555, loopInv_k0_t1.sl.v2554, loopInv_k0_t1.sl.r_253, loopInv_k0_t1.sl.r_252, loopInv_k0_t1.sl.v2493, loopInv_k0_t1.sl.r_256, loopInv_k0_t1.sl.v2525, loopInv_k0_t1.sl.v837]
  pointwise [k0_pay398, k0_pay399, k0_pay400, k0_pay401, k0_pay402, k0_pay403, k0_pay404, k0_pay405, k0_pay406, k0_pay407, k0_pay408, k0_pay409, k0_pay410, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (320 + x0.val / 4) = 512 * k.val + 320 + (8 * (x0.val / 4) + 0) := by simp only [src]; omega
  have t1 : 512 * k.val + src (328 + x0.val / 4) = 512 * k.val + 320 + (8 * (x0.val / 4) + 1) := by simp only [src]; omega
  have t2 : 512 * k.val + src (336 + x0.val / 4) = 512 * k.val + 320 + (8 * (x0.val / 4) + 2) := by simp only [src]; omega
  have t3 : 512 * k.val + src (344 + x0.val / 4) = 512 * k.val + 320 + (8 * (x0.val / 4) + 3) := by simp only [src]; omega
  have t4 : 512 * k.val + src (352 + x0.val / 4) = 512 * k.val + 320 + (8 * (x0.val / 4) + 4) := by simp only [src]; omega
  have t5 : 512 * k.val + src (360 + x0.val / 4) = 512 * k.val + 320 + (8 * (x0.val / 4) + 5) := by simp only [src]; omega
  have t6 : 512 * k.val + src (368 + x0.val / 4) = 512 * k.val + 320 + (8 * (x0.val / 4) + 6) := by simp only [src]; omega
  have t7 : 512 * k.val + src (376 + x0.val / 4) = 512 * k.val + 320 + (8 * (x0.val / 4) + 7) := by simp only [src]; omega
  simp only [t0, t1, t2, t3, t4, t5, t6, t7]
  rfl

theorem r_267_eq (x0 : Fin 32) (x1 : Fin 128) : loopInv_k0_t1.sl.r_267 c arg1 arg8 arg9 arg10 arg11 arg12 arg13 arg14 arg15 k f1 f8 (ix2 x0 x1) =
    (blockW (arg1.view.read (Elt Ideal) f1) (128 + x1.val) (512 * k.val + 384) (x0.val / 4)).extractLsb' (8 * (x0.val % 4)) 8 := by
  simp only [loopInv_k0_t1.sl.r_267, loopInv_k0_t1.sl.v2577, loopInv_k0_t1.sl.v2576, loopInv_k0_t1.sl.v2575, loopInv_k0_t1.sl.v2574, loopInv_k0_t1.sl.v2573, loopInv_k0_t1.sl.v2582, loopInv_k0_t1.sl.v2581, loopInv_k0_t1.sl.v2580, loopInv_k0_t1.sl.v2579, loopInv_k0_t1.sl.v2578, loopInv_k0_t1.sl.r_258, loopInv_k0_t1.sl.v2583, loopInv_k0_t1.sl.r_262, loopInv_k0_t1.sl.v2572, loopInv_k0_t1.sl.v2571, loopInv_k0_t1.sl.v2570, loopInv_k0_t1.sl.v2569, loopInv_k0_t1.sl.v2611, loopInv_k0_t1.sl.r_264, loopInv_k0_t1.sl.v2643, loopInv_k0_t1.sl.r_265, loopInv_k0_t1.sl.r_259, loopInv_k0_t1.sl.v2587, loopInv_k0_t1.sl.r_260, loopInv_k0_t1.sl.v2595, loopInv_k0_t1.sl.r_263, loopInv_k0_t1.sl.v2619, loopInv_k0_t1.sl.cst_980, loopInv_k0_t1.sl.v2627, loopInv_k0_t1.sl.r_266, loopInv_k0_t1.sl.r_261, loopInv_k0_t1.sl.v2603, loopInv_k0_t1.sl.v2635]
  pointwise [k0_pay415, k0_pay416, k0_pay417, k0_pay418, k0_pay419, k0_pay420, k0_pay421, k0_pay422, k0_pay423, k0_pay424, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (384 + x0.val / 4) = 512 * k.val + 384 + (8 * (x0.val / 4) + 0) := by simp only [src]; omega
  have t1 : 512 * k.val + src (392 + x0.val / 4) = 512 * k.val + 384 + (8 * (x0.val / 4) + 1) := by simp only [src]; omega
  have t2 : 512 * k.val + src (400 + x0.val / 4) = 512 * k.val + 384 + (8 * (x0.val / 4) + 2) := by simp only [src]; omega
  have t3 : 512 * k.val + src (408 + x0.val / 4) = 512 * k.val + 384 + (8 * (x0.val / 4) + 3) := by simp only [src]; omega
  have t4 : 512 * k.val + src (416 + x0.val / 4) = 512 * k.val + 384 + (8 * (x0.val / 4) + 4) := by simp only [src]; omega
  have t5 : 512 * k.val + src (424 + x0.val / 4) = 512 * k.val + 384 + (8 * (x0.val / 4) + 5) := by simp only [src]; omega
  have t6 : 512 * k.val + src (432 + x0.val / 4) = 512 * k.val + 384 + (8 * (x0.val / 4) + 6) := by simp only [src]; omega
  have t7 : 512 * k.val + src (440 + x0.val / 4) = 512 * k.val + 384 + (8 * (x0.val / 4) + 7) := by simp only [src]; omega
  simp only [t0, t1, t2, t3, t4, t5, t6, t7]
  rfl

theorem v2804_eq (x0 : Fin 32) (x1 : Fin 128) : loopInv_k0_t1.sl.v2804 c arg1 arg8 arg9 arg10 arg11 arg12 arg13 arg14 arg15 k f1 f8 (ix2 x0 x1) =
    (blockW (arg1.view.read (Elt Ideal) f1) (128 + x1.val) (512 * k.val + 448) (x0.val / 4)).extractLsb' (8 * (x0.val % 4)) 8 := by
  simp only [loopInv_k0_t1.sl.v2804, loopInv_k0_t1.sl.v2803, loopInv_k0_t1.sl.v2798, loopInv_k0_t1.sl.r_279, loopInv_k0_t1.sl.r_269, loopInv_k0_t1.sl.v2691, loopInv_k0_t1.sl.r_270, loopInv_k0_t1.sl.v2696, loopInv_k0_t1.sl.r_271, loopInv_k0_t1.sl.v2701, loopInv_k0_t1.sl.r_273, loopInv_k0_t1.sl.r_272, loopInv_k0_t1.sl.v2687, loopInv_k0_t1.sl.v2705, loopInv_k0_t1.sl.r_274, loopInv_k0_t1.sl.r_268, loopInv_k0_t1.sl.v2713, loopInv_k0_t1.sl.r_277, loopInv_k0_t1.sl.v2737, loopInv_k0_t1.sl.r_278, loopInv_k0_t1.sl.v2745, loopInv_k0_t1.sl.v833, loopInv_k0_t1.sl.v2802, loopInv_k0_t1.sl.v2800, loopInv_k0_t1.sl.r_280, loopInv_k0_t1.sl.r_275, loopInv_k0_t1.sl.v2721, loopInv_k0_t1.sl.r_276, loopInv_k0_t1.sl.v2729, loopInv_k0_t1.sl.v2753, loopInv_k0_t1.sl.v2761, loopInv_k0_t1.sl.v837]
  pointwise [k0_pay425, k0_pay426, k0_pay427, k0_pay428, k0_pay429, k0_pay430, k0_pay431, k0_pay432, k0_pay433, k0_pay434, k0_pay435, k0_pay436, k0_pay437, k0_pay438, k0_pay439, bc16_32, bc32_16_lo, bc32_16_hi, bc32_8, raw9_1 c arg1 arg8 arg9 k f1 f8 hp, raw12_1 c arg1 arg8 arg10 arg11 arg12 k f1 f8 hp, raw13_1 c arg1 arg8 arg10 arg11 arg13 k f1 f8 hp, raw14_1 c arg1 arg8 arg10 arg11 arg14 k f1 f8 hp, raw15_1 c arg1 arg8 arg10 arg11 arg15 k f1 f8 hp]
  have hx := x0.isLt
  have hs : x0.val / 4 < 8 := by omega
  have t0 : 512 * k.val + src (448 + x0.val / 4) = 512 * k.val + 448 + (8 * (x0.val / 4) + 0) := by simp only [src]; omega
  have t1 : 512 * k.val + src (456 + x0.val / 4) = 512 * k.val + 448 + (8 * (x0.val / 4) + 1) := by simp only [src]; omega
  have t2 : 512 * k.val + src (464 + x0.val / 4) = 512 * k.val + 448 + (8 * (x0.val / 4) + 2) := by simp only [src]; omega
  have t3 : 512 * k.val + src (472 + x0.val / 4) = 512 * k.val + 448 + (8 * (x0.val / 4) + 3) := by simp only [src]; omega
  have t4 : 512 * k.val + src (480 + x0.val / 4) = 512 * k.val + 448 + (8 * (x0.val / 4) + 4) := by simp only [src]; omega
  have t5 : 512 * k.val + src (488 + x0.val / 4) = 512 * k.val + 448 + (8 * (x0.val / 4) + 5) := by simp only [src]; omega
  have t6 : 512 * k.val + src (496 + x0.val / 4) = 512 * k.val + 448 + (8 * (x0.val / 4) + 6) := by simp only [src]; omega
  have t7 : 512 * k.val + src (504 + x0.val / 4) = 512 * k.val + 448 + (8 * (x0.val / 4) + 7) := by simp only [src]; omega
  simp only [t0, t1, t2, t3, t4, t5, t6, t7]
  rfl

end
end Cert.Proof.KernelIdeal
end
-- ==== Proof.Val7.lean ====
module
public import proofs.«01_k».proof.Proof.Val6a
public import proofs.«01_k».proof.Proof.Val6b
public import proofs.«01_k».proof.Proof.Val6c
public import proofs.«01_k».proof.Proof.Val6d

/-! One trip of the loop: what it stores of the packed codes. -/

@[expose] public section
noncomputable section
namespace Cert.Proof.KernelIdeal
open Cert.KernelIdeal Cert.KernelIdeal.Gen
open Idealize.ShloMosaic Idealize.ShloMosaic.TcCoe Idealize.ShloMosaic.View

/-- The packed code of a row at a column: a byte of the word of its block. -/
def PB (d : S1x256x12288.Idx → EReal) (R C : ℕ) : BitVec 8 :=
  (blockW d R (64 * (C / 32)) (C % 32 / 4)).extractLsb' (8 * (C % 4)) 8

theorem PB_at (d : S1x256x12288.Idx → EReal) (R K b C : ℕ) (x0 : Fin 32) (hC : 32 * b + 256 * K + x0.val = C) :
    (blockW d R (512 * K + 64 * b) (x0.val / 4)).extractLsb' (8 * (x0.val % 4)) 8 = PB d R C := by
  have hx := x0.isLt
  unfold PB
  rw [show 64 * (C / 32) = 512 * K + 64 * b by omega, show C % 32 / 4 = x0.val / 4 by omega, show C % 4 = x0.val % 4 by omega]

/-- Four blocks of rows one under the other. -/
theorem cat4 (G : ℕ → ℕ → BitVec 8) (x y z w : S32x128.Idx → BitVec 8) (hc)
    (hx : ∀ (a : Fin 32) (r : Fin 128), x (ix2 a r) = G a.val r.val)
    (hy : ∀ (a : Fin 32) (r : Fin 128), y (ix2 a r) = G (32 + a.val) r.val)
    (hz : ∀ (a : Fin 32) (r : Fin 128), z (ix2 a r) = G (64 + a.val) r.val)
    (hw : ∀ (a : Fin 32) (r : Fin 128), w (ix2 a r) = G (96 + a.val) r.val) (q r : Fin 128) :
    concatenate S128x128 0 [⟨S32x128, x⟩, ⟨S32x128, y⟩, ⟨S32x128, z⟩, ⟨S32x128, w⟩] hc (ix2 q r) = G q.val r.val := by
  have hq := q.isLt
  obtain h | h | h | h : q.val < 32 ∨ (32 ≤ q.val ∧ q.val < 64) ∨ (64 ≤ q.val ∧ q.val < 96) ∨ 96 ≤ q.val := by omega
  · rw [concatenate_apply_piece (t := S128x128) 0 _ hc (ix2 q r) 0 (by show 0 < 4; omega) S32x128 x rfl rfl 0 rfl (ix2 (⟨q.val, h⟩ : Fin 32) r)
      (by intro b hb; match b with
          | ⟨0, _⟩ => exact absurd rfl hb
          | ⟨1, _⟩ => rfl) (by show 0 + q.val = q.val; omega)]
    exact hx _ _
  · rw [concatenate_apply_piece (t := S128x128) 0 _ hc (ix2 q r) 1 (by show 1 < 4; omega) S32x128 y rfl rfl 32 rfl (ix2 (⟨q.val - 32, by omega⟩ : Fin 32) r)
      (by intro b hb; match b with
          | ⟨0, _⟩ => exact absurd rfl hb
          | ⟨1, _⟩ => rfl) (by show 32 + (q.val - 32) = q.val; omega)]
    refine (hy _ _).trans ?_
    show G (32 + (q.val - 32)) _ = _
    rw [show 32 + (q.val - 32) = q.val by omega]
  · rw [concatenate_apply_piece (t := S128x128) 0 _ hc (ix2 q r) 2 (by show 2 < 4; omega) S32x128 z rfl rfl 64 rfl (ix2 (⟨q.val - 64, by omega⟩ : Fin 32) r)
      (by intro b hb; match b with
          | ⟨0, _⟩ => exact absurd rfl hb
          | ⟨1, _⟩ => rfl) (by show 64 + (q.val - 64) = q.val; omega)]
    refine (hz _ _).trans ?_
    show G (64 + (q.val - 64)) _ = _
    rw [show 64 + (q.val - 64) = q.val by omega]
  · rw [concatenate_apply_piece (t := S128x128) 0 _ hc (ix2 q r) 3 (by show 3 < 4; omega) S32x128 w rfl rfl 96 rfl (ix2 (⟨q.val - 96, by omega⟩ : Fin 32) r)
      (by intro b hb; match b with
          | ⟨0, _⟩ => exact absurd rfl hb
          | ⟨1, _⟩ => rfl) (by show 96 + (q.val - 96) = q.val; omega)]
    refine (hw _ _).trans ?_
    show G (96 + (q.val - 96)) _ = _
    rw [show 96 + (q.val - 96) = q.val by omega]

/-- A store's value: the rows turned into columns. -/
theorem tr_apply (x : S128x128.Idx → BitVec 8) (ht) (hs) (u : Fin 1) (r q : Fin 128) :
    shapeCast S1x128x128 (transpose S128x128 [1, 0] x ht) hs (ix3 u r q) = x (ix2 q r) := by
  pointwise []

theorem off3_0 : ∀ k : Fin k0_t1_loop.trips, k0_off3 k 0#32 = ![0, 0, 256 * k.val] := by decide
theorem off3_1 : ∀ k : Fin k0_t1_loop.trips, k0_off3 k 256#32 = ![0, 0, 256 * k.val + 128] := by decide
theorem off5_0 : ∀ k : Fin k0_t1_loop.trips, k0_off5 k 0#32 = ![0, 128, 256 * k.val] := by decide
theorem off5_1 : ∀ k : Fin k0_t1_loop.trips, k0_off5 k 256#32 = ![0, 128, 256 * k.val + 128] := by decide

/-- The first `256 k` columns of the window hold the packed codes. -/
def P2 (d : S1x256x12288.Idx → EReal) (k : ℕ) (x : S1x256x6144.Idx → BitVec 8) : Prop :=
  ∀ (R : Fin 256) (C : Fin 6144), C.val < 256 * k → x (ix3 (0 : Fin 1) R C) = PB d R.val C.val

theorem mem_store (R : Fin 256) (C : Fin 6144) (a b : ℕ) (off : Fin 3 → ℕ) (ho : off = ![0, a, b]) (inb)
    (w : S1x128x128.Idx → BitVec 8) (l : List (View.Piece (Elt Ideal) S1x256x6144 .i8)) {S : Space} (v : View sig .tc S S1x256x6144 .i8) (f : v.ty.Contents (Elt Ideal))
    (h1 : a ≤ R.val) (h2 : R.val < a + 128) (h3 : b ≤ C.val) (h4 : C.val < b + 128) :
    v.read (Elt Ideal) (v.writes (Elt Ideal) f (⟨Rect.unit (s := S1x256x6144) off S1x128x128.size inb, w⟩ :: l)) (ix3 (0 : Fin 1) R C) =
      w (ix3 (0 : Fin 1) (⟨R.val - a, by omega⟩ : Fin 128) (⟨C.val - b, by omega⟩ : Fin 128)) :=
  View.read_writes_cons_unit_of_mem v f inb w l (ix3 (0 : Fin 1) R C)
    (ix3 (0 : Fin 1) (⟨R.val - a, by omega⟩ : Fin 128) (⟨C.val - b, by omega⟩ : Fin 128)) ho
    (by intro e; match e with
        | ⟨0, _⟩ => show 0 = 0 + 0; rfl
        | ⟨1, _⟩ => show R.val = a + (R.val - a); omega
        | ⟨2, _⟩ => show C.val = b + (C.val - b); omega)

/-- Four stores of a tile each on the columns `256 k … 256 k + 255`, read back. -/
theorem four_writes {S : Space} (v : View sig .tc S S1x256x6144 .i8) (f : v.ty.Contents (Elt Ideal)) (k : ℕ)
    (G : ℕ → ℕ → BitVec 8) (o0 o1 o2 o3 : Fin 3 → ℕ) (h0 : o0 = ![0, 0, 256 * k]) (h1 : o1 = ![0, 0, 256 * k + 128])
    (h2 : o2 = ![0, 128, 256 * k]) (h3 : o3 = ![0, 128, 256 * k + 128]) (b0) (b1) (b2) (b3) (w0 w1 w2 w3 : S1x128x128.Idx → BitVec 8)
    (g0 : ∀ (u : Fin 1) (r q : Fin 128), w0 (ix3 u r q) = G r.val (256 * k + q.val))
    (g1 : ∀ (u : Fin 1) (r q : Fin 128), w1 (ix3 u r q) = G r.val (256 * k + (128 + q.val)))
    (g2 : ∀ (u : Fin 1) (r q : Fin 128), w2 (ix3 u r q) = G (128 + r.val) (256 * k + q.val))
    (g3 : ∀ (u : Fin 1) (r q : Fin 128), w3 (ix3 u r q) = G (128 + r.val) (256 * k + (128 + q.val)))
    (h : ∀ (R : Fin 256) (C : Fin 6144), C.val < 256 * k → v.read (Elt Ideal) f (ix3 (0 : Fin 1) R C) = G R.val C.val)
    (R : Fin 256) (C : Fin 6144) (hC : C.val < 256 * (k + 1)) :
    v.read (Elt Ideal) (v.writes (Elt Ideal) f
      [(⟨Rect.unit (s := S1x256x6144) o3 S1x128x128.size b3, w3⟩ : View.Piece (Elt Ideal) S1x256x6144 .i8), ⟨Rect.unit (s := S1x256x6144) o2 S1x128x128.size b2, w2⟩,
        ⟨Rect.unit (s := S1x256x6144) o1 S1x128x128.size b1, w1⟩, ⟨Rect.unit (s := S1x256x6144) o0 S1x128x128.size b0, w0⟩]) (ix3 (0 : Fin 1) R C) = G R.val C.val := by
  have hR := R.isLt
  have skip : ∀ (o : Fin 3 → ℕ) (a b : ℕ) (ho : o = ![0, a, b]) (inb) (w : S1x128x128.Idx → BitVec 8) (l : List (View.Piece (Elt Ideal) S1x256x6144 .i8)),
      ((R.val < a ∨ a + 128 ≤ R.val) ∨ (C.val < b ∨ b + 128 ≤ C.val)) →
      v.read (Elt Ideal) (v.writes (Elt Ideal) f (⟨Rect.unit (s := S1x256x6144) o S1x128x128.size inb, w⟩ :: l)) (ix3 (0 : Fin 1) R C) =
        v.read (Elt Ideal) (v.writes (Elt Ideal) f l) (ix3 (0 : Fin 1) R C) := by
    intro o a b ho inb w l hh
    rcases hh with hh | hh
    · exact View.read_writes_cons_unit_of_not_mem v f inb w l (ix3 (0 : Fin 1) R C) ho (1 : Fin 3) hh
    · exact View.read_writes_cons_unit_of_not_mem v f inb w l (ix3 (0 : Fin 1) R C) ho (2 : Fin 3) hh
  by_cases c0 : C.val < 256 * k
  · rw [skip _ _ _ h3 _ _ _ (Or.inr (Or.inl (by omega))), skip _ _ _ h2 _ _ _ (Or.inr (Or.inl (by omega))),
      skip _ _ _ h1 _ _ _ (Or.inr (Or.inl (by omega))), skip _ _ _ h0 _ _ _ (Or.inr (Or.inl (by omega)))]
    exact h R C c0
  by_cases c1 : R.val < 128
  · rw [skip _ _ _ h3 _ _ _ (Or.inl (Or.inl (by omega))), skip _ _ _ h2 _ _ _ (Or.inl (Or.inl (by omega)))]
    by_cases c2 : C.val < 256 * k + 128
    · rw [skip _ _ _ h1 _ _ _ (Or.inr (Or.inl (by omega))), mem_store R C _ _ _ h0 _ _ _ _ _ (by omega) (by omega) (by omega) (by omega), g0]
      show G (R.val - 0) (256 * k + (C.val - 256 * k)) = _
      rw [show R.val - 0 = R.val by omega, show 256 * k + (C.val - 256 * k) = C.val by omega]
    · rw [mem_store R C _ _ _ h1 _ _ _ _ _ (by omega) (by omega) (by omega) (by omega), g1]
      show G (R.val - 0) (256 * k + (128 + (C.val - (256 * k + 128)))) = _
      rw [show R.val - 0 = R.val by omega, show 256 * k + (128 + (C.val - (256 * k + 128))) = C.val by omega]
  · by_cases c2 : C.val < 256 * k + 128
    · rw [skip _ _ _ h3 _ _ _ (Or.inr (Or.inl (by omega))), mem_store R C _ _ _ h2 _ _ _ _ _ (by omega) (by omega) (by omega) (by omega), g2]
      show G (128 + (R.val - 128)) (256 * k + (C.val - 256 * k)) = _
      rw [show 128 + (R.val - 128) = R.val by omega, show 256 * k + (C.val - 256 * k) = C.val by omega]
    · rw [mem_store R C _ _ _ h3 _ _ _ _ _ (by omega) (by omega) (by omega) (by omega), g3]
      show G (128 + (R.val - 128)) (256 * k + (128 + (C.val - (256 * k + 128)))) = _
      rw [show 128 + (R.val - 128) = R.val by omega, show 256 * k + (128 + (C.val - (256 * k + 128))) = C.val by omega]

section
variable (c : Dev nD) (arg1 : Memref sig .tc .vmem S1x256x12288 .bf16) (arg2 : Memref sig .tc .vmem S1x256x6144 .i8) (arg8 : Memref sig .tc .vmem S256x256 .bf16)
  (arg9 : Memref sig .tc .vmem S512x256 .f32)
  (arg10 arg11 : Memref sig .tc .vmem S2x64x2x128 .bf16)
  (arg12 : Memref sig .tc .vmem S2x8x128 .f32) (arg13 arg14 arg15 : Memref sig .tc .vmem S2x8x128 .i32)
  (k : Fin k0_t1_loop.trips) (f1 : Buf (Elt Ideal) (arg1.view.loc (c : Thread nD τ))) (f8 : Buf (Elt Ideal) (arg8.view.loc (c : Thread nD τ)))
  (hp : IsPerm (arg8.view.read (Elt Ideal) f8))
include hp

/-- The tile stored for the rows from 0 on, columns from 0 on within a trip. -/
theorem tile_00 (u : Fin 1) (r q : Fin 128) : loopInv_k0_t1.sl.v1691 c arg1 arg8 arg9 arg10 arg11 arg12 arg13 arg14 arg15 k f1 f8 (ix3 u r q) = PB (arg1.view.read (Elt Ideal) f1) r.val (256 * k.val + q.val) := by
  unfold loopInv_k0_t1.sl.v1691 loopInv_k0_t1.sl.v1687 loopInv_k0_t1.sl.v1667
  refine (tr_apply _ _ _ u r q).trans ?_
  refine cat4 (fun q r => PB (arg1.view.read (Elt Ideal) f1) r (256 * k.val + q)) _ _ _ _ _ ?_ ?_ ?_ ?_ q r
  · intro a r
    refine (v840_eq c arg1 arg8 arg9 arg10 arg11 arg12 arg13 arg14 arg15 k f1 f8 hp a r).trans ?_
    exact PB_at _ _ _ 0 _ a (by omega)
  · intro a r
    refine (r_103_eq c arg1 arg8 arg9 arg10 arg11 arg12 arg13 arg14 arg15 k f1 f8 hp a r).trans ?_
    exact PB_at _ _ _ 1 _ a (by omega)
  · intro a r
    refine (r_117_eq c arg1 arg8 arg9 arg10 arg11 arg12 arg13 arg14 arg15 k f1 f8 hp a r).trans ?_
    exact PB_at _ _ _ 2 _ a (by omega)
  · intro a r
    refine (r_130_eq c arg1 arg8 arg9 arg10 arg11 arg12 arg13 arg14 arg15 k f1 f8 hp a r).trans ?_
    exact PB_at _ _ _ 3 _ a (by omega)

/-- The tile stored for the rows from 0 on, columns from 128 on within a trip. -/
theorem tile_01 (u : Fin 1) (r q : Fin 128) : loopInv_k0_t1.sl.v1716 c arg1 arg8 arg9 arg10 arg11 arg12 arg13 arg14 arg15 k f1 f8 (ix3 u r q) = PB (arg1.view.read (Elt Ideal) f1) r.val (256 * k.val + (128 + q.val)) := by
  unfold loopInv_k0_t1.sl.v1716 loopInv_k0_t1.sl.v1712 loopInv_k0_t1.sl.v1692
  refine (tr_apply _ _ _ u r q).trans ?_
  refine cat4 (fun q r => PB (arg1.view.read (Elt Ideal) f1) r (256 * k.val + (128 + q))) _ _ _ _ _ ?_ ?_ ?_ ?_ q r
  · intro a r
    refine (v1312_eq c arg1 arg8 arg9 arg10 arg11 arg12 arg13 arg14 arg15 k f1 f8 hp a r).trans ?_
    exact PB_at _ _ _ 4 _ a (by omega)
  · intro a r
    refine (v1430_eq c arg1 arg8 arg9 arg10 arg11 arg12 arg13 arg14 arg15 k f1 f8 hp a r).trans ?_
    exact PB_at _ _ _ 5 _ a (by omega)
  · intro a r
    refine (r_163_eq c arg1 arg8 arg9 arg10 arg11 arg12 arg13 arg14 arg15 k f1 f8 hp a r).trans ?_
    exact PB_at _ _ _ 6 _ a (by omega)
  · intro a r
    refine (v1666_eq c arg1 arg8 arg9 arg10 arg11 arg12 arg13 arg14 arg15 k f1 f8 hp a r).trans ?_
    exact PB_at _ _ _ 7 _ a (by omega)

/-- The tile stored for the rows from 128 on, columns from 0 on within a trip. -/
theorem tile_10 (u : Fin 1) (r q : Fin 128) : loopInv_k0_t1.sl.v2829 c arg1 arg8 arg9 arg10 arg11 arg12 arg13 arg14 arg15 k f1 f8 (ix3 u r q) = PB (arg1.view.read (Elt Ideal) f1) (128 + r.val) (256 * k.val + q.val) := by
  unfold loopInv_k0_t1.sl.v2829 loopInv_k0_t1.sl.v2825 loopInv_k0_t1.sl.v2805
  refine (tr_apply _ _ _ u r q).trans ?_
  refine cat4 (fun q r => PB (arg1.view.read (Elt Ideal) f1) (128 + r) (256 * k.val + q)) _ _ _ _ _ ?_ ?_ ?_ ?_ q r
  · intro a r
    refine (v1978_eq c arg1 arg8 arg9 arg10 arg11 arg12 arg13 arg14 arg15 k f1 f8 hp a r).trans ?_
    exact PB_at _ _ _ 0 _ a (by omega)
  · intro a r
    refine (v2096_eq c arg1 arg8 arg9 arg10 arg11 arg12 arg13 arg14 arg15 k f1 f8 hp a r).trans ?_
    exact PB_at _ _ _ 1 _ a (by omega)
  · intro a r
    refine (r_219_eq c arg1 arg8 arg9 arg10 arg11 arg12 arg13 arg14 arg15 k f1 f8 hp a r).trans ?_
    exact PB_at _ _ _ 2 _ a (by omega)
  · intro a r
    refine (r_232_eq c arg1 arg8 arg9 arg10 arg11 arg12 arg13 arg14 arg15 k f1 f8 hp a r).trans ?_
    exact PB_at _ _ _ 3 _ a (by omega)

/-- The tile stored for the rows from 128 on, columns from 128 on within a trip. -/
theorem tile_11 (u : Fin 1) (r q : Fin 128) : k0_pay449 (loopInv_k0_t1.sl.v2830 c arg1 arg8 arg9 arg10 arg11 arg12 arg13 arg14 arg15 k f1 f8) (ix3 u r q) = PB (arg1.view.read (Elt Ideal) f1) (128 + r.val) (256 * k.val + (128 + q.val)) := by
  unfold k0_pay449 loopInv_k0_t1.sl.v2830
  refine (tr_apply _ _ _ u r q).trans ?_
  refine cat4 (fun q r => PB (arg1.view.read (Elt Ideal) f1) (128 + r) (256 * k.val + (128 + q))) _ _ _ _ _ ?_ ?_ ?_ ?_ q r
  · intro a r
    refine (r_244_eq c arg1 arg8 arg9 arg10 arg11 arg12 arg13 arg14 arg15 k f1 f8 hp a r).trans ?_
    exact PB_at _ _ _ 4 _ a (by omega)
  · intro a r
    refine (v2568_eq c arg1 arg8 arg9 arg10 arg11 arg12 arg13 arg14 arg15 k f1 f8 hp a r).trans ?_
    exact PB_at _ _ _ 5 _ a (by omega)
  · intro a r
    refine (r_267_eq c arg1 arg8 arg9 arg10 arg11 arg12 arg13 arg14 arg15 k f1 f8 hp a r).trans ?_
    exact PB_at _ _ _ 6 _ a (by omega)
  · intro a r
    refine (v2804_eq c arg1 arg8 arg9 arg10 arg11 arg12 arg13 arg14 arg15 k f1 f8 hp a r).trans ?_
    exact PB_at _ _ _ 7 _ a (by omega)

/-- A trip extends the columns of packed codes. -/
theorem P2_step (f2 : Buf (Elt Ideal) (arg2.view.loc (c : Thread nD τ))) (b0) (b1) (b2) (b3)
    (h : P2 (arg1.view.read (Elt Ideal) f1) k.val (arg2.view.read (Elt Ideal) f2)) :
    P2 (arg1.view.read (Elt Ideal) f1) (k.val + 1)
      (arg2.view.read (Elt Ideal) (arg2.view.writes (Elt Ideal) f2
        [(⟨Rect.unit (s := S1x256x6144) (k0_off5 k 256#32) S1x128x128.size b3, k0_pay449 (loopInv_k0_t1.sl.v2830 c arg1 arg8 arg9 arg10 arg11 arg12 arg13 arg14 arg15 k f1 f8)⟩ : View.Piece (Elt Ideal) S1x256x6144 .i8),
          ⟨Rect.unit (s := S1x256x6144) (k0_off5 k 0#32) S1x128x128.size b2, loopInv_k0_t1.sl.v2829 c arg1 arg8 arg9 arg10 arg11 arg12 arg13 arg14 arg15 k f1 f8⟩,
          ⟨Rect.unit (s := S1x256x6144) (k0_off3 k 256#32) S1x128x128.size b1, loopInv_k0_t1.sl.v1716 c arg1 arg8 arg9 arg10 arg11 arg12 arg13 arg14 arg15 k f1 f8⟩,
          ⟨Rect.unit (s := S1x256x6144) (k0_off3 k 0#32) S1x128x128.size b0, loopInv_k0_t1.sl.v1691 c arg1 arg8 arg9 arg10 arg11 arg12 arg13 arg14 arg15 k f1 f8⟩])) := by
  intro R C hC
  exact four_writes arg2.view f2 k.val (PB (arg1.view.read (Elt Ideal) f1)) _ _ _ _ (off3_0 k) (off3_1 k) (off5_0 k) (off5_1 k) _ _ _ _ _ _ _ _
    (tile_00 c arg1 arg8 arg9 arg10 arg11 arg12 arg13 arg14 arg15 k f1 f8 hp) (tile_01 c arg1 arg8 arg9 arg10 arg11 arg12 arg13 arg14 arg15 k f1 f8 hp) (tile_10 c arg1 arg8 arg9 arg10 arg11 arg12 arg13 arg14 arg15 k f1 f8 hp) (tile_11 c arg1 arg8 arg9 arg10 arg11 arg12 arg13 arg14 arg15 k f1 f8 hp) h R C hC

end
end Cert.Proof.KernelIdeal
end
-- ==== Proof.LoopV.lean ====
/- One trip of the loop with its values: the invariant the body's run goes through the loop by. -/
module

public import proofs.«01_k».proof.Proof.Val7

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The buffers a trip of the loop touches, with what `k` trips leave in them: the weights and the permutation as they
    were, the first `256 k` columns of the packed codes, the first `8 k` rows of the scales and of the zero points. -/
abbrev TripV (c : Dev nD) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) (f1 : Buf (Elt Ideal) (arg1.view.loc (c : Thread nD τ))) (k : ℕ) : sProp 𝕄 :=
  iprop((arg1.view.loc (c : Thread nD τ) ↦[arg1.view.set]{fullShare} f1) ∗ (∃ f, ⌜P2 (arg1.view.read (Elt Ideal) f1) k (arg2.view.read (Elt Ideal) f)⌝ ∗ (arg2.view.loc (c : Thread nD τ) ↦[arg2.view.set]{fullShare} f)) ∗ (∃ f, ⌜IsPerm (arg8.view.read (Elt Ideal) f)⌝ ∗ arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, ⌜P16 (arg1.view.read (Elt Ideal) f1) k (arg16.view.read (Elt Ideal) f)⌝ ∗ arg16.view.loc (c : Thread nD τ) ↦[arg16.view.set]{fullShare} f) ∗ (∃ f, ⌜P17 (arg1.view.read (Elt Ideal) f1) k (arg17.view.read (Elt Ideal) f)⌝ ∗ arg17.view.loc (c : Thread nD τ) ↦[arg17.view.set]{fullShare} f))

/-- The loop's invariant with its values. -/
noncomputable def loopV (c : Dev nD) (i : grid0.Coords) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) (f1 : Buf (Elt Ideal) (arg1.view.loc (c : Thread nD τ))) :
    LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 where
  inv := fun k _ => TripV c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 k
  step := fun k acc => by
    unfold TripV k0_t1_body
    iintro ⟨H1, ⟨%f2, %h2, H2⟩, ⟨%f8, %hp, H8⟩, ⟨%f9, H9⟩, ⟨%f10, H10⟩, ⟨%f11, H11⟩, ⟨%f12, H12⟩, ⟨%f13, H13⟩, ⟨%f14, H14⟩, ⟨%f15, H15⟩, ⟨%f16, %h16, H16⟩, ⟨%f17, %h17, H17⟩⟩
    sl_exec_parts
    sl_step
    isplitl [H1]; · iexact H1
    isplitl [H2]
    · iexists _
      isplitr; swap; · iexact H2
      ipureintro; exact P2_step c arg1 arg2 arg8 arg9 arg10 arg11 arg12 arg13 arg14 arg15 k f1 f8 hp f2 _ _ _ _ h2
    isplitl [H8]
    · iexists _
      isplitr; swap; · iexact H8
      ipureintro; exact hp
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]
    · iexists _
      isplitr; swap; · iexact H16
      ipureintro; exact P16_step c arg1 arg8 arg10 arg11 arg16 k f1 f8 hp f16 h16
    iexists _
    isplitr; swap; · iexact H17
    ipureintro; exact P17_step c arg1 arg8 arg10 arg11 arg17 k f1 f8 hp f17 h17

end Cert.Proof.KernelIdeal

end
-- ==== Proof.BodyV.lean ====
/- The body's run at a point with the values it leaves. -/
module

public import proofs.«01_k».proof.Proof.Val4
public import proofs.«01_k».proof.Proof.LoopV

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The packed codes of a block of rows, as stored. -/
def PBO (d : S1x256x12288.Idx → EReal) : S1x256x6144.Idx → BitVec 8 := fun x => PB d (x 1).val (x 2).val

/-- The block of the scales result that belongs to a block of weights. -/
def SCO (d : S1x256x12288.Idx → EReal) : S1x256x192.Idx → EReal := fun x => SC d (x 2).val (x 1).val

/-- The block of the zero points result that belongs to a block of weights. -/
def ZRO (d : S1x256x12288.Idx → EReal) : S1x256x192.Idx → BitVec 8 := fun x => BitVec.setWidth 8 (ZR d (x 2).val (x 1).val)

/-- The left and right halves of the flat rows. -/
def VA (blk : ℕ → S1x256x12288.Idx → EReal) : S1536x128.Idx → EReal := fun x => FL blk (256 * (x 0).val + (x 1).val)
def VB (blk : ℕ → S1x256x12288.Idx → EReal) : S1536x128.Idx → EReal := fun x => FL blk (256 * (x 0).val + 128 + (x 1).val)

/-- The codes of the flat rows. -/
def CDO (blk : ℕ → S1x256x12288.Idx → EReal) : S1536x256.Idx → BitVec 8 := fun x =>
  if h : (x 1).val < 128 then k0_pay446 (F := Ideal) (VA blk) (VB blk) (ix2 ((x 0).cast rfl) (⟨(x 1).val, h⟩ : Fin 128))
  else k0_pay447 (F := Ideal) (VA blk) (VB blk) (ix2 ((x 0).cast rfl) (⟨(x 1).val - 128, by have : (x 1).val < 256 := (x 1).isLt; omega⟩ : Fin 128))

theorem P20_zero (blk : ℕ → S1x256x12288.Idx → EReal) (x : S1536x128.Idx → EReal) : P20 blk 0 x := fun n b h => absurd h (by omega)
theorem P21_zero (blk : ℕ → S1x256x12288.Idx → EReal) (x : S1536x128.Idx → EReal) : P21 blk 0 x := fun n b h => absurd h (by omega)

theorem P20_all {blk : ℕ → S1x256x12288.Idx → EReal} {x : S1536x128.Idx → EReal} (h : P20 blk 8 x) : x = VA blk := by
  funext y; idx_vars y; exact h _ _ y0.isLt
theorem P21_all {blk : ℕ → S1x256x12288.Idx → EReal} {x : S1536x128.Idx → EReal} (h : P21 blk 8 x) : x = VB blk := by
  funext y; idx_vars y; exact h _ _ y0.isLt

/-- The condition that a point is the first, and that it is the last. -/
theorem first_iff : ∀ i : grid0.Coords, Scalar.cmpi .ne (Scalar.extui (Scalar.cmpi .eq (BitVec.ofNat 32 (i 0).val) 0#32) : BitVec 32) 0#32 = 1#1 ↔ (i 0).val = 0 := by decide
theorem last_iff : ∀ i : grid0.Coords, k0_cond2 i = 1#1 ↔ (i 0).val = 7 := by decide

/-- The permutation once stored. -/
theorem perm_stored (arg8 : Memref sig .tc .vmem S256x256 .bf16) (g : arg8.view.ty.Contents (Elt Ideal)) :
    IsPerm (arg8.view.read (Elt Ideal) (arg8.view.writes (Elt Ideal) g [⟨Rect.unit ![0, 0] S256x256.size inb_S256x256_S256x256_0_0, k0_pay448 (F := Ideal)⟩])) := by
  intro a b
  refine (View.read_writes_cons_unit_of_mem arg8.view g inb_S256x256_S256x256_0_0 _ [] (ix2 a b) (ix2 a b) rfl (by intro z; match z with
        | ⟨0, _⟩ => show a.val = 0 + a.val; omega
        | ⟨1, _⟩ => show b.val = 0 + b.val; omega)).trans ?_
  exact isPerm_pay448 a b

section
variable (c : Dev nD) (i : grid0.Coords) (arg16 : Memref sig .tc .vmem S192x256 .f32)
  (arg18 arg19 : Memref sig .tc .vmem S256x128 .f32) (arg20 arg21 : Memref sig .tc .vmem S1536x128 .f32)
  (f19 : Buf (Elt Ideal) (arg19.view.loc (c : Thread nD τ))) (f20 : arg20.view.ty.Contents (Elt Ideal)) (f21 : arg21.view.ty.Contents (Elt Ideal))
  (f16 : Buf (Elt Ideal) (arg16.view.loc (c : Thread nD τ))) (blk : ℕ → S1x256x12288.Idx → EReal)
  (h20 : arg20.view.read (Elt Ideal) (arg20.view.writes (Elt Ideal) f20 (kernelRun.sl.H20_3 c i arg16 arg18 arg19 f19 f16)) = VA blk)
  (h21 : arg21.view.read (Elt Ideal) (arg21.view.writes (Elt Ideal) f21 (kernelRun.sl.H21_3 c i arg16 arg18 arg19 f19 f16)) = VB blk)

/-- The whole buffer of left halves, as the last point loads it. -/
abbrev ld20 : S1536x128.Idx → Elt Ideal .f32 := View.readAt (Elt Ideal) arg20.view (Rect.unit ![0, 0] S1536x128.size inb_S1536x128_S1536x128_0_0).toLoadRect (arg20.view.writes (Elt Ideal) f20 (kernelRun.sl.H20_3 c i arg16 arg18 arg19 f19 f16))
/-- The whole buffer of right halves, as the last point loads it. -/
abbrev ld21 : S1536x128.Idx → Elt Ideal .f32 := View.readAt (Elt Ideal) arg21.view (Rect.unit ![0, 0] S1536x128.size inb_S1536x128_S1536x128_0_0).toLoadRect (arg21.view.writes (Elt Ideal) f21 (kernelRun.sl.H21_3 c i arg16 arg18 arg19 f19 f16))

include h20 in
theorem ld20_eq : ld20 c i arg16 arg18 arg19 arg20 f19 f20 f16 = VA blk := by
  unfold ld20; rw [View.readAt_eq_ld, View.ld_unit_zero (by decide)]; exact h20
include h21 in
theorem ld21_eq : ld21 c i arg16 arg18 arg19 arg21 f19 f21 f16 = VB blk := by
  unfold ld21; rw [View.readAt_eq_ld, View.ld_unit_zero (by decide)]; exact h21

include h20 h21 in
/-- The codes as stored. -/
theorem codes_stored (arg5 : Memref sig .tc .vmem S1536x256 .i8) (f5 : arg5.view.ty.Contents (Elt Ideal)) :
    arg5.view.read (Elt Ideal) (arg5.view.writes (Elt Ideal) f5
      [⟨Rect.unit ![0, 128] S1536x128.size inb_S1536x256_S1536x128_0_128, k0_pay447 (F := Ideal) (ld20 c i arg16 arg18 arg19 arg20 f19 f20 f16) (ld21 c i arg16 arg18 arg19 arg21 f19 f21 f16)⟩,
       ⟨Rect.unit ![0, 0] S1536x128.size inb_S1536x256_S1536x128_0_0, k0_pay446 (F := Ideal) (ld20 c i arg16 arg18 arg19 arg20 f19 f20 f16) (ld21 c i arg16 arg18 arg19 arg21 f19 f21 f16)⟩]) = CDO blk := by
  rw [ld20_eq c i arg16 arg18 arg19 arg20 f19 f20 f16 blk h20, ld21_eq c i arg16 arg18 arg19 arg21 f19 f21 f16 blk h21]
  funext x
  idx_vars x
  have hx := x1.isLt
  by_cases h : x1.val < 128
  · refine (View.read_writes_cons_unit_of_not_mem arg5.view f5 inb_S1536x256_S1536x128_0_128 _ _ (ix2 x0 x1) rfl (1 : Fin 2) (Or.inl h)).trans ?_
    refine (View.read_writes_cons_unit_of_mem arg5.view f5 inb_S1536x256_S1536x128_0_0 _ [] (ix2 x0 x1) (ix2 x0 (⟨x1.val, h⟩ : Fin 128)) rfl (by intro z; match z with
        | ⟨0, _⟩ => show x0.val = 0 + x0.val; omega
        | ⟨1, _⟩ => show x1.val = 0 + x1.val; omega)).trans ?_
    unfold CDO
    split
    · rfl
    · next h' => exact absurd h h'
  · refine (View.read_writes_cons_unit_of_mem arg5.view f5 inb_S1536x256_S1536x128_0_128 _ _ (ix2 x0 x1) (ix2 x0 (⟨x1.val - 128, by omega⟩ : Fin 128)) rfl (by intro z; match z with
        | ⟨0, _⟩ => show x0.val = 0 + x0.val; omega
        | ⟨1, _⟩ => show x1.val = 128 + (x1.val - 128); omega)).trans ?_
    unfold CDO
    split
    · next h' => exact absurd h' h
    · rfl

include h20 h21 in
/-- The scale of the codes as stored. -/
theorem amax_stored (arg6 : Memref sig .tc .vmem S1536x1 .f32) (f6 : arg6.view.ty.Contents (Elt Ideal)) :
    arg6.view.read (Elt Ideal) (arg6.view.writes (Elt Ideal) f6
      [⟨Rect.unit ![0, 0] S1536x1.size inb_S1536x1_S1536x1_0_0, k0_pay445 (F := Ideal) (ld20 c i arg16 arg18 arg19 arg20 f19 f20 f16) (ld21 c i arg16 arg18 arg19 arg21 f19 f21 f16)⟩]) = k0_pay445 (F := Ideal) (VA blk) (VB blk) := by
  rw [ld20_eq c i arg16 arg18 arg19 arg20 f19 f20 f16 blk h20, ld21_eq c i arg16 arg18 arg19 arg21 f19 f21 f16 blk h21]
  funext x
  idx_vars x
  exact View.read_writes_cons_unit_of_mem arg6.view f6 inb_S1536x1_S1536x1_0_0 _ [] (ix2 x0 x1) (ix2 x0 x1) rfl (by intro z; match z with
        | ⟨0, _⟩ => show x0.val = 0 + x0.val; omega
        | ⟨1, _⟩ => show x1.val = 0 + x1.val; omega)

include h20 h21 in
/-- The mean as stored. -/
theorem mean_stored (arg7 : Memref sig .tc .smem S1x1 .f32) (f7 : arg7.view.ty.Contents (Elt Ideal)) :
    arg7.view.read (Elt Ideal) (arg7.view.writes (Elt Ideal) f7
      [⟨Rect.unit ![0, 0] S1x1.size inb_S1x1_S1x1_0_0, fun _ => k0_pay442 (F := Ideal) (ld20 c i arg16 arg18 arg19 arg20 f19 f20 f16) (ld21 c i arg16 arg18 arg19 arg21 f19 f21 f16)⟩]) = fun _ => k0_pay442 (F := Ideal) (VA blk) (VB blk) := by
  rw [ld20_eq c i arg16 arg18 arg19 arg20 f19 f20 f16 blk h20, ld21_eq c i arg16 arg18 arg19 arg21 f19 f21 f16 blk h21]
  funext x
  idx_vars x
  exact View.read_writes_cons_unit_of_mem arg7.view f7 inb_S1x1_S1x1_0_0 _ [] (ix2 x0 x1) (ix2 x0 x1) rfl (by intro z; match z with
        | ⟨0, _⟩ => show x0.val = 0 + x0.val; omega
        | ⟨1, _⟩ => show x1.val = 0 + x1.val; omega)
end

/-- All columns stored. -/
theorem P2_all {d : S1x256x12288.Idx → EReal} {x : S1x256x6144.Idx → BitVec 8} (h : P2 d 24 x) : x = PBO d := by
  funext y
  idx_vars y
  have e : y0 = (0 : Fin 1) := Subsingleton.elim _ _
  subst e
  exact h y1 y2 (by have := y2.isLt; omega)

/-- After the first conditional the permutation is in place: at the first point it has just been stored, at the others it was there. -/
theorem perm_kept (i : grid0.Coords) (arg8 : Memref sig .tc .vmem S256x256 .bf16) (f8 : arg8.view.ty.Contents (Elt Ideal)) (hp : (i 0).val ≠ 0 → IsPerm (arg8.view.read (Elt Ideal) f8)) :
    IsPerm (arg8.view.read (Elt Ideal) (if hc : Scalar.cmpi .ne (Scalar.extui (Scalar.cmpi .eq (BitVec.ofNat 32 (i 0).val) 0#32) : BitVec 32) 0#32 = 1#1 then
      arg8.view.writes (Elt Ideal) f8 [⟨Rect.unit ![0, 0] S256x256.size inb_S256x256_S256x256_0_0, k0_pay448 (F := Ideal)⟩] else f8)) := by
  split
  · exact perm_stored arg8 f8
  · next h => exact hp fun h0 => h ((first_iff i).2 h0)

set_option maxHeartbeats 4000000 in
/-- The body at a point: from the weights of the point and the flat rows of the points before, it leaves the point's scales and
    zero points, the point's flat rows and, at the last point, the codes, their scale and the mean. -/
theorem kernelRunV (c : Dev nD) (i : grid0.Coords) (arg1 : Memref sig .tc .vmem S1x256x12288 .bf16) (harg1 : arg1.IsWhole) (arg2 : Memref sig .tc .vmem S1x256x6144 .i8) (harg2 : arg2.IsWhole) (arg3 : Memref sig .tc .vmem S1x256x192 .f32) (harg3 : arg3.IsWhole) (arg4 : Memref sig .tc .vmem S1x256x192 .i8) (harg4 : arg4.IsWhole) (arg5 : Memref sig .tc .vmem S1536x256 .i8) (harg5 : arg5.IsWhole) (arg6 : Memref sig .tc .vmem S1536x1 .f32) (harg6 : arg6.IsWhole) (arg7 : Memref sig .tc .smem S1x1 .f32) (harg7 : arg7.IsWhole) (arg8 : Memref sig .tc .vmem S256x256 .bf16) (harg8 : arg8.IsWhole) (arg9 : Memref sig .tc .vmem S512x256 .f32) (harg9 : arg9.IsWhole) (arg10 : Memref sig .tc .vmem S2x64x2x128 .bf16) (harg10 : arg10.IsWhole) (arg11 : Memref sig .tc .vmem S2x64x2x128 .bf16) (harg11 : arg11.IsWhole) (arg12 : Memref sig .tc .vmem S2x8x128 .f32) (harg12 : arg12.IsWhole) (arg13 : Memref sig .tc .vmem S2x8x128 .i32) (harg13 : arg13.IsWhole) (arg14 : Memref sig .tc .vmem S2x8x128 .i32) (harg14 : arg14.IsWhole) (arg15 : Memref sig .tc .vmem S2x8x128 .i32) (harg15 : arg15.IsWhole) (arg16 : Memref sig .tc .vmem S192x256 .f32) (harg16 : arg16.IsWhole) (arg17 : Memref sig .tc .vmem S192x256 .i32) (harg17 : arg17.IsWhole) (arg18 : Memref sig .tc .vmem S256x128 .f32) (harg18 : arg18.IsWhole) (arg19 : Memref sig .tc .vmem S256x128 .f32) (harg19 : arg19.IsWhole) (arg20 : Memref sig .tc .vmem S1536x128 .f32) (harg20 : arg20.IsWhole) (arg21 : Memref sig .tc .vmem S1536x128 .f32) (harg21 : arg21.IsWhole) (blk : ℕ → S1x256x12288.Idx → EReal) (f1 : Buf (Elt Ideal) (arg1.view.loc (c : Thread nD τ)))
    (hd : arg1.view.read (Elt Ideal) f1 = blk (i 0).val) (K : PUnit → sProp 𝕄) :
    iprop((arg1.view.loc (c : Thread nD τ) ↦[arg1.view.set]{fullShare} f1) ∗ (∃ f, arg2.view.loc (c : Thread nD τ) ↦[arg2.view.set]{fullShare} f) ∗ (∃ f, arg3.view.loc (c : Thread nD τ) ↦[arg3.view.set]{fullShare} f) ∗ (∃ f, arg4.view.loc (c : Thread nD τ) ↦[arg4.view.set]{fullShare} f) ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f) ∗ (∃ f, ⌜(i 0).val ≠ 0 → IsPerm (arg8.view.read (Elt Ideal) f)⌝ ∗ arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, ⌜P20 blk (i 0).val (arg20.view.read (Elt Ideal) f)⌝ ∗ arg20.view.loc (c : Thread nD τ) ↦[arg20.view.set]{fullShare} f) ∗ (∃ f, ⌜P21 blk (i 0).val (arg21.view.read (Elt Ideal) f)⌝ ∗ arg21.view.loc (c : Thread nD τ) ↦[arg21.view.set]{fullShare} f)
        ∗ (iprop((arg1.view.loc (c : Thread nD τ) ↦[arg1.view.set]{fullShare} f1) ∗ (∃ f, ⌜(arg2.view.read (Elt Ideal) f) = PBO (blk (i 0).val)⌝ ∗ arg2.view.loc (c : Thread nD τ) ↦[arg2.view.set]{fullShare} f) ∗ (∃ f, ⌜(arg3.view.read (Elt Ideal) f) = SCO (blk (i 0).val)⌝ ∗ arg3.view.loc (c : Thread nD τ) ↦[arg3.view.set]{fullShare} f) ∗ (∃ f, ⌜(arg4.view.read (Elt Ideal) f) = ZRO (blk (i 0).val)⌝ ∗ arg4.view.loc (c : Thread nD τ) ↦[arg4.view.set]{fullShare} f) ∗ (∃ f, ⌜(i 0).val = 7 → (arg5.view.read (Elt Ideal) f) = CDO blk⌝ ∗ arg5.view.loc (c : Thread nD τ) ↦[arg5.view.set]{fullShare} f) ∗ (∃ f, ⌜(i 0).val = 7 → (arg6.view.read (Elt Ideal) f) = k0_pay445 (F := Ideal) (VA blk) (VB blk)⌝ ∗ arg6.view.loc (c : Thread nD τ) ↦[arg6.view.set]{fullShare} f) ∗ (∃ f, ⌜(i 0).val = 7 → (arg7.view.read (Elt Ideal) f) = fun _ => k0_pay442 (F := Ideal) (VA blk) (VB blk)⌝ ∗ arg7.view.loc (c : Thread nD τ) ↦[arg7.view.set]{fullShare} f) ∗ (∃ f, ⌜IsPerm (arg8.view.read (Elt Ideal) f)⌝ ∗ arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, ⌜P20 blk ((i 0).val + 1) (arg20.view.read (Elt Ideal) f)⌝ ∗ arg20.view.loc (c : Thread nD τ) ↦[arg20.view.set]{fullShare} f) ∗ (∃ f, ⌜P21 blk ((i 0).val + 1) (arg21.view.read (Elt Ideal) f)⌝ ∗ arg21.view.loc (c : Thread nD τ) ↦[arg21.view.set]{fullShare} f)) -∗ K ⟨⟩))
      ⊢ wp frame (wpE (defs₀ (F := Ideal)) Variants.none c none) Set.univ (cc0_asym4_encode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  let L := loopV c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1
  have h2 : ∀ x, P2 (arg1.view.read (Elt Ideal) f1) 0 x := fun x R C h => absurd h (by omega)
  have h16 : ∀ x, P16 (arg1.view.read (Elt Ideal) f1) 0 x := fun x r R h => absurd h (by omega)
  have h17 : ∀ x, P17 (arg1.view.read (Elt Ideal) f1) 0 x := fun x r R h => absurd h (by omega)
  simp only [cc0_asym4_encode_eq_skeleton]; unfold cc0_asym4_encode_skel
  iintro ⟨H1, ⟨%f2, H2⟩, ⟨%f3, H3⟩, ⟨%f4, H4⟩, ⟨%f5, H5⟩, ⟨%f6, H6⟩, ⟨%f7, H7⟩, ⟨%f8, %hp, H8⟩, ⟨%f9, H9⟩, ⟨%f10, H10⟩, ⟨%f11, H11⟩, ⟨%f12, H12⟩, ⟨%f13, H13⟩, ⟨%f14, H14⟩, ⟨%f15, H15⟩, ⟨%g16, H16⟩, ⟨%g17, H17⟩, ⟨%f18, H18⟩, ⟨%f19, H19⟩, ⟨%f20, %h20, H20⟩, ⟨%f21, %h21, H21⟩, Hk⟩
  have hperm := perm_kept i arg8 f8 hp
  have hz2 := h2 (arg2.view.read (Elt Ideal) f2)
  have hz16 := h16 (arg16.view.read (Elt Ideal) g16)
  have hz17 := h17 (arg17.view.read (Elt Ideal) g17)
  sl_exec_parts
  have hq2 : P2 (arg1.view.read (Elt Ideal) f1) 24 (arg2.view.read (Elt Ideal) fL0) := by assumption
  have hq16 : P16 (arg1.view.read (Elt Ideal) f1) 24 (arg16.view.read (Elt Ideal) fL9) := by assumption
  have hq17 : P17 (arg1.view.read (Elt Ideal) f1) 24 (arg17.view.read (Elt Ideal) fL10) := by assumption
  have hq8 : IsPerm (arg8.view.read (Elt Ideal) fL1) := by assumption
  have w20 := P20_step c i arg16 arg18 arg19 arg20 fL9 f19 _ hq16 blk _ rfl hd.symm f20 h20
  have w21 := P21_step c i arg16 arg18 arg19 arg21 fL9 f19 _ hq16 blk _ rfl hd.symm f21 h21
  sl_step
  iapply Hk
  isplitl [H1]; · iexact H1
  isplitl [H2]
  · iexists _
    isplitr; swap; · iexact H2
    ipureintro
    exact (P2_all hq2).trans (congrArg PBO hd)
  isplitl [H3]
  · iexists _
    isplitr; swap; · iexact H3
    ipureintro
    exact (out3_eq c arg16 fL9 _ hq16 arg3 f3).trans (congrArg SCO hd)
  isplitl [H4]
  · iexists _
    isplitr; swap; · iexact H4
    ipureintro
    exact (out4_eq c arg17 fL10 _ hq17 arg4 f4).trans (congrArg ZRO hd)
  isplitl [H5]
  · iexists _
    isplitr; swap; · iexact H5
    ipureintro
    intro hi
    rw [hi] at w20 w21
    rw [dif_pos ((last_iff i).2 hi)]
    exact codes_stored c i arg16 arg18 arg19 arg20 arg21 f19 f20 f21 fL9 blk (P20_all w20) (P21_all w21) arg5 f5
  isplitl [H6]
  · iexists _
    isplitr; swap; · iexact H6
    ipureintro
    intro hi
    rw [hi] at w20 w21
    rw [dif_pos ((last_iff i).2 hi)]
    exact amax_stored c i arg16 arg18 arg19 arg20 arg21 f19 f20 f21 fL9 blk (P20_all w20) (P21_all w21) arg6 f6
  isplitl [H7]
  · iexists _
    isplitr; swap; · iexact H7
    ipureintro
    intro hi
    rw [hi] at w20 w21
    rw [dif_pos ((last_iff i).2 hi)]
    exact mean_stored c i arg16 arg18 arg19 arg20 arg21 f19 f20 f21 fL9 blk (P20_all w20) (P21_all w21) arg7 f7
  isplitl [H8]
  · iexists _
    isplitr; swap; · iexact H8
    ipureintro
    exact hq8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]
  · iexists _
    isplitr; swap; · iexact H20
    ipureintro
    exact w20
  iexists _
  isplitr; swap; · iexact H21
  ipureintro
  exact w21

end Cert.Proof.KernelIdeal

end
-- ==== Proof.KerV.lean ====
/- The flat rows' results read at an element. -/
module

public import proofs.«01_k».proof.Proof.BodyV

@[expose] public section

noncomputable section

namespace Cert.Proof.KerV

open Cert.KernelIdeal Cert.KernelIdeal.Gen
open Idealize.ShloMosaic Idealize.ShloMosaic.Tactic

variable (a b : S1536x128.Idx → EReal)

theorem pay442_eq : k0_pay442 (F := Ideal) a b
    = Ideal.div (∑ s : Fin 8, ∑ l : Fin 128, ∑ q : Fin 192, (a (ix2 (⟨q.val * 8 + s.val, by omega⟩ : Fin 1536) l) + b (ix2 (⟨q.val * 8 + s.val, by omega⟩ : Fin 1536) l)))
      (Ideal.ofBits .f32 0x48C00000#32) := by
  pointwise [k0_pay442]

theorem pay443_eq (n : Fin 1536) (l : Fin 128) : k0_pay443 (F := Ideal) a b (ix2 n l) = a (ix2 n l) - k0_pay442 (F := Ideal) a b := by
  pointwise [k0_pay443]

theorem pay444_eq (n : Fin 1536) (l : Fin 128) : k0_pay444 (F := Ideal) a b (ix2 n l) = b (ix2 n l) - k0_pay442 (F := Ideal) a b := by
  pointwise [k0_pay444]

/-- A flat row's code scale. -/
theorem pay445_eq (n : Fin 1536) : k0_pay445 (F := Ideal) a b (ix2 n (0 : Fin 1))
    = Ideal.div (⨆ l : Fin 128, max (FloatOps.absf (F := Ideal) (φ := .f32) (k0_pay443 (F := Ideal) a b (ix2 n l))) (FloatOps.absf (F := Ideal) (φ := .f32) (k0_pay444 (F := Ideal) a b (ix2 n l))))
      (Ideal.ofBits .f32 0x42FE0000#32) := by
  unfold k0_pay445
  generalize k0_pay443 (F := Ideal) a b = x
  generalize k0_pay444 (F := Ideal) a b = y
  pointwise []
  rw [show Ideal.ofBits .f32 0xFF800000#32 = (⊥ : EReal) by simp [Ideal.ofBits, Ideal.ieee], ← Finset.sup_univ_eq_iSup]
  rfl

/-- A code: its value over its row's scale, rounded and clipped. -/
def codeS (w : ℕ) (x y : EReal) : BitVec w := Ideal.fptosi w (min (Ideal.ofBits .f32 0x42FE0000#32) (max (Ideal.ofBits .f32 0xC2FE0000#32)
      (Ideal.liftRound Ideal.roundHalfEven (Ideal.div x y))))

theorem pay446_eq (n : Fin 1536) (l : Fin 128) : k0_pay446 (F := Ideal) a b (ix2 n l)
    = codeS 8 (k0_pay443 (F := Ideal) a b (ix2 n l)) (k0_pay445 (F := Ideal) a b (ix2 n (0 : Fin 1))) := by
  unfold k0_pay446 codeS
  generalize k0_pay443 (F := Ideal) a b = x
  generalize k0_pay445 (F := Ideal) a b = y
  pointwise []
  rfl

theorem pay447_eq (n : Fin 1536) (l : Fin 128) : k0_pay447 (F := Ideal) a b (ix2 n l)
    = codeS 8 (k0_pay444 (F := Ideal) a b (ix2 n l)) (k0_pay445 (F := Ideal) a b (ix2 n (0 : Fin 1))) := by
  unfold k0_pay447 codeS
  generalize k0_pay444 (F := Ideal) a b = x
  generalize k0_pay445 (F := Ideal) a b = y
  pointwise []
  rfl

/-- A clipped code is the same at eight bits as at thirty-two. -/
theorem code_narrow (x y : EReal) : BitVec.setWidth 8 (codeS 32 x y) = codeS 8 x y := by
  unfold codeS
  have h127 : Ideal.ofBits .f32 0x42FE0000#32 = ((127 : ℝ) : EReal) := by simp [Ideal.ofBits, Ideal.ieee, -EReal.coe_mul]; norm_num
  have hm : Ideal.ofBits .f32 0xC2FE0000#32 = ((-127 : ℝ) : EReal) := by simp [Ideal.ofBits, Ideal.ieee, -EReal.coe_mul]; norm_num
  rw [h127, hm]
  generalize Ideal.liftRound Ideal.roundHalfEven (Ideal.div x y) = v
  obtain ⟨r, h1, h2, e⟩ : ∃ r : ℝ, -127 ≤ r ∧ r ≤ 127 ∧ min ((127 : ℝ) : EReal) (max ((-127 : ℝ) : EReal) v) = (r : EReal) := by
    induction v using EReal.rec with
    | bot => exact ⟨-127, by norm_num, by norm_num, by rw [max_eq_left bot_le, min_eq_right (by exact_mod_cast (by norm_num : (-127 : ℝ) ≤ 127))]⟩
    | top => exact ⟨127, by norm_num, by norm_num, by rw [max_eq_right le_top, min_eq_left le_top]⟩
    | coe a => exact ⟨min 127 (max (-127) a), le_min (by norm_num) (le_max_left _ _), min_le_left _ _, by push_cast; rfl⟩
  rw [e]
  show BitVec.setWidth 8 (BitVec.ofInt 32 (max _ (min _ (if 0 ≤ r then ⌊r⌋ else ⌈r⌉)))) = BitVec.ofInt 8 (max _ (min _ (if 0 ≤ r then ⌊r⌋ else ⌈r⌉)))
  obtain ⟨z, hz, h3, h4⟩ : ∃ z : ℤ, (if 0 ≤ r then ⌊r⌋ else ⌈r⌉) = z ∧ -127 ≤ z ∧ z ≤ 127 := by
    refine ⟨_, rfl, ?_, ?_⟩
    · split
      · exact Int.le_floor.mpr (by push_cast; exact h1)
      · have : -127 ≤ ((⌈r⌉ : ℤ) : ℝ) := h1.trans (Int.le_ceil r)
        exact_mod_cast this
    · split
      · have : ((⌊r⌋ : ℤ) : ℝ) ≤ 127 := (Int.floor_le r).trans h2
        exact_mod_cast this
      · exact Int.ceil_le.mpr (by push_cast; exact h2)
  rw [hz]
  norm_num
  rw [max_eq_right (by omega), min_eq_right (by omega), max_eq_right (by omega), min_eq_right (by omega)]
  apply BitVec.eq_of_toInt_eq
  simp [BitVec.toInt_setWidth, BitVec.toInt_ofInt, Int.bmod]
  omega

/-- A sum over blocks of equal length is the sum over the whole range. -/
theorem sum_blocks (f : ℕ → EReal) (n k : ℕ) : (∑ i ∈ Finset.range n, ∑ j ∈ Finset.range k, f (k * i + j)) = ∑ g ∈ Finset.range (k * n), f g := by
  induction n with
  | zero => simp
  | succ n ih => rw [Finset.sum_range_succ, ih, Nat.mul_succ, Finset.sum_range_add]

end Cert.Proof.KerV
end
-- ==== Proof.MatchV.lean ====
/- The kernel's results are the reference's, element by element. -/
module

public import proofs.«01_k».proof.Proof.RefV
public import proofs.«01_k».proof.Proof.KerV

@[expose] public section

noncomputable section

namespace Cert.Proof.MatchV

open Cert.ReferenceIdeal Cert.ReferenceIdeal.Read
open Idealize.ShloMosaic Idealize.ShloMosaic.Tactic
open Cert.KernelIdeal.Gen (k0_pay442 k0_pay443 k0_pay444 k0_pay445 k0_pay446 k0_pay447)
open Cert.Proof.KernelIdeal (bx MX MN scaleS zeroS SC ZR FL VA VB CDO)
open Cert.Proof.RefV Cert.Proof.KerV

variable (x : S1x2048x12288.Idx → EReal)

/-- The sum of all scales, row by row. -/
theorem sum_rows (blk : ℕ → Cert.KernelIdeal.S1x256x12288.Idx → EReal) :
    (∑ R : Fin 2048, ∑ r : Fin 192, SC (blk (R.val / 256)) r.val (R.val % 256)) = ∑ g ∈ Finset.range 393216, FL blk g := by
  rw [show 393216 = 192 * 2048 from rfl, ← sum_blocks]
  rw [← Fin.sum_univ_eq_sum_range (fun R => ∑ r ∈ Finset.range 192, FL blk (192 * R + r))]
  refine Finset.sum_congr rfl fun R _ => ?_
  rw [← Fin.sum_univ_eq_sum_range (fun r => FL blk (192 * R.val + r))]
  refine Finset.sum_congr rfl fun r _ => ?_
  have := r.isLt
  unfold FL
  rw [show (192 * R.val + r.val) / 192 = R.val by omega, show (192 * R.val + r.val) % 192 = r.val by omega]

/-- The sum of all scales, in the kernel's order. -/
theorem sum_flat (blk : ℕ → Cert.KernelIdeal.S1x256x12288.Idx → EReal) :
    (∑ s : Fin 8, ∑ l : Fin 128, ∑ q : Fin 192, (VA blk (ix2 (⟨q.val * 8 + s.val, by omega⟩ : Fin 1536) l) + VB blk (ix2 (⟨q.val * 8 + s.val, by omega⟩ : Fin 1536) l)))
      = ∑ g ∈ Finset.range 393216, FL blk g := by
  have hrow : ∀ n : ℕ, (∑ l : Fin 128, (FL blk (256 * n + l.val) + FL blk (256 * n + 128 + l.val))) = ∑ j ∈ Finset.range 256, FL blk (256 * n + j) := fun n => by
    rw [Finset.sum_add_distrib, show 256 = 128 + 128 from rfl, Finset.sum_range_add,
      Fin.sum_univ_eq_sum_range (fun l => FL blk ((128 + 128) * n + l)) 128, Fin.sum_univ_eq_sum_range (fun l => FL blk ((128 + 128) * n + 128 + l)) 128]
    simp only [add_assoc]
  have hs : ∀ s : Fin 8, (∑ l : Fin 128, ∑ q : Fin 192, (VA blk (ix2 (⟨q.val * 8 + s.val, by omega⟩ : Fin 1536) l) + VB blk (ix2 (⟨q.val * 8 + s.val, by omega⟩ : Fin 1536) l)))
      = ∑ q : Fin 192, ∑ j ∈ Finset.range 256, FL blk (256 * (8 * q.val + s.val) + j) := fun s => by
    rw [Finset.sum_comm]
    refine Finset.sum_congr rfl fun q _ => ?_
    rw [← hrow]
    refine Finset.sum_congr rfl fun l _ => ?_
    rw [mul_comm 8 q.val]
    rfl
  rw [Finset.sum_congr rfl fun s _ => hs s, Finset.sum_comm]
  rw [show 393216 = 256 * (8 * 192) from rfl, ← sum_blocks, ← sum_blocks]
  rw [← Fin.sum_univ_eq_sum_range (fun q => ∑ s ∈ Finset.range 8, ∑ j ∈ Finset.range 256, FL blk (256 * (8 * q + s) + j))]
  refine Finset.sum_congr rfl fun q _ => ?_
  exact Fin.sum_univ_eq_sum_range (fun s => ∑ j ∈ Finset.range 256, FL blk (256 * (8 * q.val + s) + j)) 8

/-- The mean scale. -/
theorem mean_eq : k0_pay442 (F := Ideal) (VA (blks x)) (VB (blks x)) = val_main_v33 (F := Ideal) x ix0 := by
  rw [pay442_eq, sum_flat, ← sum_rows, ← v32_apply x ix0, val_main_v33_apply, val_main_cst_9_apply]
  rfl

theorem left_eq (n : Fin 1536) (l : Fin 128) :
    k0_pay443 (F := Ideal) (VA (blks x)) (VB (blks x)) (ix2 n l) = val_main_v36 (F := Ideal) x (ix2 n (⟨l.val, by omega⟩ : Fin 256)) := by
  rw [pay443_eq, v36_apply, mean_eq]
  rfl

theorem right_eq (n : Fin 1536) (l : Fin 128) :
    k0_pay444 (F := Ideal) (VA (blks x)) (VB (blks x)) (ix2 n l) = val_main_v36 (F := Ideal) x (ix2 n (⟨128 + l.val, by omega⟩ : Fin 256)) := by
  rw [pay444_eq, v36_apply, mean_eq, ← add_assoc]
  rfl

/-- The codes' scales. -/
theorem s2_eq (n : Fin 1536) :
    k0_pay445 (F := Ideal) (VA (blks x)) (VB (blks x)) (ix2 n (0 : Fin 1)) = val_main_v40 (F := Ideal) x (ix1 n) := by
  rw [pay445_eq, v40_apply]
  simp only [left_eq, right_eq]
  congr 1
  refine eq_of_forall_ge_iff fun z => ?_
  rw [iSup_le_iff, iSup_le_iff]
  constructor
  · intro h b
    by_cases hb : b.val < 128
    · exact (max_le_iff.mp (h ⟨b.val, hb⟩)).1
    · have := (max_le_iff.mp (h ⟨b.val - 128, by omega⟩)).2
      rwa [show (⟨128 + (⟨b.val - 128, by omega⟩ : Fin 128).val, by simp; omega⟩ : Fin 256) = b from Fin.ext (by simp; omega)] at this
  · intro h l
    exact max_le (h _) (h _)

/-- The codes. -/
theorem codes_eq (n : Fin 1536) (b : Fin 256) : CDO (blks x) (ix2 n b) = val_main_v47 (F := Ideal) x (ix2 n b) := by
  rw [val_main_v47_apply, v46_apply]
  refine Eq.trans ?_ (code_narrow _ _).symm
  rw [← s2_eq]
  unfold CDO
  split
  · rename_i hb
    refine (pay446_eq _ _ n ⟨b.val, hb⟩).trans ?_
    rw [left_eq]
  · rename_i hb
    replace hb : ¬ b.val < 128 := hb
    refine (pay447_eq _ _ n ⟨b.val - 128, by omega⟩).trans ?_
    rw [right_eq, show (⟨128 + (⟨b.val - 128, by omega⟩ : Fin 128).val, by simp; omega⟩ : Fin 256) = b from Fin.ext (by simp; omega)]

end Cert.Proof.MatchV

end
-- ==== Proof.ArithV.lean ====
module
public import proofs.«01_k».proof.Proof.Val5

/-! The packed codes' arithmetic: the words made with the rounding constant and the 16-bit clamps are the rounded and clipped codes,
    as long as no block's elements are too large for its spread. -/

@[expose] public section
noncomputable section
namespace Cert.Proof.ArithV
open Idealize.ShloMosaic
open Cert.Proof.KernelIdeal (scaleS zeroS invS bndS zaS codeW pairW wordW)

theorem c15 : Ideal.ofBits .f32 0x41700000#32 = ((15 : ℝ) : EReal) := by simp [Ideal.ofBits, Ideal.ieee, -EReal.coe_mul]; norm_num
theorem c1024 : Ideal.ofBits .f32 0x44800000#32 = ((1024 : ℝ) : EReal) := by simp [Ideal.ofBits, Ideal.ieee, -EReal.coe_mul]; norm_num
theorem c160 : Ideal.ofBits .f32 0x43200000#32 = ((160 : ℝ) : EReal) := by simp [Ideal.ofBits, Ideal.ieee, -EReal.coe_mul]; norm_num
theorem c175 : Ideal.ofBits .f32 0x432F0000#32 = ((175 : ℝ) : EReal) := by simp [Ideal.ofBits, Ideal.ieee, -EReal.coe_mul]; norm_num
theorem cM : Ideal.ofBits .f32 0x4B404320#32 = ((12600096 : ℝ) : EReal) := by simp [Ideal.ofBits, Ideal.ieee, -EReal.coe_mul]

/-! Rounding to nearest, ties to even. -/

theorem rhe_add (r : ℝ) (m : ℤ) (hm : Even m) : Ideal.roundHalfEven (r + m) = Ideal.roundHalfEven r + m := by
  unfold Ideal.roundHalfEven
  simp only [Int.floor_add_intCast, Int.cast_add, add_sub_add_right_eq_sub, Int.even_add, hm, iff_true]
  split_ifs <;> ring

theorem rhe_int (m : ℤ) : Ideal.roundHalfEven (m : ℝ) = m := by
  unfold Ideal.roundHalfEven
  simp

theorem le_rhe (r : ℝ) : ⌊r⌋ ≤ Ideal.roundHalfEven r := by
  unfold Ideal.roundHalfEven
  simp only
  split_ifs <;> omega

theorem rhe_le (r : ℝ) : Ideal.roundHalfEven r ≤ ⌊r⌋ + 1 := by
  unfold Ideal.roundHalfEven
  simp only
  split_ifs <;> omega

/-- A whole number as a word. -/
theorem fptosi_int (m : ℤ) (h1 : -2147483648 ≤ m) (h2 : m ≤ 2147483647) : Ideal.fptosi 32 (((m : ℝ) : EReal)) = BitVec.ofInt 32 m := by
  unfold Ideal.fptosi
  rw [Ideal.toIntClamped_coe]
  rw [Int.floor_intCast, Int.ceil_intCast, ite_self]
  congr 1
  norm_num
  omega

/-- A block's zero point is a whole number from 0 to 15. -/
theorem zeroS_int (mx mn : EReal) : ∃ z : ℤ, 0 ≤ z ∧ z ≤ 15 ∧ zeroS mx mn = ((z : ℝ) : EReal) := by
  unfold zeroS
  generalize (0 - mn) * Ideal.div 1 (scaleS mx mn) = v
  rw [c15]
  induction v using EReal.rec with
  | bot => exact ⟨0, by norm_num, by norm_num, by rw [Ideal.liftRound_bot, max_eq_left bot_le, min_eq_right (by exact_mod_cast (by norm_num : (0 : ℝ) ≤ 15))]; simp⟩
  | top => exact ⟨15, by norm_num, by norm_num, by rw [Ideal.liftRound_top, max_eq_right le_top, min_eq_left le_top]; norm_num⟩
  | coe a => exact ⟨min 15 (max 0 (Ideal.roundHalfEven a)), le_min (by norm_num) (le_max_left _ _), min_le_left _ _, by rw [Ideal.liftRound_coe]; push_cast; rfl⟩

/-- A code: its rounded quotient and the zero point added, clipped. -/
def q (n z : ℤ) : ℕ := (max 0 (min 15 (n + z))).toNat

theorem scaleS_ne (mx mn : EReal) : scaleS mx mn ≠ 0 := by
  unfold scaleS
  split
  · exact one_ne_zero
  · assumption

/-- The kernel's product and the reference's quotient of an element round to numbers with the same code, and the product is small. -/
theorem key (y mx mn : EReal) (h1 : mn ≤ y) (h2 : y ≤ mx)
    (hp : mx = mn ∨ (mx ≤ ((512 : ℝ) : EReal) * (mx - mn) ∧ -mn ≤ ((512 : ℝ) : EReal) * (mx - mn))) :
    ∃ r r' : ℝ, y * invS mx mn = (r : EReal) ∧ Ideal.div y (scaleS mx mn) = (r' : EReal)
      ∧ -7680 ≤ Ideal.roundHalfEven r ∧ Ideal.roundHalfEven r ≤ 7681
      ∧ ∀ z : ℤ, 0 ≤ z → z ≤ 15 → q (Ideal.roundHalfEven r) z = q (Ideal.roundHalfEven r') z := by
  have hinf : (mx - mn = ⊤ ∨ mx - mn = ⊥) → _ := fun hi => by
    have hd : Ideal.div (mx - mn) (Ideal.ofBits .f32 0x41700000#32) = mx - mn := by
      rw [c15]
      unfold Ideal.div
      rw [if_neg (by norm_num)]
      rcases hi with hi | hi <;> rw [hi, ← EReal.coe_inv]
      · exact EReal.top_mul_coe_of_pos (by norm_num)
      · exact EReal.bot_mul_coe_of_pos (by norm_num)
    have hn : mx - mn ≠ 0 := by rcases hi with hi | hi <;> rw [hi] <;> simp
    have hs : (scaleS mx mn)⁻¹ = 0 := by
      unfold scaleS
      rw [hd, if_neg hn]
      rcases hi with hi | hi <;> rw [hi] <;> simp
    have e1 : invS mx mn = 0 := by
      unfold invS
      rw [hd, if_neg hn]
      unfold Ideal.div
      rw [if_neg (scaleS_ne _ _), hs, mul_zero]
    have e2 : Ideal.div y (scaleS mx mn) = 0 := by
      unfold Ideal.div
      rw [if_neg (scaleS_ne _ _), hs, mul_zero]
    show ∃ r r' : ℝ, y * invS mx mn = (r : EReal) ∧ Ideal.div y (scaleS mx mn) = (r' : EReal)
      ∧ -7680 ≤ Ideal.roundHalfEven r ∧ Ideal.roundHalfEven r ≤ 7681
      ∧ ∀ z : ℤ, 0 ≤ z → z ≤ 15 → q (Ideal.roundHalfEven r) z = q (Ideal.roundHalfEven r') z
    have h0 : Ideal.roundHalfEven 0 = 0 := by simpa using rhe_int 0
    exact ⟨0, 0, by rw [e1, mul_zero]; rfl, by rw [e2]; rfl, by rw [h0]; norm_num, by rw [h0]; norm_num, fun _ _ _ => rfl⟩
  induction mx using EReal.rec with
  | bot => exact hinf (Or.inr (by simp))
  | top =>
    induction mn using EReal.rec with
    | bot => exact hinf (Or.inl (by simp))
    | top => exact hinf (Or.inr (by simp))
    | coe b => exact hinf (Or.inl (by simp))
  | coe a =>
    induction mn using EReal.rec with
    | bot => exact hinf (Or.inl (by simp))
    | top => exact absurd (h1.trans h2) (by simp)
    | coe b =>
      clear hinf
      induction y using EReal.rec with
      | bot => exact absurd h1 (by simp)
      | top => exact absurd h2 (by simp)
      | coe y =>
        have h1 : b ≤ y := by exact_mod_cast h1
        have h2 : y ≤ a := by exact_mod_cast h2
        have hd : Ideal.div ((a : EReal) - (b : EReal)) (Ideal.ofBits .f32 0x41700000#32) = (((a - b) / 15 : ℝ) : EReal) := by
          rw [c15]
          unfold Ideal.div
          rw [if_neg (by norm_num), ← EReal.coe_sub, ← EReal.coe_inv, ← EReal.coe_mul, div_eq_mul_inv]
        by_cases hab : a = b
        · subst hab
          have hya : y = a := le_antisymm h2 h1
          subst hya
          have hz : Ideal.div ((y : EReal) - (y : EReal)) (Ideal.ofBits .f32 0x41700000#32) = 0 := by rw [hd]; simp
          have e2 : Ideal.div (y : EReal) (scaleS (y : EReal) (y : EReal)) = (y : EReal) := by
            unfold scaleS
            rw [if_pos hz]
            unfold Ideal.div
            rw [if_neg one_ne_zero]
            simp
          have habs : FloatOps.absf (F := Ideal) (φ := .f32) (y : EReal) = ((|y| : ℝ) : EReal) := by
            show max (y : EReal) (-(y : EReal)) = _
            rw [← EReal.coe_neg]; exact (EReal.coe_strictMono.monotone.map_max (a := y) (b := -y)).symm
          have e1 : invS (y : EReal) (y : EReal) = min 1 (Ideal.div ((1024 : ℝ) : EReal) ((|y| : ℝ) : EReal)) := by
            unfold invS
            rw [if_pos hz, c1024, habs]
          by_cases hs : |y| ≤ 1024
          · have e3 : invS (y : EReal) (y : EReal) = 1 := by
              rw [e1]
              refine min_eq_left ?_
              unfold Ideal.div
              split_ifs with g1 g2
              · exact le_top
              · exact absurd (by exact_mod_cast (by norm_num : (0 : ℝ) < 1024)) g2
              · have hy : 0 < |y| := lt_of_le_of_ne (abs_nonneg y) (fun h => g1 (by rw [← h]; rfl))
                rw [← EReal.coe_inv, ← EReal.coe_mul]
                exact_mod_cast (by rw [← div_eq_mul_inv, le_div_iff₀ hy]; linarith : (1 : ℝ) ≤ 1024 * |y|⁻¹)
            have hy := abs_le.1 hs
            have f1 : (-1024 : ℤ) ≤ ⌊y⌋ := Int.le_floor.2 (by push_cast; exact hy.1)
            have f2 : ⌊y⌋ ≤ (1024 : ℤ) := by
              have : ((⌊y⌋ : ℤ) : ℝ) ≤ 1024 := (Int.floor_le y).trans hy.2
              exact_mod_cast this
            have g1 := le_rhe y
            have g2 := rhe_le y
            exact ⟨y, y, by rw [e3, mul_one], e2, by omega, by omega, fun _ _ _ => rfl⟩
          · have hs : 1024 < |y| := not_le.1 hs
            have hy0 : 0 < |y| := by linarith
            have e3 : invS (y : EReal) (y : EReal) = ((1024 / |y| : ℝ) : EReal) := by
              rw [e1]
              have e4 : Ideal.div ((1024 : ℝ) : EReal) ((|y| : ℝ) : EReal) = ((1024 / |y| : ℝ) : EReal) := by
                unfold Ideal.div
                rw [if_neg (by exact_mod_cast hy0.ne'), ← EReal.coe_inv, ← EReal.coe_mul, div_eq_mul_inv]
              rw [e4]
              refine min_eq_right ?_
              exact_mod_cast (by rw [div_le_one hy0]; exact hs.le : (1024 : ℝ) / |y| ≤ 1)
            rcases le_total 0 y with hy | hy
            · rw [abs_of_nonneg hy] at hs hy0 e3
              refine ⟨((1024 : ℤ) : ℝ), y, ?_, e2, by rw [rhe_int]; norm_num, by rw [rhe_int]; norm_num, fun z z0 z1 => ?_⟩
              · rw [e3, ← EReal.coe_mul]
                congr 1
                push_cast
                field_simp
              · have f1 : (1024 : ℤ) ≤ ⌊y⌋ := Int.le_floor.2 (by push_cast; exact hs.le)
                have g1 := le_rhe y
                rw [rhe_int]
                unfold q
                rw [min_eq_left (by omega), min_eq_left (by omega)]
            · rw [abs_of_nonpos hy] at hs hy0 e3
              refine ⟨((-1024 : ℤ) : ℝ), y, ?_, e2, by rw [rhe_int]; norm_num, by rw [rhe_int]; norm_num, fun z z0 z1 => ?_⟩
              · rw [e3, ← EReal.coe_mul]
                congr 1
                push_cast
                have : y ≠ 0 := by linarith
                field_simp
              · have f1 : ⌊y⌋ < (-1024 : ℤ) := Int.floor_lt.2 (by push_cast; linarith)
                have g1 := rhe_le y
                rw [rhe_int]
                unfold q
                rw [max_eq_left (by omega), max_eq_left (by omega)]
        · have hab' : 0 < a - b := by
            have := lt_of_le_of_ne (h1.trans h2) (Ne.symm hab)
            linarith
          have hs0 : (0 : ℝ) < (a - b) / 15 := by positivity
          have hz : Ideal.div ((a : EReal) - (b : EReal)) (Ideal.ofBits .f32 0x41700000#32) ≠ 0 := by
            rw [hd]; exact_mod_cast hs0.ne'
          have es : scaleS (a : EReal) (b : EReal) = (((a - b) / 15 : ℝ) : EReal) := by
            unfold scaleS
            rw [if_neg hz, hd]
          have hne : (((a - b) / 15 : ℝ) : EReal) ≠ 0 := by exact_mod_cast hs0.ne'
          have e1 : invS (a : EReal) (b : EReal) = ((((a - b) / 15)⁻¹ : ℝ) : EReal) := by
            unfold invS
            rw [if_neg hz, es]
            unfold Ideal.div
            rw [if_neg hne, one_mul, ← EReal.coe_inv]
          have e2 : Ideal.div (y : EReal) (scaleS (a : EReal) (b : EReal)) = ((y * ((a - b) / 15)⁻¹ : ℝ) : EReal) := by
            rw [es]
            unfold Ideal.div
            rw [if_neg hne, ← EReal.coe_inv, ← EReal.coe_mul]
          rcases hp with hp | ⟨p1, p2⟩
          · exact absurd (by exact_mod_cast hp) hab
          have p1 : a ≤ 512 * (a - b) := by
            rw [← EReal.coe_sub, ← EReal.coe_mul] at p1
            exact_mod_cast p1
          have p2 : -b ≤ 512 * (a - b) := by
            rw [← EReal.coe_sub, ← EReal.coe_mul, ← EReal.coe_neg] at p2
            exact_mod_cast p2
          have b1 : y * ((a - b) / 15)⁻¹ ≤ 7680 := by
            rw [← div_eq_mul_inv, div_le_iff₀ hs0]; linarith
          have b2 : -7680 ≤ y * ((a - b) / 15)⁻¹ := by
            rw [← div_eq_mul_inv, le_div_iff₀ hs0]; linarith
          refine ⟨y * ((a - b) / 15)⁻¹, y * ((a - b) / 15)⁻¹, by rw [e1, ← EReal.coe_mul], e2, ?_, ?_, fun _ _ _ => rfl⟩
          · have f1 : (-7680 : ℤ) ≤ ⌊y * ((a - b) / 15)⁻¹⌋ := Int.le_floor.2 (by push_cast; exact b2)
            exact f1.trans (le_rhe _)
          · have f2 : ⌊y * ((a - b) / 15)⁻¹⌋ ≤ (7680 : ℤ) := by
              have : ((⌊y * ((a - b) / 15)⁻¹⌋ : ℤ) : ℝ) ≤ 7680 := (Int.floor_le _).trans b1
              exact_mod_cast this
            exact (rhe_le _).trans (by omega)

/-! The words. -/

theorem add_low16 (k c : ℕ) : BitVec.setWidth 16 (IntOp.addi (BitVec.ofNat 32 k) (BitVec.ofNat 32 c)) = BitVec.ofNat 16 (k + c) := by
  unfold IntOp.addi
  apply BitVec.eq_of_toNat_eq
  rw [BitVec.toNat_setWidth, BitVec.toNat_add, BitVec.toNat_ofNat, BitVec.toNat_ofNat, BitVec.toNat_ofNat]
  omega

theorem ofNat_mod (a b : ℕ) (h : a % 65536 = b % 65536) : BitVec.ofNat 16 a = BitVec.ofNat 16 b := by
  apply BitVec.eq_of_toNat_eq
  rw [BitVec.toNat_ofNat, BitVec.toNat_ofNat]
  exact h

theorem muladd (k a b : ℕ) (h : k * a + b < 4294967296) (ha : a < 4294967296) (hk : k < 4294967296) (hb : b < 4294967296) :
    (IntOp.addi (IntOp.muli (BitVec.ofNat 32 k) (BitVec.ofNat 32 a)) (BitVec.ofNat 32 b)).toNat = k * a + b := by
  unfold IntOp.addi IntOp.muli
  rw [BitVec.toNat_add, BitVec.toNat_mul, BitVec.toNat_ofNat, BitVec.toNat_ofNat, BitVec.toNat_ofNat]
  rw [Nat.mod_eq_of_lt hk, Nat.mod_eq_of_lt ha, Nat.mod_eq_of_lt hb, Nat.mod_eq_of_lt (a := k * a) (by omega), Nat.mod_eq_of_lt h]

/-- The product rounded through the constant `12600096`, its low half: the rounded product above `17184`. -/
theorem codeW_low (y inv : EReal) (r : ℝ) (h : y * inv = (r : EReal)) (h1 : -7680 ≤ Ideal.roundHalfEven r) (h2 : Ideal.roundHalfEven r ≤ 7681) :
    BitVec.setWidth 16 (codeW y inv) = BitVec.ofNat 16 (17184 + Ideal.roundHalfEven r).toNat := by
  unfold codeW
  rw [h, cM, ← EReal.coe_add, Ideal.liftRound_coe]
  have e : (r + 12600096 : ℝ) = r + ((12600096 : ℤ) : ℝ) := by norm_num
  rw [e, rhe_add r 12600096 (by decide)]
  generalize Ideal.roundHalfEven r = n at h1 h2
  rw [fptosi_int _ (by omega) (by omega)]
  obtain ⟨k, hk⟩ : ∃ k : ℕ, n + 12600096 = (k : ℤ) := ⟨(n + 12600096).toNat, by omega⟩
  rw [hk, BitVec.ofInt_natCast]
  rw [add_low16]
  refine ofNat_mod _ _ ?_
  omega

/-- A bound: a number near `160`, less the zero point, above the same constant's low half. -/
theorem bnd_low (v : BitVec 32) (b : ℤ) (hv : Ideal.ofBits .f32 v = ((b : ℝ) : EReal)) (h1 : 15 ≤ b) (h2 : b ≤ 1000) (mx mn : EReal) (z : ℤ)
    (hz : zeroS mx mn = ((z : ℝ) : EReal)) (z0 : 0 ≤ z) (z1 : z ≤ 15) :
    bndS v mx mn = BitVec.ofNat 16 (17024 + b - z).toNat ++ BitVec.ofNat 16 (17024 + b - z).toNat := by
  have key : BitVec.setWidth 16 (IntOp.addi (Ideal.fptosi 32 (Ideal.ofBits .f32 v - zeroS mx mn)) 17024#32) = BitVec.ofNat 16 (17024 + b - z).toNat := by
    rw [hv, hz, ← EReal.coe_sub, ← Int.cast_sub, fptosi_int _ (by omega) (by omega)]
    obtain ⟨k, hk⟩ : ∃ k : ℕ, b - z = (k : ℤ) := ⟨(b - z).toNat, by omega⟩
    rw [hk, BitVec.ofInt_natCast]
    unfold IntOp.addi
    apply BitVec.eq_of_toNat_eq
    simp only [BitVec.toNat_setWidth, BitVec.toNat_add, BitVec.toNat_ofNat]
    omega
  unfold bndS
  rw [key]

theorem za_toNat (mx mn : EReal) (z : ℤ) (hz : zeroS mx mn = ((z : ℝ) : EReal)) (z0 : 0 ≤ z) (z1 : z ≤ 15) :
    (zaS mx mn).toNat = z.toNat * 1114129 + 14418144 := by
  unfold zaS
  rw [hz, fptosi_int _ (by omega) (by omega)]
  obtain ⟨k, hk⟩ : ∃ k : ℕ, z = (k : ℤ) := ⟨z.toNat, by omega⟩
  subst hk
  rw [BitVec.ofInt_natCast]
  rw [muladd _ _ _ (by omega) (by norm_num) (by omega) (by norm_num), Int.toNat_natCast]

theorem hi_half (x y : BitVec 16) : (x ++ y).extractLsb' 16 16 = x := by
  apply BitVec.eq_of_getLsbD_eq
  intro i hi
  rw [BitVec.getLsbD_extractLsb', BitVec.getLsbD_append]
  simp [hi]

theorem lo_half (x y : BitVec 16) : (x ++ y).extractLsb' 0 16 = y := by
  apply BitVec.eq_of_getLsbD_eq
  intro i hi
  rw [BitVec.getLsbD_extractLsb', BitVec.getLsbD_append]
  simp [hi]

theorem append_toNat (x y : BitVec 16) : (x ++ y).toNat = x.toNat * 65536 + y.toNat := by
  rw [BitVec.toNat_append, ← Nat.shiftLeft_add_eq_or_of_lt y.isLt, Nat.shiftLeft_eq]

theorem toInt_small (k : ℕ) (h : k < 32768) : (BitVec.ofNat 16 k).toInt = k := by
  rw [BitVec.toInt_eq_toNat_of_lt (by rw [BitVec.toNat_ofNat]; omega), BitVec.toNat_ofNat]
  omega

/-- The 16-bit clamp of a rounded product: its code above the lower bound. -/
theorem clamp16 (n z : ℤ) (h1 : -7680 ≤ n) (h2 : n ≤ 7681) (z0 : 0 ≤ z) (z1 : z ≤ 15) :
    IntOp.minsi (IntOp.maxsi (BitVec.ofNat 16 (17184 + n).toNat) (BitVec.ofNat 16 (17184 - z).toNat)) (BitVec.ofNat 16 (17199 - z).toNat)
      = BitVec.ofNat 16 ((17184 - z).toNat + q n z) := by
  have s : ∀ a b : ℕ, a < 32768 → b < 32768 → (BitVec.slt (BitVec.ofNat 16 a) (BitVec.ofNat 16 b) = true ↔ a < b) := fun a b ha hb => by
    rw [BitVec.slt_iff_toInt_lt, toInt_small a ha, toInt_small b hb]
    omega
  have hmax : IntOp.maxsi (BitVec.ofNat 16 (17184 + n).toNat) (BitVec.ofNat 16 (17184 - z).toNat) = BitVec.ofNat 16 (max (17184 + n).toNat (17184 - z).toNat) := by
    unfold IntOp.maxsi
    split_ifs with h
    · rw [s _ _ (by omega) (by omega)] at h; congr 1; omega
    · rw [s _ _ (by omega) (by omega)] at h; congr 1; omega
  rw [hmax]
  unfold IntOp.minsi q
  split_ifs with h
  · rw [s _ _ (by omega) (by omega)] at h; congr 1; omega
  · rw [s _ _ (by omega) (by omega)] at h; congr 1; omega

/-- A byte of a packed word, in terms of the two sums before they are masked. -/
theorem byte0 (X Y : BitVec 32) : (IntOp.ori (IntOp.andi X 16711935#32) (IntOp.shli .vector (IntOp.andi Y 16711935#32) 8#32)).extractLsb' 0 8 = X.extractLsb' 0 8 := by
  apply BitVec.eq_of_getLsbD_eq
  intro i hi
  simp only [IntOp.ori, IntOp.andi, IntOp.shli]
  interval_cases i <;> simp [BitVec.getLsbD_extractLsb']
theorem byte1 (X Y : BitVec 32) : (IntOp.ori (IntOp.andi X 16711935#32) (IntOp.shli .vector (IntOp.andi Y 16711935#32) 8#32)).extractLsb' 8 8 = Y.extractLsb' 0 8 := by
  apply BitVec.eq_of_getLsbD_eq
  intro i hi
  simp only [IntOp.ori, IntOp.andi, IntOp.shli]
  interval_cases i <;> simp [BitVec.getLsbD_extractLsb']
theorem byte2 (X Y : BitVec 32) : (IntOp.ori (IntOp.andi X 16711935#32) (IntOp.shli .vector (IntOp.andi Y 16711935#32) 8#32)).extractLsb' 16 8 = X.extractLsb' 16 8 := by
  apply BitVec.eq_of_getLsbD_eq
  intro i hi
  simp only [IntOp.ori, IntOp.andi, IntOp.shli]
  interval_cases i <;> simp [BitVec.getLsbD_extractLsb']
theorem byte3 (X Y : BitVec 32) : (IntOp.ori (IntOp.andi X 16711935#32) (IntOp.shli .vector (IntOp.andi Y 16711935#32) 8#32)).extractLsb' 24 8 = Y.extractLsb' 16 8 := by
  apply BitVec.eq_of_getLsbD_eq
  intro i hi
  simp only [IntOp.ori, IntOp.andi, IntOp.shli]
  interval_cases i <;> simp [BitVec.getLsbD_extractLsb']

theorem q_le (n z : ℤ) : q n z ≤ 15 := by unfold q; omega

/-- Four codes summed into a word: each half's low byte holds two of them. -/
theorem sum_toNat (A B za : BitVec 32) (z a0 a4 a1 a5 : ℕ) (hz : z ≤ 15) (h0 : a0 ≤ 15) (h4 : a4 ≤ 15) (h1 : a1 ≤ 15) (h5 : a5 ≤ 15)
    (hA : A.toNat = (17184 - z + a4) * 65536 + (17184 - z + a0)) (hB : B.toNat = (17184 - z + a5) * 65536 + (17184 - z + a1))
    (hza : za.toNat = z * 1114129 + 14418144) :
    (IntOp.addi (IntOp.shli .vector A 4#32) (IntOp.addi B za)).toNat = 0x76007600 + (16 * a4 + a5) * 65536 + (16 * a0 + a1) := by
  unfold IntOp.addi IntOp.shli
  rw [if_pos (by decide)]
  have e : (A <<< (4#32)).toNat = A.toNat * 16 % 4294967296 := by
    rw [BitVec.shiftLeft_eq', BitVec.toNat_shiftLeft]
    rw [Nat.shiftLeft_eq]; rfl
  rw [BitVec.toNat_add, BitVec.toNat_add, e, hA, hB, hza]
  omega

theorem byte_lo (X : BitVec 32) (h l : ℕ) (hh : h < 256) (hl : l < 256) (hX : X.toNat = 0x76007600 + h * 65536 + l) : X.extractLsb' 0 8 = BitVec.ofNat 8 l := by
  apply BitVec.eq_of_toNat_eq
  rw [BitVec.extractLsb'_toNat, hX, Nat.shiftRight_eq_div_pow, BitVec.toNat_ofNat]
  omega
theorem byte_hi (X : BitVec 32) (h l : ℕ) (hh : h < 256) (hl : l < 256) (hX : X.toNat = 0x76007600 + h * 65536 + l) : X.extractLsb' 16 8 = BitVec.ofNat 8 h := by
  apply BitVec.eq_of_toNat_eq
  rw [BitVec.extractLsb'_toNat, hX, Nat.shiftRight_eq_div_pow, BitVec.toNat_ofNat]
  omega

/-- The reference's code of an element. -/
def codeR (y mx mn : EReal) : BitVec 32 :=
  Ideal.fptosi 32 (min ((15 : ℝ) : EReal) (max 0 (Ideal.liftRound Ideal.roundHalfEven (Ideal.div y (scaleS mx mn)) + zeroS mx mn)))

theorem codeR_eq (y mx mn : EReal) (r : ℝ) (z : ℤ) (hr : Ideal.div y (scaleS mx mn) = (r : EReal)) (hz : zeroS mx mn = ((z : ℝ) : EReal)) :
    codeR y mx mn = BitVec.ofNat 32 (q (Ideal.roundHalfEven r) z) := by
  unfold codeR
  rw [hr, hz, Ideal.liftRound_coe]
  have e : min ((15 : ℝ) : EReal) (max 0 (((Ideal.roundHalfEven r : ℝ) : EReal) + ((z : ℝ) : EReal)))
      = (((min 15 (max 0 (Ideal.roundHalfEven r + z)) : ℤ) : ℝ) : EReal) := by push_cast; rfl
  rw [e, fptosi_int _ (by omega) (by omega)]
  rw [← BitVec.ofInt_natCast]
  congr 1
  unfold q
  omega

/-- Two codes in a byte. -/
def byteR (a b : BitVec 32) : BitVec 8 := BitVec.setWidth 8 (IntOp.ori (IntOp.shli .vector a 4#32) b)

theorem byteR_eq (a b : ℕ) (ha : a ≤ 15) (hb : b ≤ 15) : byteR (BitVec.ofNat 32 a) (BitVec.ofNat 32 b) = BitVec.ofNat 8 (16 * a + b) := by
  unfold byteR IntOp.ori IntOp.shli
  rw [if_pos (by decide)]
  apply BitVec.eq_of_toNat_eq
  interval_cases a <;> interval_cases b <;> rfl

/-- The bytes of a word of eight elements of a block are the reference's, two codes to each. -/
theorem word_bytes (y : ℕ → EReal) (mx mn : EReal) (h1 : ∀ e, e < 8 → mn ≤ y e) (h2 : ∀ e, e < 8 → y e ≤ mx)
    (hp : mx = mn ∨ (mx ≤ ((512 : ℝ) : EReal) * (mx - mn) ∧ -mn ≤ ((512 : ℝ) : EReal) * (mx - mn))) (j : ℕ) (hj : j < 4) :
    (wordW y (invS mx mn) (bndS 0x43200000#32 mx mn) (bndS 0x432F0000#32 mx mn) (zaS mx mn)).extractLsb' (8 * j) 8
      = byteR (codeR (y (2 * j)) mx mn) (codeR (y (2 * j + 1)) mx mn) := by
  obtain ⟨z, z0, z1, hz⟩ := zeroS_int mx mn
  have hk : ∀ e, e < 8 → ∃ k : ℕ, k ≤ 15 ∧ codeR (y e) mx mn = BitVec.ofNat 32 k ∧
      IntOp.minsi (IntOp.maxsi (BitVec.setWidth 16 (codeW (y e) (invS mx mn))) (BitVec.ofNat 16 (17184 - z).toNat)) (BitVec.ofNat 16 (17199 - z).toNat)
        = BitVec.ofNat 16 (17184 - z.toNat + k) := fun e he => by
    obtain ⟨r, r', e1, e2, b1, b2, hq⟩ := key (y e) mx mn (h1 e he) (h2 e he) hp
    refine ⟨q (Ideal.roundHalfEven r) z, q_le _ _, ?_, ?_⟩
    · rw [codeR_eq _ _ _ r' z e2 hz, hq z z0 z1]
    · rw [codeW_low _ _ r e1 b1 b2, clamp16 _ z b1 b2 z0 z1]
      congr 2
      omega
  have hp : ∀ a b ka kb : ℕ, ka ≤ 15 → kb ≤ 15 →
      IntOp.minsi (IntOp.maxsi (BitVec.setWidth 16 (codeW (y a) (invS mx mn))) (BitVec.ofNat 16 (17184 - z).toNat)) (BitVec.ofNat 16 (17199 - z).toNat)
        = BitVec.ofNat 16 (17184 - z.toNat + ka) →
      IntOp.minsi (IntOp.maxsi (BitVec.setWidth 16 (codeW (y b) (invS mx mn))) (BitVec.ofNat 16 (17184 - z).toNat)) (BitVec.ofNat 16 (17199 - z).toNat)
        = BitVec.ofNat 16 (17184 - z.toNat + kb) →
      (pairW (codeW (y a) (invS mx mn)) (codeW (y b) (invS mx mn)) (bndS 0x43200000#32 mx mn) (bndS 0x432F0000#32 mx mn)).toNat
        = (17184 - z.toNat + kb) * 65536 + (17184 - z.toNat + ka) := fun a b ka kb la lb ha hb => by
    rw [bnd_low 0x43200000#32 160 (by rw [c160]; norm_num) (by norm_num) (by norm_num) mx mn z hz z0 z1,
      bnd_low 0x432F0000#32 175 (by rw [c175]; norm_num) (by norm_num) (by norm_num) mx mn z hz z0 z1]
    unfold pairW
    simp only [hi_half, lo_half]
    rw [show (17024 + 160 - z : ℤ) = 17184 - z by ring, show (17024 + 175 - z : ℤ) = 17199 - z by ring, ha, hb, append_toNat, BitVec.toNat_ofNat, BitVec.toNat_ofNat]
    omega
  obtain ⟨k0, l0, r0, w0⟩ := hk 0 (by omega)
  obtain ⟨k1, l1, r1, w1⟩ := hk 1 (by omega)
  obtain ⟨k2, l2, r2, w2⟩ := hk 2 (by omega)
  obtain ⟨k3, l3, r3, w3⟩ := hk 3 (by omega)
  obtain ⟨k4, l4, r4, w4⟩ := hk 4 (by omega)
  obtain ⟨k5, l5, r5, w5⟩ := hk 5 (by omega)
  obtain ⟨k6, l6, r6, w6⟩ := hk 6 (by omega)
  obtain ⟨k7, l7, r7, w7⟩ := hk 7 (by omega)
  have hza := za_toNat mx mn z hz z0 z1
  have X := sum_toNat _ _ _ z.toNat k0 k4 k1 k5 (by omega) l0 l4 l1 l5 (hp 0 4 k0 k4 l0 l4 w0 w4) (hp 1 5 k1 k5 l1 l5 w1 w5) hza
  have Y := sum_toNat _ _ _ z.toNat k2 k6 k3 k7 (by omega) l2 l6 l3 l7 (hp 2 6 k2 k6 l2 l6 w2 w6) (hp 3 7 k3 k7 l3 l7 w3 w7) hza
  unfold wordW
  rcases (by omega : j = 0 ∨ j = 1 ∨ j = 2 ∨ j = 3) with rfl | rfl | rfl | rfl
  · rw [show 8 * 0 = 0 from rfl, byte0, byte_lo _ _ _ (by omega) (by omega) X]
    show _ = byteR (codeR (y 0) mx mn) (codeR (y 1) mx mn)
    rw [r0, r1, byteR_eq _ _ l0 l1]
  · rw [show 8 * 1 = 8 from rfl, byte1, byte_lo _ _ _ (by omega) (by omega) Y]
    show _ = byteR (codeR (y 2) mx mn) (codeR (y 3) mx mn)
    rw [r2, r3, byteR_eq _ _ l2 l3]
  · rw [show 8 * 2 = 16 from rfl, byte2, byte_hi _ _ _ (by omega) (by omega) X]
    show _ = byteR (codeR (y 4) mx mn) (codeR (y 5) mx mn)
    rw [r4, r5, byteR_eq _ _ l4 l5]
  · rw [show 8 * 3 = 24 from rfl, byte3, byte_hi _ _ _ (by omega) (by omega) Y]
    show _ = byteR (codeR (y 6) mx mn) (codeR (y 7) mx mn)
    rw [r6, r7, byteR_eq _ _ l6 l7]

end Cert.Proof.ArithV
end
-- ==== Proof.PackV.lean ====
/- The packed codes: the reference's, and the kernel's the same where every block covers its elements. -/
module

public import proofs.«01_k».proof.Proof.RefV
public import proofs.«01_k».proof.Proof.ArithV
public import proofs.«01_k».proof.Proof.Val7
public import proofs.«01_k».proof.Pre_spread_covers

@[expose] public section

noncomputable section

namespace Cert.Proof.PackV

open Cert.ReferenceIdeal Cert.ReferenceIdeal.Read
open Idealize.ShloMosaic Idealize.ShloMosaic.Tactic
open Cert.Proof.KernelIdeal (bx MX MN scaleS zeroS SC ZR FL)
open Cert.Proof.RefV Cert.Proof.ArithV

variable (x : S1x2048x12288.Idx → EReal)

/-- The reference's zero points. -/
theorem v13_apply (R : Fin 2048) (r : Fin 192) :
    val_main_v13 (F := Ideal) x (ix3 (0 : Fin 1) R r)
      = zeroS (MX (blks x (R.val / 256)) (R.val % 256) (64 * r.val)) (MN (blks x (R.val / 256)) (R.val % 256) (64 * r.val)) := by
  unfold zeroS
  rw [val_main_v13_apply, val_main_call2_v4_apply, val_main_call2_v3_apply, val_main_cst_5_apply, val_main_call2_v2_apply,
    val_main_call2_v1_apply, val_main_call2_v0_apply, val_main_cst_4_apply, val_main_v12_apply, val_main_v11_apply, val_main_v10_apply, v9_apply]
  unfold SC
  rw [← v3_apply, ← v2_apply]
  generalize val_main_v3 (F := Ideal) x (ix3 (0 : Fin 1) R r) = y
  generalize val_main_v2 (F := Ideal) x (ix3 (0 : Fin 1) R r) = z
  have hs := scaleS_ne y z
  generalize scaleS y z = s at hs
  pointwise []
  unfold Ideal.div
  rw [if_neg hs, if_neg hs, one_mul, zero_sub]

/-- The reference's codes. -/
theorem v22_apply (R : Fin 2048) (r : Fin 192) (j : Fin 64) :
    val_main_v22 (F := Ideal) x (ix4 (0 : Fin 1) R r j)
      = codeR (bx (blks x (R.val / 256)) (R.val % 256) (64 * r.val + j.val)) (MX (blks x (R.val / 256)) (R.val % 256) (64 * r.val)) (MN (blks x (R.val / 256)) (R.val % 256) (64 * r.val)) := by
  unfold codeR
  rw [val_main_v22_apply, val_main_v21_apply, val_main_call4_v4_apply, val_main_call4_v3_apply, val_main_cst_7_apply, val_main_call4_v2_apply,
    val_main_call4_v1_apply, val_main_call4_v0_apply, val_main_cst_6_apply, val_main_v20_apply, val_main_v19_apply, val_main_v18_apply, val_main_v17_apply,
    val_main_v16_apply, val_main_v15_apply, val_main_v14_apply]
  rw [show idx_main_v14 (idx_main_v15 (ix4 (0 : Fin 1) R r j)) = ix3 (0 : Fin 1) R r from by funext a; match a with | ⟨0, _⟩ => rfl | ⟨1, _⟩ => rfl | ⟨2, _⟩ => rfl]
  rw [show idx_main_v18 (idx_main_v19 (ix4 (0 : Fin 1) R r j)) = ix3 (0 : Fin 1) R r from by funext a; match a with | ⟨0, _⟩ => rfl | ⟨1, _⟩ => rfl | ⟨2, _⟩ => rfl]
  rw [v13_apply, v9_apply, v1_apply, ← c15]
  unfold SC
  generalize zeroS _ _ = y
  generalize scaleS _ _ = z
  generalize bx _ _ _ = w
  pointwise []
  rfl

/-- The reference's packed codes. -/
theorem v29_apply (R : Fin 2048) (C : Fin 6144) :
    val_main_v29 (F := Ideal) x (ix3 (0 : Fin 1) R C)
      = byteR (codeR (bx (blks x (R.val / 256)) (R.val % 256) (2 * C.val)) (MX (blks x (R.val / 256)) (R.val % 256) (64 * (C.val / 32))) (MN (blks x (R.val / 256)) (R.val % 256) (64 * (C.val / 32))))
          (codeR (bx (blks x (R.val / 256)) (R.val % 256) (2 * C.val + 1)) (MX (blks x (R.val / 256)) (R.val % 256) (64 * (C.val / 32))) (MN (blks x (R.val / 256)) (R.val % 256) (64 * (C.val / 32)))) := by
  have hC := C.isLt
  have e0 := v22_apply x R (⟨C.val / 32, by omega⟩ : Fin 192) (⟨2 * C.val % 64, by omega⟩ : Fin 64)
  have e1 := v22_apply x R (⟨C.val / 32, by omega⟩ : Fin 192) (⟨(2 * C.val + 1) % 64, by omega⟩ : Fin 64)
  rw [show 64 * (⟨C.val / 32, by omega⟩ : Fin 192).val + (⟨2 * C.val % 64, by omega⟩ : Fin 64).val = 2 * C.val from by show 64 * (C.val / 32) + 2 * C.val % 64 = 2 * C.val; omega] at e0
  rw [show 64 * (⟨C.val / 32, by omega⟩ : Fin 192).val + (⟨(2 * C.val + 1) % 64, by omega⟩ : Fin 64).val = 2 * C.val + 1 from by show 64 * (C.val / 32) + (2 * C.val + 1) % 64 = 2 * C.val + 1; omega] at e1
  rw [← e0, ← e1, val_main_v29_apply, val_main_v28_apply, val_main_v26_apply, val_main_v25_apply]
  have h0 : val_main_v24 (F := Ideal) x (ix3 (0 : Fin 1) R C) = val_main_v22 (F := Ideal) x (ix4 (0 : Fin 1) R (⟨C.val / 32, by omega⟩ : Fin 192) (⟨2 * C.val % 64, by omega⟩ : Fin 64)) := by
    unfold val_main_v24 val_main_v23
    generalize val_main_v22 (F := Ideal) x = y
    pointwise []
    congr 1
    funext a
    match a with
    | ⟨0, _⟩ => rfl
    | ⟨1, _⟩ => exact Fin.ext (by simp; try omega)
    | ⟨2, _⟩ => exact Fin.ext (by simp; try omega)
    | ⟨3, _⟩ => exact Fin.ext (by simp; try omega)
  have h1 : val_main_v27 (F := Ideal) x (ix3 (0 : Fin 1) R C) = val_main_v22 (F := Ideal) x (ix4 (0 : Fin 1) R (⟨C.val / 32, by omega⟩ : Fin 192) (⟨(2 * C.val + 1) % 64, by omega⟩ : Fin 64)) := by
    unfold val_main_v27 val_main_v23
    generalize val_main_v22 (F := Ideal) x = y
    pointwise []
    congr 1
    funext a
    match a with
    | ⟨0, _⟩ => rfl
    | ⟨1, _⟩ => exact Fin.ext (by simp; try omega)
    | ⟨2, _⟩ => exact Fin.ext (by simp; try omega)
    | ⟨3, _⟩ => exact Fin.ext (by simp; try omega)
  rw [h0, h1]
  unfold byteR IntOp.shli
  rfl

/-- The side conditions of the precondition's operations. -/
instance pre_facts : Cert.Pre_spread_covers.Facts where
  bitsLt_bf16_f32 := Cert.ReferenceIdeal.Gen.facts.bitsLt_bf16_f32
  shapeCasts_S1x2048x12288_S1x2048x192x64 := Cert.ReferenceIdeal.Gen.facts.shapeCasts_S1x2048x12288_S1x2048x192x64
  reducesTo_S1x2048x192x64_S1x2048x192_d3 := Cert.ReferenceIdeal.Gen.facts.reducesTo_S1x2048x192x64_S1x2048x192_d3
  h_S_ := Cert.ReferenceIdeal.Gen.facts.h_S_
  bcast_S_S1x2048x192 := Cert.ReferenceIdeal.Gen.facts.bcast_S_S1x2048x192

theorem c512 : Ideal.ofBits .f32 0x44000000#32 = ((512 : ℝ) : EReal) := by simp [Ideal.ofBits, Ideal.ieee, -EReal.coe_mul]; norm_num

theorem absf_eq (a : EReal) : FloatOps.absf (F := Ideal) (φ := .f32) a = max a (-a) := rfl

theorem ori_one (p q : Prop) [Decidable p] [Decidable q] (h : IntOp.ori (BitVec.ofBool (decide p)) (BitVec.ofBool (decide q)) = 1#1) : p ∨ q := by
  by_cases hp : p
  · exact Or.inl hp
  by_cases hq : q
  · exact Or.inr hq
  rw [decide_eq_false hp, decide_eq_false hq] at h
  exact absurd h (by decide)

theorem tail (mx mn : EReal)
    (h : IntOp.ori (BitVec.ofBool (decide (mx = mn))) (BitVec.ofBool (decide (max (FloatOps.absf (F := Ideal) (φ := .f32) mx) (FloatOps.absf (F := Ideal) (φ := .f32) mn)
      ≤ ((512 : ℝ) : EReal) * (mx - mn)))) = 1#1) :
    mx = mn ∨ (mx ≤ ((512 : ℝ) : EReal) * (mx - mn) ∧ -mn ≤ ((512 : ℝ) : EReal) * (mx - mn)) := by
  rcases ori_one _ _ h with h | h
  · exact Or.inl h
  · rw [absf_eq, absf_eq] at h
    generalize ((512 : ℝ) : EReal) * (mx - mn) = w at h
    exact Or.inr ⟨(le_max_left mx (-mx)).trans ((le_max_left _ _).trans h), (le_max_right mn (-mn)).trans ((le_max_right _ _).trans h)⟩

theorem pre_form : Cert.Pre_spread_covers.fn (F := Ideal) x
      = ori (cmpf (F := Ideal) (φ := .f32) .oeq (val_main_v3 (F := Ideal) x) (val_main_v2 (F := Ideal) x))
          (cmpf (F := Ideal) (φ := .f32) .ole (maximumf (F := Ideal) (φ := .f32) (Host.absf (F := Ideal) (φ := .f32) (val_main_v3 (F := Ideal) x)) (Host.absf (F := Ideal) (φ := .f32) (val_main_v2 (F := Ideal) x)))
            (mulf (F := Ideal) (φ := .f32) (broadcastInDim S1x2048x192 ![] pre_facts.bcast_S_S1x2048x192 (constant S_ .f32 0x44000000#32)) (subf (F := Ideal) (φ := .f32) (val_main_v3 (F := Ideal) x) (val_main_v2 (F := Ideal) x)))) := rfl

theorem pre_read (y z : FVec Ideal S1x2048x192 .f32) (b : S_.BroadcastsInDim S1x2048x192 (![] : Fin 0 → Fin S1x2048x192.rank)) (R : Fin 2048) (r : Fin 192) (mx mn : EReal)
    (hy : y (ix3 (0 : Fin 1) R r) = mx) (hz : z (ix3 (0 : Fin 1) R r) = mn) :
    ori (cmpf (F := Ideal) .oeq y z) (cmpf (F := Ideal) .ole (maximumf (F := Ideal) (Host.absf y) (Host.absf z))
        (mulf (F := Ideal) (broadcastInDim S1x2048x192 ![] b (constant S_ .f32 0x44000000#32)) (subf (F := Ideal) y z))) (ix3 (0 : Fin 1) R r)
      = IntOp.ori (BitVec.ofBool (decide (mx = mn))) (BitVec.ofBool (decide (max (FloatOps.absf (F := Ideal) (φ := .f32) mx) (FloatOps.absf (F := Ideal) (φ := .f32) mn)
          ≤ Ideal.ofBits .f32 0x44000000#32 * (mx - mn)))) := by
  pointwise [hy, hz]

/-- The precondition, block by block: the elements are all the same, or none is larger than 512 spreads. -/
theorem pre_apply (h : Cert.Pre_spread_covers.fn (F := Ideal) x = fun _ => 1#1) (R : Fin 2048) (r : Fin 192) :
    MX (blks x (R.val / 256)) (R.val % 256) (64 * r.val) = MN (blks x (R.val / 256)) (R.val % 256) (64 * r.val) ∨
      (MX (blks x (R.val / 256)) (R.val % 256) (64 * r.val)
          ≤ ((512 : ℝ) : EReal) * (MX (blks x (R.val / 256)) (R.val % 256) (64 * r.val) - MN (blks x (R.val / 256)) (R.val % 256) (64 * r.val))
        ∧ -MN (blks x (R.val / 256)) (R.val % 256) (64 * r.val)
          ≤ ((512 : ℝ) : EReal) * (MX (blks x (R.val / 256)) (R.val % 256) (64 * r.val) - MN (blks x (R.val / 256)) (R.val % 256) (64 * r.val))) := by
  have h' := congrFun ((pre_form x).symm.trans h) (ix3 (0 : Fin 1) R r)
  rw [pre_read _ _ _ R r _ _ (v3_apply x R r) (v2_apply x R r), c512] at h'
  exact tail _ _ h'

/-- A packed byte of the kernel's: two codes. -/
theorem PB_eq (d : Cert.KernelIdeal.S1x256x12288.Idx → EReal) (R C : ℕ)
    (hp : MX d R (64 * (C / 32)) = MN d R (64 * (C / 32)) ∨ (MX d R (64 * (C / 32)) ≤ ((512 : ℝ) : EReal) * (MX d R (64 * (C / 32)) - MN d R (64 * (C / 32)))
      ∧ -MN d R (64 * (C / 32)) ≤ ((512 : ℝ) : EReal) * (MX d R (64 * (C / 32)) - MN d R (64 * (C / 32))))) :
    Cert.Proof.KernelIdeal.PB d R C
      = byteR (codeR (bx d R (2 * C)) (MX d R (64 * (C / 32))) (MN d R (64 * (C / 32)))) (codeR (bx d R (2 * C + 1)) (MX d R (64 * (C / 32))) (MN d R (64 * (C / 32)))) := by
  unfold Cert.Proof.KernelIdeal.PB Cert.Proof.KernelIdeal.blockW
  have hb : ∀ e, e < 8 → 8 * (C % 32 / 4) + e < 64 := fun e he => by omega
  rw [word_bytes _ _ _ (fun e he => ?_) (fun e he => ?_) hp (C % 4) (by omega)]
  · rw [show 64 * (C / 32) + (8 * (C % 32 / 4) + 2 * (C % 4)) = 2 * C by omega, show 64 * (C / 32) + (8 * (C % 32 / 4) + (2 * (C % 4) + 1)) = 2 * C + 1 by omega]
  · exact iInf_le (fun j : Fin 64 => bx d R (64 * (C / 32) + j.val)) ⟨8 * (C % 32 / 4) + e, hb e he⟩
  · exact le_iSup (fun j : Fin 64 => bx d R (64 * (C / 32) + j.val)) ⟨8 * (C % 32 / 4) + e, hb e he⟩

/-- The kernel's packed codes are the reference's. -/
theorem packed_eq (h : Cert.Pre_spread_covers.fn (F := Ideal) x = fun _ => 1#1) (R : Fin 2048) (C : Fin 6144) :
    Cert.Proof.KernelIdeal.PB (blks x (R.val / 256)) (R.val % 256) C.val = val_main_v29 (F := Ideal) x (ix3 (0 : Fin 1) R C) := by
  have hC := C.isLt
  rw [v29_apply]
  exact PB_eq _ _ _ (pre_apply x h R (⟨C.val / 32, by omega⟩ : Fin 192))

end Cert.Proof.PackV

end
-- ==== Proof.LaunchV.lean ====
/- The kernel's run with its values: what the result arrays hold at the end. -/
module

public import proofs.«01_k».proof.Proof.BodyV
public import Idealize.ShloMosaic.Lib.Pipeline.DatRel
public import Idealize.ShloMosaic.Lib.Pipeline.ArrRel

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

local notation "𝕄" => MT nD τ sig Unit (Elt Ideal) ℕ (UR sig nD τ) ℕ

variable (m : (ℓ : Loc nD τ sig) → Buf (Elt Ideal) ℓ) (ρ : Dev nD → PrngReg)

/-- The block of weights of each point. -/
def blkOf (c : Dev nD) (t : ℕ) : S1x256x12288.Idx → EReal := if h : t < cfg0.N then iblk m c 0 ⟨t, h⟩ else fun _ => 0

theorem blkOf_val (c : Dev nD) (t : Fin cfg0.N) : blkOf m c t.val = iblk m c 0 t := dif_pos t.isLt

/-- What is known of the scratch buffers before a point. -/
def PhiV (c : Dev nD) (t : ℕ) : sProp 𝕄 :=
  iprop(((∃ d, ⌜t ≠ 0 → IsPerm d⌝ ∗ owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, ⌜P20 (blkOf m c) t d⌝ ∗ owns (c : Thread nD τ) (Memref.whole cc0_scratch12) fullShare d) ∗ (∃ d, ⌜P21 (blkOf m c) t d⌝ ∗ owns (c : Thread nD τ) (Memref.whole cc0_scratch13) fullShare d)) ∗ (∃ r, prngReg c r))

/-- The proof data: each array as launched, the block of weights left in place, the scratch buffers as `PhiV` says. -/
def datsV (_ : Fin 1) (c : Dev nD) : Dat τ (Elt Ideal) Unit ℕ (UR sig nD τ) ℕ cfg0 c where
  A w := V m c (Pipeline.arrRef spec0 w)
  after := Function.update (fun w t => Pipeline.Dat.unnamed (cfg := cfg0) w t) 0 (fun t => iblk m c 0 t)
  Φ t := PhiV m c t.val
  q _ := fullShare
  owed _ := 0

/-- The windows of the results. -/
def marks : Fin 7 → Bool := ![false, true, true, true, true, true, true]

/-- What the body leaves in each result's window at each point. -/
def leftV (c : Dev nD) : (w : Fin cfg0.W) → Fin cfg0.N → ((cfg0.win w).block.Idx → Elt Ideal (cfg0.win w).elt) → Prop
  | 0 => fun _ _ => True
  | 1 => fun t X => X = PBO (blkOf m c t.val)
  | 2 => fun t X => X = SCO (blkOf m c t.val)
  | 3 => fun t X => X = ZRO (blkOf m c t.val)
  | 4 => fun t X => t.val = 7 → X = CDO (blkOf m c)
  | 5 => fun t X => t.val = 7 → X = k0_pay445 (F := Ideal) (VA (blkOf m c)) (VB (blkOf m c))
  | 6 => fun t X => t.val = 7 → X = fun _ => k0_pay442 (F := Ideal) (VA (blkOf m c)) (VB (blkOf m c))

/-- A point's one coordinate is its number. -/
theorem coord_val : ∀ t : Fin cfg0.N, (cfg0.grid.coords t 0).val = t.val := by decide

/-- What the body is called with at a point, and what it hands back. -/
def bodyPreV (c : Dev nD) (t : Fin cfg0.N) : sProp 𝕄 :=
  iprop((datsV m 0 c).Φ t.castSucc ∗ (datsV m 0 c).owesAt () t.castSucc ∗ (∃ d, owns (c : Thread nD τ) (win0_0.stage (cfg0.slots t 0)) fullShare ((datsV m 0 c).before 0 t d)) ∗ (∃ Y, ⌜((datsV m 0 c).toRRel marks (leftV m c)).Finds 1 t Y⌝ ∗ owns (c : Thread nD τ) (win0_1.stage (cfg0.slots t 1)) fullShare Y) ∗ (∃ Y, ⌜((datsV m 0 c).toRRel marks (leftV m c)).Finds 2 t Y⌝ ∗ owns (c : Thread nD τ) (win0_2.stage (cfg0.slots t 2)) fullShare Y) ∗ (∃ Y, ⌜((datsV m 0 c).toRRel marks (leftV m c)).Finds 3 t Y⌝ ∗ owns (c : Thread nD τ) (win0_3.stage (cfg0.slots t 3)) fullShare Y) ∗ (∃ Y, ⌜((datsV m 0 c).toRRel marks (leftV m c)).Finds 4 t Y⌝ ∗ owns (c : Thread nD τ) (win0_4.stage (cfg0.slots t 4)) fullShare Y) ∗ (∃ Y, ⌜((datsV m 0 c).toRRel marks (leftV m c)).Finds 5 t Y⌝ ∗ owns (c : Thread nD τ) (win0_5.stage (cfg0.slots t 5)) fullShare Y) ∗ (∃ Y, ⌜((datsV m 0 c).toRRel marks (leftV m c)).Finds 6 t Y⌝ ∗ owns (c : Thread nD τ) (win0_6.stage (cfg0.slots t 6)) fullShare Y))
def bodyPostV (c : Dev nD) (t : Fin cfg0.N) : sProp 𝕄 :=
  iprop((datsV m 0 c).Φ t.succ ∗ (datsV m 0 c).owesAt () t.succ ∗ owns (c : Thread nD τ) (win0_0.stage (cfg0.slots t 0)) fullShare ((datsV m 0 c).after 0 t) ∗ (∃ X, ⌜leftV m c 1 t X⌝ ∗ owns (c : Thread nD τ) (win0_1.stage (cfg0.slots t 1)) fullShare X) ∗ (∃ X, ⌜leftV m c 2 t X⌝ ∗ owns (c : Thread nD τ) (win0_2.stage (cfg0.slots t 2)) fullShare X) ∗ (∃ X, ⌜leftV m c 3 t X⌝ ∗ owns (c : Thread nD τ) (win0_3.stage (cfg0.slots t 3)) fullShare X) ∗ (∃ X, ⌜leftV m c 4 t X⌝ ∗ owns (c : Thread nD τ) (win0_4.stage (cfg0.slots t 4)) fullShare X) ∗ (∃ X, ⌜leftV m c 5 t X⌝ ∗ owns (c : Thread nD τ) (win0_5.stage (cfg0.slots t 5)) fullShare X) ∗ (∃ X, ⌜leftV m c 6 t X⌝ ∗ owns (c : Thread nD τ) (win0_6.stage (cfg0.slots t 6)) fullShare X))

/-- The body leaves the block of weights in place. -/
theorem after_zero (c : Dev nD) (t : Fin cfg0.N) : (datsV m 0 c).after 0 t = iblk m c 0 t := by
  rfl

/-- The body at a point, between the two. -/
theorem sound_value (c : Dev nD) (t : Fin cfg0.N) :
    bodyPreV m c t ⊢ wp frame (wpE (defs₀ (F := Ideal)) Variants.none c none) Set.univ (bodyAt0 t) (fun _ => bodyPostV m c t) := by
  have hb : ∀ d, (datsV m 0 c).before 0 t d = blkOf m c (cfg0.grid.coords t 0).val := fun d => by
    rw [coord_val, blkOf_val]
    exact before0_0_of m (datsV m 0 c) rfl (after_zero m c) t d
  have ha : (datsV m 0 c).after 0 t = blkOf m c (cfg0.grid.coords t 0).val := by
    rw [coord_val, blkOf_val]
    exact after_zero m c t
  unfold bodyPreV bodyPostV
  rw [show (datsV m 0 c).Φ t.succ = PhiV m c (t.val + 1) from rfl,
    show (datsV m 0 c).owesAt () t.succ = (datsV m 0 c).owesAt () t.castSucc from rfl,
    show (datsV m 0 c).Φ t.castSucc = PhiV m c t.val from rfl, ha]
  simp only [hb]
  unfold PhiV owns
  simp only [leftV, ← coord_val t]
  iintro ⟨⟨⟨⟨%d8, %p8, %f8, %e8, HS8⟩, ⟨%d9, %f9, -, HS9⟩, ⟨%d10, %f10, -, HS10⟩, ⟨%d11, %f11, -, HS11⟩, ⟨%d12, %f12, -, HS12⟩, ⟨%d13, %f13, -, HS13⟩, ⟨%d14, %f14, -, HS14⟩, ⟨%d15, %f15, -, HS15⟩, ⟨%d16, %f16, -, HS16⟩, ⟨%d17, %f17, -, HS17⟩, ⟨%d18, %f18, -, HS18⟩, ⟨%d19, %f19, -, HS19⟩, ⟨%d20, %p20, %f20, %e20, HS20⟩, ⟨%d21, %p21, %f21, %e21, HS21⟩⟩, Hg⟩, HO, ⟨%d1, %f1, %e1, H1⟩, ⟨%d2, -, %f2, -, H2⟩, ⟨%d3, -, %f3, -, H3⟩, ⟨%d4, -, %f4, -, H4⟩, ⟨%d5, -, %f5, -, H5⟩, ⟨%d6, -, %f6, -, H6⟩, ⟨%d7, -, %f7, -, H7⟩⟩
  subst e8 e20 e21
  iapply (kernelRunV c _ _ _ _ _ _ _ _ _ _ _ _ _ _ _ _ _ _ _ _ _ _ _ _ _ _ _ _ _ _ _ _ _ _ _ _ _ _ _ _ _ _ _ (blkOf m c) f1 e1)
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS8]
  · iexists f8
    isplitr; swap; · iexact HS8
    ipureintro; exact p8
  isplitl [HS9]; · iexists f9; iexact HS9
  isplitl [HS10]; · iexists f10; iexact HS10
  isplitl [HS11]; · iexists f11; iexact HS11
  isplitl [HS12]; · iexists f12; iexact HS12
  isplitl [HS13]; · iexists f13; iexact HS13
  isplitl [HS14]; · iexists f14; iexact HS14
  isplitl [HS15]; · iexists f15; iexact HS15
  isplitl [HS16]; · iexists f16; iexact HS16
  isplitl [HS17]; · iexists f17; iexact HS17
  isplitl [HS18]; · iexists f18; iexact HS18
  isplitl [HS19]; · iexists f19; iexact HS19
  isplitl [HS20]
  · iexists f20
    isplitr; swap; · iexact HS20
    ipureintro; exact p20
  isplitl [HS21]
  · iexists f21
    isplitr; swap; · iexact HS21
    ipureintro; exact p21
  iintro ⟨H1, ⟨%g2, %q2, H2⟩, ⟨%g3, %q3, H3⟩, ⟨%g4, %q4, H4⟩, ⟨%g5, %q5, H5⟩, ⟨%g6, %q6, H6⟩, ⟨%g7, %q7, H7⟩, ⟨%g8, %q8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, %q20, H20⟩, ⟨%g21, %q21, H21⟩⟩
  isplitl [H8 H9 H10 H11 H12 H13 H14 H15 H16 H17 H18 H19 H20 H21 Hg]
  · isplitr [Hg]
    · isplitl [H8]
      · iexists _
        isplitr
        · ipureintro; intro _; exact q8
        iexists _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [H19]
      · iexists _, _; isplitr; swap; · iexact H19
        ipureintro; rfl
      isplitl [H20]
      · iexists _
        isplitr
        · ipureintro; exact q20
        iexists _; isplitr; swap; · iexact H20
        ipureintro; rfl
      iexists _
      isplitr
      · ipureintro; exact q21
      iexists _; isplitr; swap; · iexact H21
      ipureintro; rfl
    iexact Hg
  isplitl [HO]; · iexact HO
  isplitl [H1]
  · iexists _; isplitr; swap; · iexact H1
    ipureintro; exact e1
  isplitl [H2]
  · iexists _
    isplitr
    · ipureintro; exact q2
    iexists _; isplitr; swap; · iexact H2
    ipureintro; rfl
  isplitl [H3]
  · iexists _
    isplitr
    · ipureintro; exact q3
    iexists _; isplitr; swap; · iexact H3
    ipureintro; rfl
  isplitl [H4]
  · iexists _
    isplitr
    · ipureintro; exact q4
    iexists _; isplitr; swap; · iexact H4
    ipureintro; rfl
  isplitl [H5]
  · iexists _
    isplitr
    · ipureintro; exact q5
    iexists _; isplitr; swap; · iexact H5
    ipureintro; rfl
  isplitl [H6]
  · iexists _
    isplitr
    · ipureintro; exact q6
    iexists _; isplitr; swap; · iexact H6
    ipureintro; rfl
  iexists _
  isplitr
  · ipureintro; exact q7
  iexists _; isplitr; swap; · iexact H7
  ipureintro; rfl

/-- The pipeline's body obligation with the results' windows held to `leftV`. -/
theorem value_obligation (c : Dev nD) :
    BodyObligationRel (datsV m 0 c) (defs₀ (F := Ideal)) Variants.none () Set.univ marks (leftV m c) := fun t => by
  rw [bigSep_W0, bigSep_W0, defs₀_row]
  exact triple_restated (sound_value m c t) rfl .rfl fun _ => .rfl

end Cert.Proof.KernelIdeal

end
-- ==== Proof.ResultV.lean ====
/- What the result arrays hold after the kernel's run. -/
module

public import proofs.«01_k».proof.Proof.LaunchV

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationRel)

local notation "𝕄" => MT nD τ sig Unit (Elt Ideal) ℕ (UR sig nD τ) ℕ

variable (m : (ℓ : Loc nD τ sig) → Buf (Elt Ideal) ℓ) (ρ : Dev nD → PrngReg)

/-- Before the first point the scratch buffers may hold anything. -/
theorem phi_first (c : Dev nD) : Pipeline.ΦA spec0 c ⊢ PhiV m c 0 := by
  rw [PhiA_eq]
  unfold PhiV
  iintro ⟨⟨⟨%d8, H8⟩, H9, H10, H11, H12, H13, H14, H15, H16, H17, H18, H19, ⟨%d20, H20⟩, ⟨%d21, H21⟩⟩, Hg⟩
  isplitr [Hg]; swap; · iexact Hg
  isplitl [H8]
  · iexists d8; isplitr; swap; · iexact H8
    ipureintro; intro h; exact absurd rfl h
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · iexists d20; isplitr; swap; · iexact H20
    ipureintro; exact P20_zero _ _
  iexists d21; isplitr; swap; · iexact H21
  ipureintro; exact P21_zero _ _

/-- After the last point what they hold is forgotten. -/
theorem phi_last (c : Dev nD) (t : ℕ) : PhiV m c t ⊢ Pipeline.ΦA spec0 c := by
  rw [PhiA_eq]
  unfold PhiV
  iintro ⟨⟨⟨%d8, -, H8⟩, H9, H10, H11, H12, H13, H14, H15, H16, H17, H18, H19, ⟨%d20, -, H20⟩, ⟨%d21, -, H21⟩⟩, Hg⟩
  isplitr [Hg]; swap; · iexact Hg
  isplitl [H8]; · iexists d8; iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists d20; iexact H20
  iexists d21; iexact H21

/-- The proof data with the results' windows held to `leftV`. -/
abbrev rdatV (c : Dev nD) : Pipeline.RDat τ (Elt Ideal) Unit ℕ (UR sig nD τ) ℕ cfg0 c := (datsV m 0 c).toRRel marks (leftV m c)

set_option backward.isDefEq.respectTransparency.types false in
/-- The run with its values: every flushed block is one the body may have left. -/
theorem run_value :
    θ_run defs (onTc (τ := τ) (main (F := Ideal))) (s₀ m ρ)
      (fun r => Pipeline.RDat.FramePost (cfgs 0) (rdatV m) (V m) r ∧ r.2.sem = fun _ => 0) :=
  Pipeline.RDat.θ_run_frame_track (Q' := _) cfgs (0 : Fin 1) launch0 defs₀ Variants.none (rdatV m) m ρ main
    (hbody := fun c => (value_obligation m c).toRRel) (hshare := fun c => (datsV m 0 c).share_full fun _ => rfl)
    (howed := fun _ _ => rfl) (V := V m) (hmain := hmain m Variants.none) (hA := fun _ _ => rfl)
    (hin := fun c => phi_first m c) (hout := fun c => phi_last m c _)

/-- The scales the run leaves. -/
def scalesG (c : Dev nD) : S1x2048x192.Idx → EReal := fun i => SC (blkOf m c ((i 1).val / 256)) (i 2).val ((i 1).val % 256)

/-- The zero points the run leaves. -/
def zerosG (c : Dev nD) : S1x2048x192.Idx → BitVec 8 := fun i => BitVec.setWidth 8 (ZR (blkOf m c ((i 1).val / 256)) (i 2).val ((i 1).val % 256))

/-- The blocks' places: the rows of point `t` start at row `256 * t`. -/
theorem index_row : ∀ t : Fin cfg0.N, win0_0.index t 1 = t.val ∧ win0_0.index t 2 = 0 ∧ win0_2.index t 1 = t.val ∧ win0_2.index t 2 = 0
    ∧ win0_3.index t 1 = t.val ∧ win0_3.index t 2 = 0 := by decide

theorem index_packed : ∀ t : Fin cfg0.N, win0_1.index t 1 = t.val ∧ win0_1.index t 2 = 0 := by decide

theorem index_zero : ∀ t : Fin cfg0.N, win0_0.index t 0 = 0 := by decide

/-- The scales' array. -/
theorem scales_eq {r : PUnit × MemSt nD τ sig (Elt Ideal)} (h : Pipeline.RDat.FramePost cfg0 (rdatV m) (V m) r) (c : Dev nD) :
    r.2.mem ((c.tc : Thread nD τ).loc main_v0_1) = scalesG m c := by
  obtain ⟨after, hL, hA⟩ := Pipeline.RDat.FramePost.exists_exact h c
  refine (hA 2).trans ?_
  refine Dat.arrAt_eq_of_covers _ 2 _ (by decide +kernel) fun t hf y => ?_
  have e : after 2 t = SCO (blkOf m c t.val) := (datsV m 0 c).toRRel_leaves (fgt := marks) (w := 2) rfl (hL 2 t hf)
  refine (congrFun e _).trans ?_
  unfold SCO scalesG
  blk_simp
  have h1 : (y 1).val < 256 := (y 1).isLt
  obtain ⟨-, -, h2, h3, -, -⟩ := index_row t
  rw [h2, h3, show (t.val * 256 + (y 1).val) / 256 = t.val by omega, show (t.val * 256 + (y 1).val) % 256 = (y 1).val by omega,
    show 0 * 192 + (y 2).val = (y 2).val by omega]

/-- The zero points' array. -/
theorem zeros_eq {r : PUnit × MemSt nD τ sig (Elt Ideal)} (h : Pipeline.RDat.FramePost cfg0 (rdatV m) (V m) r) (c : Dev nD) :
    r.2.mem ((c.tc : Thread nD τ).loc main_v0_2) = zerosG m c := by
  obtain ⟨after, hL, hA⟩ := Pipeline.RDat.FramePost.exists_exact h c
  refine (hA 3).trans ?_
  refine Dat.arrAt_eq_of_covers _ 3 _ (by decide +kernel) fun t hf y => ?_
  have e : after 3 t = ZRO (blkOf m c t.val) := (datsV m 0 c).toRRel_leaves (fgt := marks) (w := 3) rfl (hL 3 t hf)
  refine (congrFun e _).trans ?_
  unfold ZRO zerosG
  blk_simp
  have h1 : (y 1).val < 256 := (y 1).isLt
  obtain ⟨-, -, -, -, h2, h3⟩ := index_row t
  rw [h2, h3, show (t.val * 256 + (y 1).val) / 256 = t.val by omega, show (t.val * 256 + (y 1).val) % 256 = (y 1).val by omega,
    show 0 * 192 + (y 2).val = (y 2).val by omega]

/-- The packed codes the run leaves. -/
def packedG (c : Dev nD) : S1x2048x6144.Idx → BitVec 8 := fun i => PB (blkOf m c ((i 1).val / 256)) ((i 1).val % 256) (i 2).val

/-- The packed codes' array. -/
theorem packed_eq {r : PUnit × MemSt nD τ sig (Elt Ideal)} (h : Pipeline.RDat.FramePost cfg0 (rdatV m) (V m) r) (c : Dev nD) :
    r.2.mem ((c.tc : Thread nD τ).loc main_v0_0) = packedG m c := by
  obtain ⟨after, hL, hA⟩ := Pipeline.RDat.FramePost.exists_exact h c
  refine (hA 1).trans ?_
  refine Dat.arrAt_eq_of_covers _ 1 _ (by decide +kernel) fun t hf y => ?_
  have e : after 1 t = PBO (blkOf m c t.val) := (datsV m 0 c).toRRel_leaves (fgt := marks) (w := 1) rfl (hL 1 t hf)
  refine (congrFun e _).trans ?_
  unfold PBO packedG
  blk_simp
  have h1 : (y 1).val < 256 := (y 1).isLt
  obtain ⟨h2, h3⟩ := index_packed t
  rw [h2, h3, show (t.val * 256 + (y 1).val) / 256 = t.val by omega, show (t.val * 256 + (y 1).val) % 256 = (y 1).val by omega,
    show 0 * 6144 + (y 2).val = (y 2).val by omega]

/-- A point's block of weights, by elements of the argument. -/
theorem blkOf_apply (c : Dev nD) (t : ℕ) (ht : t < 8) (R : ℕ) (hR : R < 256) (C : ℕ) (hC : C < 12288) :
    blkOf m c t (ix3 (0 : Fin 1) (⟨R, hR⟩ : Fin 256) (⟨C, hC⟩ : Fin 12288))
      = m ((c.tc : Thread nD τ).loc main_arg0) (ix3 (0 : Fin 1) (⟨256 * t + R, by omega⟩ : Fin 2048) (⟨C, hC⟩ : Fin 12288)) := by
  rw [show blkOf m c t = _ from blkOf_val m c ⟨t, ht⟩]
  show V m c (Pipeline.arrRef spec0 0) (((cfg0.win 0).blk ⟨t, ht⟩).view.emb _) = _
  obtain ⟨h2, h3, -, -, -, -⟩ := index_row ⟨t, ht⟩
  refine congrArg (m ((c.tc : Thread nD τ).loc main_arg0)) (funext fun a => Fin.ext ?_)
  refine (win0_0.rect_emb_val ⟨t, ht⟩ _ a).trans ?_
  match a with
  | ⟨0, _⟩ =>
    show win0_0.index ⟨t, ht⟩ 0 * 1 + 0 = 0
    rw [index_zero]
  | ⟨1, _⟩ =>
    show win0_0.index ⟨t, ht⟩ 1 * 256 + R = 256 * t + R
    rw [h2]; show t * 256 + R = _; omega
  | ⟨2, _⟩ =>
    show win0_0.index ⟨t, ht⟩ 2 * 12288 + C = C
    rw [h3]; omega

theorem whole_4 : win0_4.WholeAt (⟨7, by decide⟩ : Fin cfg0.N) := by unfold Pipeline.Window.WholeAt; decide +kernel
theorem whole_5 : win0_5.WholeAt (⟨7, by decide⟩ : Fin cfg0.N) := by unfold Pipeline.Window.WholeAt; decide +kernel
theorem whole_6 : win0_6.WholeAt (⟨7, by decide⟩ : Fin cfg0.N) := by unfold Pipeline.Window.WholeAt; decide +kernel

/-- The codes, their scales and the mean the run leaves. -/
theorem late_eq {r : PUnit × MemSt nD τ sig (Elt Ideal)} (h : Pipeline.RDat.FramePost cfg0 (rdatV m) (V m) r) (c : Dev nD) :
    r.2.mem ((c.tc : Thread nD τ).loc main_v0_3) = CDO (blkOf m c)
    ∧ r.2.mem ((c.tc : Thread nD τ).loc main_v0_4) = k0_pay445 (F := Ideal) (VA (blkOf m c)) (VB (blkOf m c))
    ∧ r.2.mem ((c.tc : Thread nD τ).loc main_v0_5) = fun _ => k0_pay442 (F := Ideal) (VA (blkOf m c)) (VB (blkOf m c)) := by
  have hw := (h c).1
  refine ⟨?_, ?_, ?_⟩
  · obtain ⟨X, hX, hG⟩ := (hw 4).emb_eq_of_wholeAt whole_4
    have e : X = CDO (blkOf m c) := (datsV m 0 c).toRRel_leaves (fgt := marks) (w := 4) rfl hX rfl
    funext j
    refine (hG j).trans ?_
    rw [e]; rfl
  · obtain ⟨X, hX, hG⟩ := (hw 5).emb_eq_of_wholeAt whole_5
    have e : X = k0_pay445 (F := Ideal) (VA (blkOf m c)) (VB (blkOf m c)) := (datsV m 0 c).toRRel_leaves (fgt := marks) (w := 5) rfl hX rfl
    funext j
    refine (hG j).trans ?_
    rw [e]; rfl
  · obtain ⟨X, hX, hG⟩ := (hw 6).emb_eq_of_wholeAt whole_6
    have e : X = fun _ => k0_pay442 (F := Ideal) (VA (blkOf m c)) (VB (blkOf m c)) := (datsV m 0 c).toRRel_leaves (fgt := marks) (w := 6) rfl hX rfl
    funext j
    refine (hG j).trans ?_
    rw [e]; rfl

end Cert.Proof.KernelIdeal

end
-- ==== Proof.AlgV.lean ====
/- The kernel's result arrays are the reference's. -/
module

public import proofs.«01_k».proof.Proof.MatchV
public import proofs.«01_k».proof.Proof.PackV
public import proofs.«01_k».proof.Proof.ResultV

@[expose] public section

noncomputable section

namespace Cert.Proof.KernelIdeal

open Cert.KernelIdeal Cert.KernelIdeal.Gen
open Idealize.ShloMosaic Idealize.ShloMosaic.TcCoe
open Idealize.SL.Sem
open Cert.ReferenceIdeal.Read
open Cert.Proof.RefV (blks)

/-- An index whose first coordinate has one value, by its other two. -/
theorem eta_blk (i : S1x256x12288.Idx) : i = ix3 (0 : Fin 1) ((i 1).cast rfl : Fin 256) ((i 2).cast rfl : Fin 12288) := by
  funext a
  match a with
  | ⟨0, _⟩ => exact Subsingleton.elim (α := Fin 1) _ _
  | ⟨1, _⟩ => rfl
  | ⟨2, _⟩ => rfl

theorem eta_row (i : S1x2048x192.Idx) : i = ix3 (0 : Fin 1) ((i 1).cast rfl : Fin 2048) ((i 2).cast rfl : Fin 192) := by
  funext a
  match a with
  | ⟨0, _⟩ => exact Subsingleton.elim (α := Fin 1) _ _
  | ⟨1, _⟩ => rfl
  | ⟨2, _⟩ => rfl

variable (m : (ℓ : Loc nD τ sig) → Buf (Elt Ideal) ℓ) (ρ : Dev nD → PrngReg)

/-- The blocks of weights are the argument's rows in blocks of 256. -/
theorem blkOf_blks (c : Dev nD) : blkOf m c = blks (m ((c.tc : Thread nD τ).loc main_arg0)) := by
  funext t y
  have h1 : (y 1).val < 256 := (y 1).isLt
  by_cases ht : t < 8
  · rw [eta_blk y]
    refine (blkOf_apply m c t ht (y 1).val h1 (y 2).val (y 2).isLt).trans ?_
    unfold blks
    split
    · rfl
    · rename_i h
      exact absurd (show 256 * t + (y 1).val < 2048 by omega) h
  · refine (congrFun (dif_neg ht) y).trans ?_
    unfold blks
    split
    · rename_i h
      exact absurd h (show ¬ 256 * t + (y 1).val < 2048 by omega)
    · rfl

theorem scales_val (c : Dev nD) : scalesG m c = val_main_v9 (F := Ideal) (m ((c.tc : Thread nD τ).loc main_arg0)) := by
  funext i
  unfold scalesG
  rw [blkOf_blks]
  refine (Cert.Proof.RefV.v9_apply (m ((c.tc : Thread nD τ).loc main_arg0)) (i 1) (i 2)).symm.trans ?_
  exact congrArg _ (eta_row i).symm

theorem zeros_val (c : Dev nD) : zerosG m c = val_main_v31 (F := Ideal) (m ((c.tc : Thread nD τ).loc main_arg0)) := by
  funext i
  unfold zerosG
  rw [blkOf_blks]
  refine (congrArg (BitVec.setWidth 8) (Cert.Proof.RefV.v30_apply (m ((c.tc : Thread nD τ).loc main_arg0)) (i 1) (i 2)).symm).trans ?_
  refine (val_main_v31_apply (F := Ideal) (m ((c.tc : Thread nD τ).loc main_arg0)) _).symm.trans ?_
  exact congrArg _ (eta_row i).symm

theorem codes_val (c : Dev nD) : CDO (blkOf m c) = val_main_v47 (F := Ideal) (m ((c.tc : Thread nD τ).loc main_arg0)) := by
  funext i
  rw [blkOf_blks]
  have e : i = ix2 (i 0) (i 1) := funext fun a => match a with | ⟨0, _⟩ => rfl | ⟨1, _⟩ => rfl
  rw [e]
  exact Cert.Proof.MatchV.codes_eq _ (i 0) (i 1)

theorem s2_val (c : Dev nD) : k0_pay445 (F := Ideal) (VA (blkOf m c)) (VB (blkOf m c)) = val_main_v48 (F := Ideal) (m ((c.tc : Thread nD τ).loc main_arg0)) := by
  funext i
  rw [blkOf_blks]
  have e : i = ix2 (i 0) (0 : Fin 1) := funext fun a => match a with | ⟨0, _⟩ => rfl | ⟨1, _⟩ => Subsingleton.elim (α := Fin 1) _ _
  rw [e]
  refine (Cert.Proof.MatchV.s2_eq _ (i 0)).trans ?_
  refine Eq.trans ?_ (val_main_v48_apply (F := Ideal) _ _).symm
  refine congrArg _ (funext fun a => match a with | ⟨0, _⟩ => rfl)

theorem mean_val (c : Dev nD) : (fun _ => k0_pay442 (F := Ideal) (VA (blkOf m c)) (VB (blkOf m c))) = val_main_v49 (F := Ideal) (m ((c.tc : Thread nD τ).loc main_arg0)) := by
  funext i
  rw [blkOf_blks]
  refine (Cert.Proof.MatchV.mean_eq _).trans ?_
  refine Eq.trans ?_ (val_main_v49_apply (F := Ideal) _ _).symm
  refine congrArg _ (funext fun a => a.elim0)

theorem eta_packed (i : S1x2048x6144.Idx) : i = ix3 (0 : Fin 1) ((i 1).cast rfl : Fin 2048) ((i 2).cast rfl : Fin 6144) := by
  funext a
  match a with
  | ⟨0, _⟩ => exact Subsingleton.elim (α := Fin 1) _ _
  | ⟨1, _⟩ => rfl
  | ⟨2, _⟩ => rfl

theorem packed_val (c : Dev nD) (h : Cert.Pre_spread_covers.fn (F := Ideal) (m ((c.tc : Thread nD τ).loc main_arg0)) = fun _ => 1#1) :
    packedG m c = val_main_v29 (F := Ideal) (m ((c.tc : Thread nD τ).loc main_arg0)) := by
  funext i
  unfold packedG
  rw [blkOf_blks]
  refine (Cert.Proof.PackV.packed_eq (m ((c.tc : Thread nD τ).loc main_arg0)) h (i 1) (i 2)).trans ?_
  exact congrArg _ (eta_packed i).symm

/-- The run's results are the reference's values at the argument. -/
theorem results (hpre : ∀ c : Dev nD, Cert.Pre_spread_covers.fn (F := Ideal) (m ((c.tc : Thread nD τ).loc main_arg0)) = fun _ => 1#1) :
    θ_run defs (onTc (τ := τ) (main (F := Ideal))) ⟨m, fun _ => 0, ρ⟩ (fun r => ∀ c : Dev nD,
      r.2.mem ((c.tc : Thread nD τ).loc main_v0_0) = val_main_v29 (F := Ideal) (m ((c.tc : Thread nD τ).loc main_arg0))
      ∧ r.2.mem ((c.tc : Thread nD τ).loc main_v0_1) = val_main_v9 (F := Ideal) (m ((c.tc : Thread nD τ).loc main_arg0))
      ∧ r.2.mem ((c.tc : Thread nD τ).loc main_v0_2) = val_main_v31 (F := Ideal) (m ((c.tc : Thread nD τ).loc main_arg0))
      ∧ r.2.mem ((c.tc : Thread nD τ).loc main_v0_3) = val_main_v47 (F := Ideal) (m ((c.tc : Thread nD τ).loc main_arg0))
      ∧ r.2.mem ((c.tc : Thread nD τ).loc main_v0_4) = val_main_v48 (F := Ideal) (m ((c.tc : Thread nD τ).loc main_arg0))
      ∧ r.2.mem ((c.tc : Thread nD τ).loc main_v0_5) = val_main_v49 (F := Ideal) (m ((c.tc : Thread nD τ).loc main_arg0))
      ∧ r.2.mem ((c.tc : Thread nD τ).loc main_arg0) = m ((c.tc : Thread nD τ).loc main_arg0)) :=
  (θ_run defs _ _).mono (fun r h c =>
    ⟨(packed_eq m h.1 c).trans (packed_val m c (hpre c)), (scales_eq m h.1 c).trans (scales_val m c), (zeros_eq m h.1 c).trans (zeros_val m c),
      (late_eq m h.1 c).1.trans (codes_val m c), (late_eq m h.1 c).2.1.trans (s2_val m c), (late_eq m h.1 c).2.2.trans (mean_val m c),
      Pipeline.RDat.FramePost.arr_in h.1 c 0 rfl⟩) (run_value m ρ)

end Cert.Proof.KernelIdeal

end
-- ==== Proof.lean ====
module

public import proofs.«01_k».proof.Defs
public import proofs.«01_k».proof.Proof.KernelFrame
public import proofs.«01_k».proof.Proof.KernelIdealFrame
public import proofs.«01_k».proof.Proof.AlgV
public import proofs.«01_k».proof.Proof.Gen.ReferenceIdeal
public import proofs.«01_k».proof.Proof.Gen.ReferenceIdeal.Run
public import proofs.«01_k».proof.Proof.Gen.ReferenceIdeal.Read
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

/-- The reference's run leaves its argument as it was, and the program declares no semaphore. -/
theorem frame_ri : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2.2, Idealize.ShloMosaic.sem_eq_zero_of_no_sems (by decide) r.2⟩)
    (Cert.ReferenceIdeal.Value.run (F := Ideal) m ρ)

/-- The kernel's six results are the reference's, over the extended reals, where no block's elements are larger than 512 of its spreads. -/
theorem algebraic : Cert.algebraic_KernelIdeal_ReferenceIdeal_pre_spread_covers (hKernelIdeal := Cert.KernelIdeal.Gen.facts)
    (hReferenceIdeal := Cert.ReferenceIdeal.Gen.facts) (hPre_spread_covers := Cert.Proof.PackV.pre_facts) := by
  intro m ρ m' ρ' hpre hagree
  refine ⟨_, _, _, _, _, _, Cert.Proof.KernelIdeal.results m ρ hpre, (θ_run (Cert.ReferenceIdeal.defs (F := Ideal)) _ _).mono (fun r h c => ?_)
    (Cert.ReferenceIdeal.Value.run (F := Ideal) m' ρ')⟩
  obtain ⟨h0, h1, h2, h3, h4, h5, h6⟩ := h c
  rw [← hagree c]
  exact ⟨h0.trans (Cert.ReferenceIdeal.Read.val_main_v29_eq m' c), h1.trans (Cert.ReferenceIdeal.Read.val_main_v9_eq _),
    h2.trans (Cert.ReferenceIdeal.Read.val_main_v31_eq _), h3.trans (Cert.ReferenceIdeal.Read.val_main_v47_eq m' c),
    h4.trans (Cert.ReferenceIdeal.Read.val_main_v48_eq _), h5.trans (Cert.ReferenceIdeal.Read.val_main_v49_eq _), h6⟩

/-- The certificate's claims: the frames, the idealization's rewrites and the results' equality. A frame proved of every initial memory
    holds of those the precondition admits. -/
theorem claim : Cert.Claim := ⟨Cert.Kernel.Gen.facts, Cert.KernelIdeal.Gen.facts, Cert.ReferenceIdeal.Gen.facts, Cert.Proof.PackV.pre_facts,
  fun m ρ _ => Cert.Proof.Kernel.quiescent (F := Bits) m ρ,
  fun m ρ _ => Cert.Proof.KernelIdeal.quiescent (F := Ideal) m ρ,
  fun m ρ _ => Cert.Proof.KernelIdeal.quiescent (F := Ideal) m ρ,
  frame_ri,
  fun m ρ _ => frame_ri m ρ trivial,
  ⟨IdealRules.bf16_pair.bufferStatement _ _, IdealRules.bf16_pair.packStatement _, IdealRules.bf16_pair.statement _ _, IdealRules.bf16_pair.statement _ _⟩,
  algebraic⟩

end Cert.Proof

end
